-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S4x1024x1024 : Shape := ⟨3, ![4, 1024, 1024]⟩
abbrev S3x1024x1024 : Shape := ⟨3, ![3, 1024, 1024]⟩
abbrev S2x256x1024 : Shape := ⟨3, ![2, 256, 1024]⟩
abbrev S4x256x1024 : Shape := ⟨3, ![4, 256, 1024]⟩
abbrev S24 : Shape := ⟨1, ![24]⟩
abbrev S2 : Shape := ⟨1, ![2]⟩
abbrev S_ : Shape := ⟨0, ![]⟩
abbrev S4 : Shape := ⟨1, ![4]⟩
abbrev S1 : Shape := ⟨1, ![1]⟩
abbrev S1x256x1024 : Shape := ⟨3, ![1, 256, 1024]⟩
abbrev S256x1024 : Shape := ⟨2, ![256, 1024]⟩
abbrev S256x2048 : Shape := ⟨2, ![256, 2048]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S4x1024x1024, .bf16⟩
  | .local _ .vmem, ⟨1, _⟩ => ⟨S4x1024x1024, .bf16⟩
  | .local _ .vmem, ⟨2, _⟩ => ⟨S3x1024x1024, .bf16⟩
  | .local _ .vmem, ⟨3, _⟩ => ⟨S3x1024x1024, .bf16⟩
  | .local _ .vmem, ⟨4, _⟩ => ⟨S2x256x1024, .f32⟩
  | .local _ .vmem, ⟨5, _⟩ => ⟨S2x256x1024, .f32⟩
  | .local _ .vmem, ⟨6, _⟩ => ⟨S1024x2048, .bf16⟩
  | .local _ .vmem, ⟨7, _⟩ => ⟨S1024x2048, .f32⟩
  | .local _ .vmem, ⟨8, _⟩ => ⟨S4x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  (ofTc nBuf bufTy 3 105 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 2

abbrev nD : Nat := 4
abbrev τ : Topo := Topo.v7x

variable {F : FTy → Type} [FloatOps F]

abbrev grid0 : Pipeline.Grid := .none

def k0_off1 (d0 : Dev nD) (c0_i32 : BitVec 32) (c0_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c4_i32_5 : BitVec 32 := 4#32
  let v9 : BitVec 32 := Scalar.remsi v8 c4_i32_5
  let c1024_i32 : BitVec 32 := 1024#32
  let v10 : BitVec 32 := Scalar.muli v9 c1024_i32
  let v11 : BitVec 32 := Scalar.addi v10 c0_i32_6
  let c0_i32_11 : BitVec 32 := 0#32
  ![v11.toNat, 0]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_35 : BitVec 32 := 1#32
  let v45 : BitVec 32 := Scalar.muli v5 c1_i32_35
  let v46 : BitVec 32 := Scalar.addi c0_i32_36 v45
  v46.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v47 : BitVec 32 := Scalar.muli v7 c1_i32_38
  let v48 : BitVec 32 := Scalar.addi c0_i32_39 v47
  v48.toNat
def k0_off2 (d0 : Dev nD) (c0_i32_44 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c0_i32_44
  let c4_i32_45 : BitVec 32 := 4#32
  let v55 : BitVec 32 := Scalar.remsi v54 c4_i32_45
  let v77 : Index := Scalar.indexCast v55
  let c0_65 : Index := 0#32
  let c0_66 : Index := 0#32
  ![v77.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_76 : BitVec 32 := 0#32
  let c0_i32_77 : BitVec 32 := 0#32
  ![v2.toNat, 0, 0]
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_72 : BitVec 32 := 1#32
  let v87 : BitVec 32 := Scalar.muli v7 c1_i32_72
  let v88 : BitVec 32 := Scalar.addi c0_i32_73 v87
  v88.toNat
def k0_dev4 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_81 : BitVec 32 := 1#32
  let v97 : BitVec 32 := Scalar.muli v5 c1_i32_81
  let v98 : BitVec 32 := Scalar.addi c0_i32_82 v97
  v98.toNat
def k0_off4 (d0 : Dev nD) (c0_i32_87 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c0_i32_87
  let c4_i32_88 : BitVec 32 := 4#32
  let v108 : BitVec 32 := Scalar.remsi v107 c4_i32_88
  let v130 : Index := Scalar.indexCast v108
  let c256 : Index := 256#32
  let c0_108 : Index := 0#32
  ![v130.toNat, 256, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_118 : BitVec 32 := 256#32
  let c0_i32_119 : BitVec 32 := 0#32
  ![v2.toNat, 256, 0]
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_114 : BitVec 32 := 1#32
  let v140 : BitVec 32 := Scalar.muli v7 c1_i32_114
  let v141 : BitVec 32 := Scalar.addi c0_i32_115 v140
  v141.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_123 : BitVec 32 := 1#32
  let v150 : BitVec 32 := Scalar.muli v5 c1_i32_123
  let v151 : BitVec 32 := Scalar.addi c0_i32_124 v150
  v151.toNat
def k0_off6 (d0 : Dev nD) (c0_i32_129 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v160 : BitVec 32 := Scalar.addi v2 c0_i32_129
  let c4_i32_130 : BitVec 32 := 4#32
  let v161 : BitVec 32 := Scalar.remsi v160 c4_i32_130
  let v183 : Index := Scalar.indexCast v161
  let c512 : Index := 512#32
  let c0_150 : Index := 0#32
  ![v183.toNat, 512, 0]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_160 : BitVec 32 := 512#32
  let c0_i32_161 : BitVec 32 := 0#32
  ![v2.toNat, 512, 0]
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_156 : BitVec 32 := 1#32
  let v193 : BitVec 32 := Scalar.muli v7 c1_i32_156
  let v194 : BitVec 32 := Scalar.addi c0_i32_157 v193
  v194.toNat
def k0_dev8 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_165 : BitVec 32 := 1#32
  let v203 : BitVec 32 := Scalar.muli v5 c1_i32_165
  let v204 : BitVec 32 := Scalar.addi c0_i32_166 v203
  v204.toNat
def k0_off8 (d0 : Dev nD) (c0_i32_171 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v213 : BitVec 32 := Scalar.addi v2 c0_i32_171
  let c4_i32_172 : BitVec 32 := 4#32
  let v214 : BitVec 32 := Scalar.remsi v213 c4_i32_172
  let v236 : Index := Scalar.indexCast v214
  let c768 : Index := 768#32
  let c0_192 : Index := 0#32
  ![v236.toNat, 768, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_202 : BitVec 32 := 768#32
  let c0_i32_203 : BitVec 32 := 0#32
  ![v2.toNat, 768, 0]
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_198 : BitVec 32 := 1#32
  let v246 : BitVec 32 := Scalar.muli v7 c1_i32_198
  let v247 : BitVec 32 := Scalar.addi c0_i32_199 v246
  v247.toNat
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_207 : BitVec 32 := 1#32
  let v256 : BitVec 32 := Scalar.muli v5 c1_i32_207
  let v257 : BitVec 32 := Scalar.addi c0_i32_208 v256
  v257.toNat
def k0_off10 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let v641 : Index := Scalar.indexCast v629
  let c0_505 : Index := 0#32
  let c0_506 : Index := 0#32
  ![v641.toNat, 0, 0]
def k0_off11 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let c0_i32_519 : BitVec 32 := 0#32
  let c0_i32_520 : BitVec 32 := 0#32
  ![v629.toNat, 0, 0]
def k0_dev11 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_515 : BitVec 32 := 1#32
  let v651 : BitVec 32 := Scalar.muli v7 c1_i32_515
  let v652 : BitVec 32 := Scalar.addi c0_i32_516 v651
  v652.toNat
def k0_off12 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let v669 : Index := Scalar.indexCast v632
  let c0_530 : Index := 0#32
  let c0_531 : Index := 0#32
  ![v669.toNat, 0, 0]
def k0_off13 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let c0_i32_544 : BitVec 32 := 0#32
  let c0_i32_545 : BitVec 32 := 0#32
  ![v632.toNat, 0, 0]
def k0_dev12 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_540 : BitVec 32 := 1#32
  let v679 : BitVec 32 := Scalar.muli v5 c1_i32_540
  let v680 : BitVec 32 := Scalar.addi c0_i32_541 v679
  v680.toNat
def k0_off14 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let v697 : Index := Scalar.indexCast v629
  let c256_555 : Index := 256#32
  let c0_556 : Index := 0#32
  ![v697.toNat, 256, 0]
def k0_off15 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let c256_i32_568 : BitVec 32 := 256#32
  let c0_i32_569 : BitVec 32 := 0#32
  ![v629.toNat, 256, 0]
def k0_dev13 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_564 : BitVec 32 := 1#32
  let v707 : BitVec 32 := Scalar.muli v7 c1_i32_564
  let v708 : BitVec 32 := Scalar.addi c0_i32_565 v707
  v708.toNat
def k0_off16 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let v725 : Index := Scalar.indexCast v632
  let c256_579 : Index := 256#32
  let c0_580 : Index := 0#32
  ![v725.toNat, 256, 0]
def k0_off17 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let c256_i32_593 : BitVec 32 := 256#32
  let c0_i32_594 : BitVec 32 := 0#32
  ![v632.toNat, 256, 0]
def k0_dev14 (d0 : Dev nD) : Nat :=
  let c0_i32_590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_589 : BitVec 32 := 1#32
  let v735 : BitVec 32 := Scalar.muli v5 c1_i32_589
  let v736 : BitVec 32 := Scalar.addi c0_i32_590 v735
  v736.toNat
def k0_off18 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let v753 : Index := Scalar.indexCast v629
  let c512_604 : Index := 512#32
  let c0_605 : Index := 0#32
  ![v753.toNat, 512, 0]
def k0_off19 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let c512_i32_617 : BitVec 32 := 512#32
  let c0_i32_618 : BitVec 32 := 0#32
  ![v629.toNat, 512, 0]
def k0_dev15 (d0 : Dev nD) : Nat :=
  let c0_i32_614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_613 : BitVec 32 := 1#32
  let v763 : BitVec 32 := Scalar.muli v7 c1_i32_613
  let v764 : BitVec 32 := Scalar.addi c0_i32_614 v763
  v764.toNat
def k0_off20 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let v781 : Index := Scalar.indexCast v632
  let c512_628 : Index := 512#32
  let c0_629 : Index := 0#32
  ![v781.toNat, 512, 0]
def k0_off21 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let c512_i32_642 : BitVec 32 := 512#32
  let c0_i32_643 : BitVec 32 := 0#32
  ![v632.toNat, 512, 0]
def k0_dev16 (d0 : Dev nD) : Nat :=
  let c0_i32_639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_638 : BitVec 32 := 1#32
  let v791 : BitVec 32 := Scalar.muli v5 c1_i32_638
  let v792 : BitVec 32 := Scalar.addi c0_i32_639 v791
  v792.toNat
def k0_off22 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let v809 : Index := Scalar.indexCast v629
  let c768_653 : Index := 768#32
  let c0_654 : Index := 0#32
  ![v809.toNat, 768, 0]
def k0_off23 (d0 : Dev nD) (c0_i32_489 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v626 : BitVec 32 := Scalar.subi v2 c0_i32_489
  let c1_i32_490 : BitVec 32 := 1#32
  let v627 : BitVec 32 := Scalar.subi v626 c1_i32_490
  let c4_i32_491 : BitVec 32 := 4#32
  let v628 : BitVec 32 := Scalar.addi v627 c4_i32_491
  let c4_i32_492 : BitVec 32 := 4#32
  let v629 : BitVec 32 := Scalar.remsi v628 c4_i32_492
  let c768_i32_666 : BitVec 32 := 768#32
  let c0_i32_667 : BitVec 32 := 0#32
  ![v629.toNat, 768, 0]
def k0_dev17 (d0 : Dev nD) : Nat :=
  let c0_i32_663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_662 : BitVec 32 := 1#32
  let v819 : BitVec 32 := Scalar.muli v7 c1_i32_662
  let v820 : BitVec 32 := Scalar.addi c0_i32_663 v819
  v820.toNat
def k0_off24 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let v837 : Index := Scalar.indexCast v632
  let c768_677 : Index := 768#32
  let c0_678 : Index := 0#32
  ![v837.toNat, 768, 0]
def k0_off25 (d0 : Dev nD) (c0_i32_493 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v630 : BitVec 32 := Scalar.addi v2 c0_i32_493
  let c1_i32_494 : BitVec 32 := 1#32
  let v631 : BitVec 32 := Scalar.addi v630 c1_i32_494
  let c4_i32_495 : BitVec 32 := 4#32
  let v632 : BitVec 32 := Scalar.remsi v631 c4_i32_495
  let c768_i32_691 : BitVec 32 := 768#32
  let c0_i32_692 : BitVec 32 := 0#32
  ![v632.toNat, 768, 0]
def k0_dev18 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_687 : BitVec 32 := 1#32
  let v847 : BitVec 32 := Scalar.muli v5 c1_i32_687
  let v848 : BitVec 32 := Scalar.addi c0_i32_688 v847
  v848.toNat
def k0_dev19 (d0 : Dev nD) : Nat :=
  let c0_i32_695 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_694 : BitVec 32 := 1#32
  let v857 : BitVec 32 := Scalar.muli v5 c1_i32_694
  let v858 : BitVec 32 := Scalar.addi c0_i32_695 v857
  v858.toNat
def k0_dev20 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_697 : BitVec 32 := 1#32
  let v859 : BitVec 32 := Scalar.muli v7 c1_i32_697
  let v860 : BitVec 32 := Scalar.addi c0_i32_698 v859
  v860.toNat
def k0_dev21 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_724 : BitVec 32 := 1#32
  let v886 : BitVec 32 := Scalar.muli v7 c1_i32_724
  let v887 : BitVec 32 := Scalar.addi c0_i32_725 v886
  v887.toNat
def k0_dev22 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_749 : BitVec 32 := 1#32
  let v914 : BitVec 32 := Scalar.muli v5 c1_i32_749
  let v915 : BitVec 32 := Scalar.addi c0_i32_750 v914
  v915.toNat
def k0_dev23 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_773 : BitVec 32 := 1#32
  let v942 : BitVec 32 := Scalar.muli v7 c1_i32_773
  let v943 : BitVec 32 := Scalar.addi c0_i32_774 v942
  v943.toNat
def k0_dev24 (d0 : Dev nD) : Nat :=
  let c0_i32_799 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_798 : BitVec 32 := 1#32
  let v970 : BitVec 32 := Scalar.muli v5 c1_i32_798
  let v971 : BitVec 32 := Scalar.addi c0_i32_799 v970
  v971.toNat
def k0_dev25 (d0 : Dev nD) : Nat :=
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_822 : BitVec 32 := 1#32
  let v998 : BitVec 32 := Scalar.muli v7 c1_i32_822
  let v999 : BitVec 32 := Scalar.addi c0_i32_823 v998
  v999.toNat
def k0_dev26 (d0 : Dev nD) : Nat :=
  let c0_i32_848 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_847 : BitVec 32 := 1#32
  let v1026 : BitVec 32 := Scalar.muli v5 c1_i32_847
  let v1027 : BitVec 32 := Scalar.addi c0_i32_848 v1026
  v1027.toNat
def k0_dev27 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_871 : BitVec 32 := 1#32
  let v1054 : BitVec 32 := Scalar.muli v7 c1_i32_871
  let v1055 : BitVec 32 := Scalar.addi c0_i32_872 v1054
  v1055.toNat
def k0_dev28 (d0 : Dev nD) : Nat :=
  let c0_i32_897 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_896 : BitVec 32 := 1#32
  let v1082 : BitVec 32 := Scalar.muli v5 c1_i32_896
  let v1083 : BitVec 32 := Scalar.addi c0_i32_897 v1082
  v1083.toNat
def k0_dev29 (d0 : Dev nD) : Nat :=
  let c0_i32_904 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_903 : BitVec 32 := 1#32
  let v1092 : BitVec 32 := Scalar.muli v5 c1_i32_903
  let v1093 : BitVec 32 := Scalar.addi c0_i32_904 v1092
  v1093.toNat
def k0_dev30 (d0 : Dev nD) : Nat :=
  let c0_i32_907 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_906 : BitVec 32 := 1#32
  let v1094 : BitVec 32 := Scalar.muli v7 c1_i32_906
  let v1095 : BitVec 32 := Scalar.addi c0_i32_907 v1094
  v1095.toNat
def k0_off26 (d0 : Dev nD) (c1_i32_908 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1096 : BitVec 32 := Scalar.addi v2 c1_i32_908
  let c4_i32_909 : BitVec 32 := 4#32
  let v1097 : BitVec 32 := Scalar.remsi v1096 c4_i32_909
  let c0_i32_942 : BitVec 32 := 0#32
  let c0_i32_943 : BitVec 32 := 0#32
  ![v1097.toNat, 0, 0]
def k0_dev31 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_938 : BitVec 32 := 1#32
  let v1134 : BitVec 32 := Scalar.muli v7 c1_i32_938
  let v1135 : BitVec 32 := Scalar.addi c0_i32_939 v1134
  v1135.toNat
def k0_dev32 (d0 : Dev nD) : Nat :=
  let c0_i32_968 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_967 : BitVec 32 := 1#32
  let v1178 : BitVec 32 := Scalar.muli v5 c1_i32_967
  let v1179 : BitVec 32 := Scalar.addi c0_i32_968 v1178
  v1179.toNat
def k0_off27 (d0 : Dev nD) (c1_i32_908 : BitVec 32) (c0_i32_977 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1096 : BitVec 32 := Scalar.addi v2 c1_i32_908
  let c4_i32_909 : BitVec 32 := 4#32
  let v1097 : BitVec 32 := Scalar.remsi v1096 c4_i32_909
  let c1024_i32_976 : BitVec 32 := 1024#32
  let v1191 : BitVec 32 := Scalar.muli v1097 c1024_i32_976
  let v1192 : BitVec 32 := Scalar.addi v1191 c0_i32_977
  let c0_i32_980 : BitVec 32 := 0#32
  ![v1192.toNat, 0]
def k0_off28 (d0 : Dev nD) (c3_i32_910 : BitVec 32) (c0_i32_987 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1098 : BitVec 32 := Scalar.addi v2 c3_i32_910
  let c4_i32_911 : BitVec 32 := 4#32
  let v1099 : BitVec 32 := Scalar.remsi v1098 c4_i32_911
  let c1024_i32_986 : BitVec 32 := 1024#32
  let v1201 : BitVec 32 := Scalar.muli v1099 c1024_i32_986
  let v1202 : BitVec 32 := Scalar.addi v1201 c0_i32_987
  let c1024_i32_990 : BitVec 32 := 1024#32
  ![v1202.toNat, 1024]
def k0_off29 (d0 : Dev nD) (c1_i32_908 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1096 : BitVec 32 := Scalar.addi v2 c1_i32_908
  let c4_i32_909 : BitVec 32 := 4#32
  let v1097 : BitVec 32 := Scalar.remsi v1096 c4_i32_909
  let c256_i32_1019 : BitVec 32 := 256#32
  let c0_i32_1020 : BitVec 32 := 0#32
  ![v1097.toNat, 256, 0]
def k0_dev33 (d0 : Dev nD) : Nat :=
  let c0_i32_1016 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1015 : BitVec 32 := 1#32
  let v1242 : BitVec 32 := Scalar.muli v7 c1_i32_1015
  let v1243 : BitVec 32 := Scalar.addi c0_i32_1016 v1242
  v1243.toNat
def k0_dev34 (d0 : Dev nD) : Nat :=
  let c0_i32_1045 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1044 : BitVec 32 := 1#32
  let v1286 : BitVec 32 := Scalar.muli v5 c1_i32_1044
  let v1287 : BitVec 32 := Scalar.addi c0_i32_1045 v1286
  v1287.toNat
def k0_off30 (d0 : Dev nD) (c1_i32_908 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1096 : BitVec 32 := Scalar.addi v2 c1_i32_908
  let c4_i32_909 : BitVec 32 := 4#32
  let v1097 : BitVec 32 := Scalar.remsi v1096 c4_i32_909
  let c512_i32_1096 : BitVec 32 := 512#32
  let c0_i32_1097 : BitVec 32 := 0#32
  ![v1097.toNat, 512, 0]
def k0_dev35 (d0 : Dev nD) : Nat :=
  let c0_i32_1093 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1092 : BitVec 32 := 1#32
  let v1350 : BitVec 32 := Scalar.muli v7 c1_i32_1092
  let v1351 : BitVec 32 := Scalar.addi c0_i32_1093 v1350
  v1351.toNat
def k0_dev36 (d0 : Dev nD) : Nat :=
  let c0_i32_1122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1121 : BitVec 32 := 1#32
  let v1394 : BitVec 32 := Scalar.muli v5 c1_i32_1121
  let v1395 : BitVec 32 := Scalar.addi c0_i32_1122 v1394
  v1395.toNat
def k0_off31 (d0 : Dev nD) (c1_i32_908 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1096 : BitVec 32 := Scalar.addi v2 c1_i32_908
  let c4_i32_909 : BitVec 32 := 4#32
  let v1097 : BitVec 32 := Scalar.remsi v1096 c4_i32_909
  let c768_i32_1183 : BitVec 32 := 768#32
  let c0_i32_1184 : BitVec 32 := 0#32
  ![v1097.toNat, 768, 0]
def k0_dev37 (d0 : Dev nD) : Nat :=
  let c0_i32_1180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1179 : BitVec 32 := 1#32
  let v1468 : BitVec 32 := Scalar.muli v7 c1_i32_1179
  let v1469 : BitVec 32 := Scalar.addi c0_i32_1180 v1468
  v1469.toNat
def k0_dev38 (d0 : Dev nD) : Nat :=
  let c0_i32_1209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1208 : BitVec 32 := 1#32
  let v1512 : BitVec 32 := Scalar.muli v5 c1_i32_1208
  let v1513 : BitVec 32 := Scalar.addi c0_i32_1209 v1512
  v1513.toNat
def k0_dev39 (d0 : Dev nD) : Nat :=
  let c0_i32_1246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1245 : BitVec 32 := 1#32
  let v1552 : BitVec 32 := Scalar.muli v5 c1_i32_1245
  let v1553 : BitVec 32 := Scalar.addi c0_i32_1246 v1552
  v1553.toNat
def k0_dev40 (d0 : Dev nD) : Nat :=
  let c0_i32_1249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1248 : BitVec 32 := 1#32
  let v1554 : BitVec 32 := Scalar.muli v7 c1_i32_1248
  let v1555 : BitVec 32 := Scalar.addi c0_i32_1249 v1554
  v1555.toNat
def k0_dev41 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1273 : BitVec 32 := 1#32
  let v1571 : BitVec 32 := Scalar.muli v7 c1_i32_1273
  let v1572 : BitVec 32 := Scalar.addi c0_i32_1274 v1571
  v1572.toNat
def k0_dev42 (d0 : Dev nD) : Nat :=
  let c0_i32_1293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1292 : BitVec 32 := 1#32
  let v1589 : BitVec 32 := Scalar.muli v5 c1_i32_1292
  let v1590 : BitVec 32 := Scalar.addi c0_i32_1293 v1589
  v1590.toNat
def k0_off32 (d0 : Dev nD) (c1_i32_1250 : BitVec 32) (c0_i32_1310 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1556 : BitVec 32 := Scalar.subi v2 c1_i32_1250
  let c1_i32_1251 : BitVec 32 := 1#32
  let v1557 : BitVec 32 := Scalar.addi v1556 c1_i32_1251
  let c4_i32_1252 : BitVec 32 := 4#32
  let v1558 : BitVec 32 := Scalar.addi v1557 c4_i32_1252
  let c4_i32_1253 : BitVec 32 := 4#32
  let v1559 : BitVec 32 := Scalar.remsi v1558 c4_i32_1253
  let c1024_i32_1309 : BitVec 32 := 1024#32
  let v1610 : BitVec 32 := Scalar.muli v1559 c1024_i32_1309
  let v1611 : BitVec 32 := Scalar.addi v1610 c0_i32_1310
  let c0_i32_1313 : BitVec 32 := 0#32
  ![v1611.toNat, 0]
def k0_off33 (d0 : Dev nD) (c1_i32_1254 : BitVec 32) (c0_i32_1328 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1560 : BitVec 32 := Scalar.addi v2 c1_i32_1254
  let c1_i32_1255 : BitVec 32 := 1#32
  let v1561 : BitVec 32 := Scalar.subi v1560 c1_i32_1255
  let c4_i32_1256 : BitVec 32 := 4#32
  let v1562 : BitVec 32 := Scalar.remsi v1561 c4_i32_1256
  let c1024_i32_1327 : BitVec 32 := 1024#32
  let v1628 : BitVec 32 := Scalar.muli v1562 c1024_i32_1327
  let v1629 : BitVec 32 := Scalar.addi v1628 c0_i32_1328
  let c1024_i32_1331 : BitVec 32 := 1024#32
  ![v1629.toNat, 1024]
def k0_dev43 (d0 : Dev nD) : Nat :=
  let c0_i32_1347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1346 : BitVec 32 := 1#32
  let v1643 : BitVec 32 := Scalar.muli v7 c1_i32_1346
  let v1644 : BitVec 32 := Scalar.addi c0_i32_1347 v1643
  v1644.toNat
def k0_dev44 (d0 : Dev nD) : Nat :=
  let c0_i32_1366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1365 : BitVec 32 := 1#32
  let v1661 : BitVec 32 := Scalar.muli v5 c1_i32_1365
  let v1662 : BitVec 32 := Scalar.addi c0_i32_1366 v1661
  v1662.toNat
def k0_dev45 (d0 : Dev nD) : Nat :=
  let c0_i32_1420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1419 : BitVec 32 := 1#32
  let v1715 : BitVec 32 := Scalar.muli v7 c1_i32_1419
  let v1716 : BitVec 32 := Scalar.addi c0_i32_1420 v1715
  v1716.toNat
def k0_dev46 (d0 : Dev nD) : Nat :=
  let c0_i32_1439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1438 : BitVec 32 := 1#32
  let v1733 : BitVec 32 := Scalar.muli v5 c1_i32_1438
  let v1734 : BitVec 32 := Scalar.addi c0_i32_1439 v1733
  v1734.toNat
def k0_dev47 (d0 : Dev nD) : Nat :=
  let c0_i32_1493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1492 : BitVec 32 := 1#32
  let v1787 : BitVec 32 := Scalar.muli v7 c1_i32_1492
  let v1788 : BitVec 32 := Scalar.addi c0_i32_1493 v1787
  v1788.toNat
def k0_dev48 (d0 : Dev nD) : Nat :=
  let c0_i32_1512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1511 : BitVec 32 := 1#32
  let v1805 : BitVec 32 := Scalar.muli v5 c1_i32_1511
  let v1806 : BitVec 32 := Scalar.addi c0_i32_1512 v1805
  v1806.toNat
def k0_dev49 (d0 : Dev nD) : Nat :=
  let c0_i32_1578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1577 : BitVec 32 := 1#32
  let v1866 : BitVec 32 := Scalar.muli v7 c1_i32_1577
  let v1867 : BitVec 32 := Scalar.addi c0_i32_1578 v1866
  v1867.toNat
def k0_dev50 (d0 : Dev nD) : Nat :=
  let c0_i32_1598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1597 : BitVec 32 := 1#32
  let v1884 : BitVec 32 := Scalar.muli v5 c1_i32_1597
  let v1885 : BitVec 32 := Scalar.addi c0_i32_1598 v1884
  v1885.toNat
def k0_dev51 (d0 : Dev nD) : Nat :=
  let c0_i32_1653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1652 : BitVec 32 := 1#32
  let v1938 : BitVec 32 := Scalar.muli v7 c1_i32_1652
  let v1939 : BitVec 32 := Scalar.addi c0_i32_1653 v1938
  v1939.toNat
def k0_dev52 (d0 : Dev nD) : Nat :=
  let c0_i32_1673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1672 : BitVec 32 := 1#32
  let v1956 : BitVec 32 := Scalar.muli v5 c1_i32_1672
  let v1957 : BitVec 32 := Scalar.addi c0_i32_1673 v1956
  v1957.toNat
def k0_dev53 (d0 : Dev nD) : Nat :=
  let c0_i32_1728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1727 : BitVec 32 := 1#32
  let v2010 : BitVec 32 := Scalar.muli v7 c1_i32_1727
  let v2011 : BitVec 32 := Scalar.addi c0_i32_1728 v2010
  v2011.toNat
def k0_dev54 (d0 : Dev nD) : Nat :=
  let c0_i32_1748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1747 : BitVec 32 := 1#32
  let v2028 : BitVec 32 := Scalar.muli v5 c1_i32_1747
  let v2029 : BitVec 32 := Scalar.addi c0_i32_1748 v2028
  v2029.toNat
def k0_dev55 (d0 : Dev nD) : Nat :=
  let c0_i32_1803 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1802 : BitVec 32 := 1#32
  let v2082 : BitVec 32 := Scalar.muli v7 c1_i32_1802
  let v2083 : BitVec 32 := Scalar.addi c0_i32_1803 v2082
  v2083.toNat
def k0_dev56 (d0 : Dev nD) : Nat :=
  let c0_i32_1823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1822 : BitVec 32 := 1#32
  let v2100 : BitVec 32 := Scalar.muli v5 c1_i32_1822
  let v2101 : BitVec 32 := Scalar.addi c0_i32_1823 v2100
  v2101.toNat
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
# The kernel's body, written once over a table of offsets

The printed body is some 540 memory operations in a straight line. It is the same few steps again and again: start a
copy of a block of rows, multiply it, send a tile, add a received tile, apply the activation, write a tile out. Here
each step is a small program with a continuation, the whole body is their composition over a table of the offsets and
devices the printed text uses (`Tab`), and `body_eq` says that the printed body is that composition. `tab_eq` replaces
the printed table by the one in closed form (`ctab`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## Buffers, tiles and semaphores -/

/-- The two product buffers, the two slot buffers and the two staging buffers: `false` for the ring that sends to the
    right, `true` for the one that sends to the left. -/
abbrev pbM : Bool → Memref sig .tc .vmem S4x1024x1024 .bf16
  | false => Memref.whole cc0_scratch0 | true => Memref.whole cc0_scratch1
abbrev slM : Bool → Memref sig .tc .vmem S3x1024x1024 .bf16
  | false => Memref.whole cc0_scratch2 | true => Memref.whole cc0_scratch3
abbrev stM : Bool → Memref sig .tc .vmem S2x256x1024 .f32
  | false => Memref.whole cc0_scratch4 | true => Memref.whole cc0_scratch5
abbrev wbM : Memref sig .tc .vmem S1024x2048 .bf16 := Memref.whole cc0_scratch6
abbrev wsM : Memref sig .tc .vmem S1024x2048 .f32 := Memref.whole cc0_scratch7
abbrev xsM : Memref sig .tc .vmem S4x256x1024 .f32 := Memref.whole cc0_scratch8
abbrev xM : Memref sig .tc .hbm S4096x1024 .f32 := Memref.whole main_arg0
abbrev wM : Memref sig .tc .hbm S1024x2048 .f32 := Memref.whole main_arg1
abbrev oM : Memref sig .tc .hbm S4096x2048 .f32 := Memref.whole main_v1

theorem pbM_whole (R : Bool) : (pbM R).IsWhole := by cases R <;> exact Memref.isWhole_whole _
theorem slM_whole (R : Bool) : (slM R).IsWhole := by cases R <;> exact Memref.isWhole_whole _

/-- The shapes of a buffer of `n` chunks, and of one of `n` staging tiles. -/
abbrev SB (n : ℕ) : Shape := ⟨3, ![n, 1024, 1024]⟩
abbrev SS (n : ℕ) : Shape := ⟨3, ![n, 256, 1024]⟩

/-- Row block `h` of chunk `a`. -/
abbrev toff {n : ℕ} (a : Fin n) (h : Fin 4) : Fin 3 → ℕ := ![a.val, 256 * h.val, 0]

/-- `o` is the offset of one 256-row tile of a buffer of `n` chunks. -/
def IsT (n : ℕ) (o : Fin 3 → ℕ) : Prop := ∃ (a : Fin n) (h : Fin 4), o = toff a h

theorem isT {n : ℕ} (a : Fin n) (h : Fin 4) : IsT n (toff a h) := ⟨a, h, rfl⟩

theorem IsT.inb {n : ℕ} {o : Fin 3 → ℕ} (ho : IsT n o) : ∀ a, o a + S1x256x1024.size a ≤ (SB n).size a := by
  obtain ⟨a, h, rfl⟩ := ho
  intro i
  have := a.isLt; have := h.isLt
  fin_cases i
  · show a.val + 1 ≤ n; omega
  · show 256 * h.val + 256 ≤ 1024; omega
  · show 0 + 1024 ≤ 1024; omega

/-- The rectangle of one tile. -/
abbrev tR {n : ℕ} (o : Fin 3 → ℕ) (ho : IsT n o) : Rect (SB n) := Rect.unit (s := SB n) o S1x256x1024.size ho.inb

theorem tR_packed {n : ℕ} (o : Fin 3 → ℕ) (ho : IsT n o) : (tR o ho).PackedRows (EltTy.packing .bf16) := by
  obtain ⟨a, h, rfl⟩ := ho
  refine .inr ⟨by show 2 ≤ 3; omega, rfl, .inl ⟨?_, ?_⟩⟩
  · show 2 ∣ 256 * h.val; omega
  · show 2 ∣ 256; omega

abbrev tile {n : ℕ} (M : Memref sig .tc .vmem (SB n) .bf16) (o : Fin 3 → ℕ) (ho : IsT n o) :
    Memref sig .tc .vmem S256x1024 .bf16 :=
  (M.slice (tR o ho) (fun _ => rfl)).squeeze S256x1024 squeezes_S1x256x1024_S256x1024

theorem tile_we {n : ℕ} {M : Memref sig .tc .vmem (SB n) .bf16} (hM : M.IsWhole) (o : Fin 3 → ℕ) (ho : IsT n o) :
    (tile M o ho).view.WordExact :=
  (hM.wordExact_slice rfl _ (tR_packed o ho).wholeWords).reshape _ _

theorem sR_inb {n : ℕ} (p : Fin n) : ∀ a, (![p.val, 0, 0] : Fin 3 → ℕ) a + S1x256x1024.size a ≤ (SS n).size a := by
  intro i
  have := p.isLt
  fin_cases i
  · show p.val + 1 ≤ n; omega
  · show 0 + 256 ≤ 256; omega
  · show 0 + 1024 ≤ 1024; omega

/-- Staging tile `p`. -/
abbrev sR {n : ℕ} (p : Fin n) : Rect (SS n) := Rect.unit (s := SS n) ![p.val, 0, 0] S1x256x1024.size (sR_inb p)
abbrev stile {n : ℕ} (M : Memref sig .tc .vmem (SS n) .f32) (p : Fin n) : Memref sig .tc .vmem S256x1024 .f32 :=
  (M.slice (sR p) (fun _ => rfl)).squeeze S256x1024 squeezes_S1x256x1024_S256x1024

/-- Block `b` of 256 rows of the argument, and of half `q` of the result. -/
abbrev xoff (b : Fin 4 × Fin 4) : Fin 2 → ℕ := ![1024 * b.1.val + 256 * b.2.val, 0]
abbrev ooff (R : Bool) (b : Fin 4 × Fin 4) : Fin 2 → ℕ := ![1024 * b.1.val + 256 * b.2.val, cond R 1024 0]
def IsX (o : Fin 2 → ℕ) : Prop := ∃ b, o = xoff b
def IsO (R : Bool) (o : Fin 2 → ℕ) : Prop := ∃ b, o = ooff R b

theorem IsX.inb {o : Fin 2 → ℕ} (ho : IsX o) : ∀ a, o a + S256x1024.size a ≤ S4096x1024.size a := by
  obtain ⟨b, rfl⟩ := ho
  intro i
  have := b.1.isLt; have := b.2.isLt
  fin_cases i
  · show 1024 * b.1.val + 256 * b.2.val + 256 ≤ 4096; omega
  · show 0 + 1024 ≤ 1024; omega

theorem IsO.inb {R : Bool} {o : Fin 2 → ℕ} (ho : IsO R o) : ∀ a, o a + S256x1024.size a ≤ S4096x2048.size a := by
  obtain ⟨b, rfl⟩ := ho
  intro i
  have := b.1.isLt; have := b.2.isLt
  fin_cases i
  · show 1024 * b.1.val + 256 * b.2.val + 256 ≤ 4096; omega
  · cases R
    · show 0 + 1024 ≤ 2048; omega
    · show 1024 + 1024 ≤ 2048; omega

abbrev xT (o : Fin 2 → ℕ) (ho : IsX o) : Memref sig .tc .hbm S256x1024 .f32 :=
  xM.slice (Rect.unit (s := S4096x1024) o S256x1024.size ho.inb) (fun _ => rfl)
abbrev oT {R : Bool} (o : Fin 2 → ℕ) (ho : IsO R o) : Memref sig .tc .hbm S256x1024 .f32 :=
  oM.slice (Rect.unit (s := S4096x2048) o S256x1024.size ho.inb) (fun _ => rfl)

theorem sem_inb {n : ℕ} (j : Fin n) : ∀ a, (![j.val] : Fin 1 → ℕ) a + S1.size a ≤ (⟨1, ![n]⟩ : Shape).size a := by
  intro i
  have := j.isLt
  fin_cases i
  show j.val + 1 ≤ n; omega

/-- Entry `j` of an array of DMA semaphores. -/
abbrev semAt {n : ℕ} (a : DmaSems sig ⟨1, ![n]⟩) (j : Fin n) : DmaSem sig :=
  ((a.slice (Rect.unit (s := ⟨1, ![n]⟩) ![j.val] S1.size (sem_inb j))).squeeze S_ squeezes_S1_S_).sem

abbrev ssA : Bool → DmaSems sig S24 | false => cc0_scratch9 | true => cc0_scratch11
abbrev rsA : Bool → DmaSems sig S24 | false => cc0_scratch10 | true => cc0_scratch12
abbrev csA : Bool → DmaSems sig S2 | false => cc0_scratch13 | true => cc0_scratch14
abbrev wsS : DmaSem sig := cc0_scratch15.sem
abbrev xsA : DmaSems sig S4 := cc0_scratch16
abbrev crS : Bool → Sem sig | false => cc0_scratch17.sem | true => cc0_scratch18.sem
abbrev barS : Sem sig := (SemArray.scalar (sig.barrier 0 rfl) : Sems sig S_).sem

/-- Send number `k` of row block `h`. -/
abbrev kh (k : Fin 6) (h : Fin 4) : Fin 24 := ⟨4 * k.val + h.val, by omega⟩

/-! ## What the body computes -/

def mmV (x : Vec F S1x256x1024 .f32) (w : Vec F S1024x2048 .bf16) : FVec F S256x2048 .f32 :=
  matmul dot_S256x1024_S1024x2048_S256x2048_1_0_0_1_n_n none
    (truncf .bf16 (shapeCast S256x1024 x shapeCasts_S1x256x1024_S256x1024) bitsLt_bf16_f32) w
    (constant S256x2048 .f32 0x00000000#32)
/-- A block of rows times the weights: the left half of the columns, or the right half. -/
def mmP : Bool → Vec F S1x256x1024 .f32 → Vec F S1024x2048 .bf16 → Vec F S1x256x1024 .bf16
  | false, x, w => shapeCast S1x256x1024 (truncf .bf16 (extractStridedSlice S256x1024 ![0, 0] (mmV x w)
      slices_S256x2048_o0_0_S256x1024) bitsLt_bf16_f32) shapeCasts_S256x1024_S1x256x1024
  | true, x, w => shapeCast S1x256x1024 (truncf .bf16 (extractStridedSlice S256x1024 ![0, 1024] (mmV x w)
      slices_S256x2048_o0_1024_S256x1024) bitsLt_bf16_f32) shapeCasts_S256x1024_S1x256x1024
/-- The weights as the matrix unit takes them. -/
def wv (w : Vec F S1024x2048 .f32) : Vec F S1024x2048 .bf16 :=
  shapeCast S1024x2048 (truncf .bf16 w bitsLt_bf16_f32) shapeCasts_S1024x2048_S1024x2048
def addP (a b : Vec F S1x256x1024 .bf16) : Vec F S1x256x1024 .bf16 :=
  shapeCast S1x256x1024 (addf (shapeCast S256x1024 a shapeCasts_S1x256x1024_S256x1024 : FVec F S256x1024 .bf16)
    (shapeCast S256x1024 b shapeCasts_S1x256x1024_S256x1024)) shapeCasts_S256x1024_S1x256x1024
def sumP (a b : Vec F S1x256x1024 .bf16) : FVec F S256x1024 .f32 :=
  addf (extf .f32 (shapeCast S256x1024 a shapeCasts_S1x256x1024_S256x1024 : FVec F S256x1024 .bf16) bitsLt_bf16_f32)
    (extf .f32 (shapeCast S256x1024 b shapeCasts_S1x256x1024_S256x1024 : FVec F S256x1024 .bf16) bitsLt_bf16_f32)
def geluP (y : FVec F S256x1024 .f32) : FVec F S256x1024 .f32 :=
  mulf (mulf (broadcast S256x1024 (Scalar.ofBits .f32 0x3F000000#32 : F .f32)) y)
    (addf (broadcast S256x1024 (Scalar.ofBits .f32 0x3F800000#32 : F .f32))
      (tanh (mulf (broadcast S256x1024 (Scalar.ofBits .f32 0x3F4C422A#32 : F .f32))
        (addf y (mulf (mulf (mulf (broadcast S256x1024 (Scalar.ofBits .f32 0x3D372713#32 : F .f32)) y) y) y)))))
def packP (g : FVec F S256x1024 .f32) : Vec F S1x256x1024 .bf16 :=
  shapeCast S1x256x1024 (truncf .bf16 g bitsLt_bf16_f32) shapeCasts_S256x1024_S1x256x1024
def castP (g : FVec F S256x1024 .f32) : Vec F S1x256x1024 .f32 := shapeCast S1x256x1024 g shapeCasts_S256x1024_S1x256x1024
def extP (v : Vec F S1x256x1024 .bf16) : FVec F S256x1024 .f32 :=
  extf .f32 (shapeCast S256x1024 v shapeCasts_S1x256x1024_S256x1024 : FVec F S256x1024 .bf16) bitsLt_bf16_f32

/-! ## The steps -/

variable (F) in
abbrev Pr := Prog (TpuEff nD τ sig (Elt F) Λ₀ .tc) PUnit

/-- A tile is sent to device `d`. -/
def sendP {n n' : ℕ} {M : Memref sig .tc .vmem (SB n) .bf16} (hM : M.IsWhole) (o : Fin 3 → ℕ) (ho : IsT n o)
    {M' : Memref sig .tc .vmem (SB n') .bf16} (hM' : M'.IsWhole) (o' : Fin 3 → ℕ) (ho' : IsT n' o')
    (d : Dev nD) (s r : DmaSem sig) (k : Pr F) : Pr F :=
  .op (.enqueueDma (tile M o ho) (.remote (Dev.tc d) (tile M' o' ho') (.dma s)) (.dma r) (tile_we hM o ho)
    (tile_we hM' o' ho') ⟨⟨rfl, Or.inl rfl⟩, trivial⟩) fun _ => k

/-- A wait for a tile, at either end of a send. -/
def waitP {n n' : ℕ} {M : Memref sig .tc .vmem (SB n) .bf16} (hM : M.IsWhole) (o : Fin 3 → ℕ) (ho : IsT n o)
    {M' : Memref sig .tc .vmem (SB n') .bf16} (hM' : M'.IsWhole) (o' : Fin 3 → ℕ) (ho' : IsT n' o')
    (s : DmaSem sig) (k : Pr F) : Pr F :=
  .op (.waitDma2 s (tile M o ho) (tile M' o' ho') (tile_we hM o ho) (tile_we hM' o' ho')) fun _ => k

def loadP {n : ℕ} (M : Memref sig .tc .vmem (SB n) .bf16) (o : Fin 3 → ℕ) (ho : IsT n o)
    (k : Vec F S1x256x1024 .bf16 → Pr F) : Pr F :=
  .op (.load M (tR o ho).toLoadRect (View.loadsAt_vmem h_S1x256x1024)) k

def storeP {n : ℕ} {M : Memref sig .tc .vmem (SB n) .bf16} (hM : M.IsWhole) (o : Fin 3 → ℕ) (ho : IsT n o)
    (v : Vec F S1x256x1024 .bf16) (k : Pr F) : Pr F :=
  .op (.store M (tR o ho) v Finset.univ (View.stores_vmem h_S1x256x1024 (hM.storeExact_slice rfl _ (tR_packed o ho))
    (fun _ => rfl)) (.inl rfl)) fun _ => k

def loadS {n : ℕ} (M : Memref sig .tc .vmem (SS n) .f32) (p : Fin n) (k : Vec F S1x256x1024 .f32 → Pr F) : Pr F :=
  .op (.load M (sR p).toLoadRect (View.loadsAt_vmem h_S1x256x1024)) k

def storeS {n : ℕ} (M : Memref sig .tc .vmem (SS n) .f32) (p : Fin n) (v : Vec F S1x256x1024 .f32) (k : Pr F) : Pr F :=
  .op (.store M (sR p) v Finset.univ (View.stores_vmem_bits_univ h_S1x256x1024 rfl) (.inl rfl)) fun _ => k

/-- A block of rows of the argument is copied to a staging tile. -/
def xStart (o : Fin 2 → ℕ) (ho : IsX o) (h : Fin 4) (k : Pr F) : Pr F :=
  .op (.enqueueDma (xT o ho) (.here (stile xsM h)) (.dma (semAt xsA h)) (View.wordExact_bits rfl)
    ((View.wordExact_bits rfl).reshape _ _) ⟨Or.inl rfl, trivial⟩) fun _ => k
def xWait (o : Fin 2 → ℕ) (ho : IsX o) (h : Fin 4) (k : Pr F) : Pr F :=
  .op (.waitDma2 (semAt xsA h) (xT o ho) (stile xsM h) (View.wordExact_bits rfl)
    ((View.wordExact_bits rfl).reshape _ _)) fun _ => k

/-- A staging tile is copied to the result. -/
def oStart (R : Bool) (p : Fin 2) (o : Fin 2 → ℕ) (ho : IsO R o) (k : Pr F) : Pr F :=
  .op (.enqueueDma (stile (stM R) p) (.here (oT o ho)) (.dma (semAt (csA R) p))
    ((View.wordExact_bits rfl).reshape _ _) (View.wordExact_bits rfl) ⟨Or.inl rfl, trivial⟩) fun _ => k
def oWait (R : Bool) (p : Fin 2) (o : Fin 2 → ℕ) (ho : IsO R o) (k : Pr F) : Pr F :=
  .op (.waitDma2 (semAt (csA R) p) (stile (stM R) p) (oT o ho) ((View.wordExact_bits rfl).reshape _ _)
    (View.wordExact_bits rfl)) fun _ => k

def loadW (k : Vec F S1024x2048 .bf16 → Pr F) : Pr F :=
  .op (.load wbM (Rect.unit (s := S1024x2048) ![0, 0] S1024x2048.size inb_S1024x2048_S1024x2048_0_0).toLoadRect
    (View.loadsAt_vmem h_S1024x2048)) k

/-! ## The table and the body -/

/-- The offsets and the devices the body uses. `x` and `m`: the blocks of rows, by position in the order in which the
    body multiplies them; `s`: the tile of a product buffer that a send takes (and, for the sums, the next stage's
    wait names); `r`: the tile a sum goes to; `o`: the tile of the result. -/
structure Tab where
  x : Fin 4 → Fin 4 → Fin 2 → ℕ
  hx : ∀ i h, IsX (x i h)
  m : Fin 4 → Fin 4 → Fin 3 → ℕ
  hm : ∀ i h, IsT 4 (m i h)
  s : Bool → Fin 4 → Fin 4 → Fin 3 → ℕ
  hs : ∀ R k h, IsT 4 (s R k h)
  r : Bool → Fin 3 → Fin 4 → Fin 3 → ℕ
  hr : ∀ R k h, IsT 4 (r R k h)
  o : (R : Bool) → Fin 4 → Fin 4 → Fin 2 → ℕ
  ho : ∀ R k h, IsO R (o R k h)
  dev : Bool → Fin 6 → Fin 4 → Dev nD
  bar : Bool → Dev nD
  cr : Bool → Fin 3 → Dev nD

variable (T : Tab)

def seq4 (f : Fin 4 → Pr F → Pr F) (k : Pr F) : Pr F := f 0 (f 1 (f 2 (f 3 k)))

/-- Send `k` of row block `h` on ring `R`: the first four from the product buffer, the last two from the slot the tile
    came in. -/
def sendA (R : Bool) (k : Fin 4) (h : Fin 4) (c : Pr F) : Pr F :=
  sendP (pbM_whole R) (T.s R k h) (T.hs R k h) (slM_whole R) (toff (n := 3) ⟨k.val % 3, Nat.mod_lt _ (by omega)⟩ h) (isT _ h)
    (T.dev R ⟨k.val, by omega⟩ h) (semAt (ssA R) (kh ⟨k.val, by omega⟩ h)) (semAt (rsA R) (kh ⟨k.val, by omega⟩ h)) c
def sendB (R : Bool) (k : Fin 2) (h : Fin 4) (c : Pr F) : Pr F :=
  sendP (slM_whole R) (toff (n := 3) ⟨k.val, by omega⟩ h) (isT _ h) (slM_whole R) (toff (n := 3) ⟨k.val + 1, by omega⟩ h) (isT _ h)
    (T.dev R ⟨k.val + 4, by omega⟩ h) (semAt (ssA R) (kh ⟨k.val + 4, by omega⟩ h))
    (semAt (rsA R) (kh ⟨k.val + 4, by omega⟩ h)) c
def recvA (R : Bool) (k : Fin 4) (h : Fin 4) (c : Pr F) : Pr F :=
  waitP (pbM_whole R) (T.s R k h) (T.hs R k h) (slM_whole R) (toff (n := 3) ⟨k.val % 3, Nat.mod_lt _ (by omega)⟩ h) (isT _ h)
    (semAt (rsA R) (kh ⟨k.val, by omega⟩ h)) c
def recvB (R : Bool) (k : Fin 2) (h : Fin 4) (c : Pr F) : Pr F :=
  waitP (slM_whole R) (toff (n := 3) ⟨k.val, by omega⟩ h) (isT _ h) (slM_whole R) (toff (n := 3) ⟨k.val + 1, by omega⟩ h) (isT _ h)
    (semAt (rsA R) (kh ⟨k.val + 4, by omega⟩ h)) c
def doneA (R : Bool) (k : Fin 4) (h : Fin 4) (c : Pr F) : Pr F :=
  waitP (slM_whole R) (toff (n := 3) ⟨k.val % 3, Nat.mod_lt _ (by omega)⟩ h) (isT _ h) (pbM_whole R) (T.s R k h) (T.hs R k h)
    (semAt (ssA R) (kh ⟨k.val, by omega⟩ h)) c
def doneB (R : Bool) (k : Fin 2) (h : Fin 4) (c : Pr F) : Pr F :=
  waitP (slM_whole R) (toff (n := 3) ⟨k.val + 1, by omega⟩ h) (isT _ h) (slM_whole R) (toff (n := 3) ⟨k.val, by omega⟩ h) (isT _ h)
    (semAt (ssA R) (kh ⟨k.val + 4, by omega⟩ h)) c

/-- One block of rows: wait for it, multiply, start the copy of the block that follows in its staging tile, store the
    two halves of the product. -/
def mmBlk (i h : Fin 4) (next : Pr F → Pr F) (c : Pr F) : Pr F :=
  xWait (T.x i h) (T.hx i h) h <| loadS xsM h fun x => loadW fun w => next <|
  loadP (pbM false) (T.m i h) (T.hm i h) fun _ => storeP (pbM_whole false) (T.m i h) (T.hm i h) (mmP false x w) <|
  loadP (pbM true) (T.m i h) (T.hm i h) fun _ => storeP (pbM_whole true) (T.m i h) (T.hm i h) (mmP true x w) c

/-- A received tile is added to the own one, and the sum sent on. -/
def addS (R : Bool) (s : Fin 2) (h : Fin 4) (c : Pr F) : Pr F :=
  recvA T R ⟨s.val, by omega⟩ h <|
  loadP (pbM R) (T.r R ⟨s.val, by omega⟩ h) (T.hr _ _ _) fun a => loadP (slM R) (toff (n := 3) ⟨s.val, by omega⟩ h) (isT _ h) fun b =>
  loadP (pbM R) (T.r R ⟨s.val, by omega⟩ h) (T.hr _ _ _) fun _ =>
  storeP (pbM_whole R) (T.r R ⟨s.val, by omega⟩ h) (T.hr _ _ _) (addP a b) <|
  sendA T R ⟨s.val + 1, by omega⟩ h c

/-- The last sum of a chunk and the activation. -/
def ownS (R : Bool) (h : Fin 4) (c : FVec F S256x1024 .f32 → Pr F) : Pr F :=
  recvA T R 2 h <|
  loadP (pbM R) (T.r R 2 h) (T.hr _ _ _) fun a => loadP (slM R) (toff (n := 3) 2 h) (isT _ h) fun b =>
  loadP (pbM R) (T.r R 2 h) (T.hr _ _ _) fun _ =>
  storeP (pbM_whole R) (T.r R 2 h) (T.hr _ _ _) (packP (geluP (sumP a b))) <|
  sendA T R 3 h <| c (geluP (sumP a b))

/-- The parity of a row block: which staging tile it goes through. -/
abbrev par (h : Fin 4) : Fin 2 := ⟨h.val % 2, Nat.mod_lt _ (by omega)⟩

/-- A tile is written out through its staging tile. -/
def putS (R : Bool) (u h : Fin 4) (pre : Pr F → Pr F) (g : FVec F S256x1024 .f32) (c : Pr F) : Pr F :=
  pre <| loadS (stM R) (par h) fun _ => storeS (stM R) (par h) (castP g) <|
  oStart R (par h) (T.o R u h) (T.ho R u h) c

def sigP (d : Dev nD) (s : Sem sig) (c : Pr F) : Pr F := .op (.semSignal (d, .tc) s (1#32).toInt) fun _ => c
def swP (s : Sem sig) (n : BitVec 32) (c : Pr F) : Pr F := .op (.semWait s n.toInt) fun _ => c

def creds (s : Fin 3) (c : Pr F) : Pr F := sigP (T.cr false s) (crS false) <| sigP (T.cr true s) (crS true) c
def waits (c : Pr F) : Pr F := swP (crS false) 1#32 <| swP (crS true) 1#32 c

def startP (c : Pr F) : Pr F :=
  .op (.enqueueDma wM (.here wsM) (.dma wsS) (Memref.isWhole_whole _).wordExact (Memref.isWhole_whole _).wordExact
    ⟨Or.inl rfl, trivial⟩) fun _ =>
  seq4 (fun h => xStart (T.x 0 h) (T.hx 0 h) h) <|
  sigP (T.bar false) barS <| sigP (T.bar true) barS <| swP barS 2#32 <|
  .op (.waitDma2 wsS wM wsM (Memref.isWhole_whole _).wordExact (Memref.isWhole_whole _).wordExact) fun _ =>
  .op (.load wsM (Rect.unit (s := S1024x2048) ![0, 0] S1024x2048.size inb_S1024x2048_S1024x2048_0_0).toLoadRect
    (View.loadsAt_vmem h_S1024x2048)) fun w =>
  loadW fun _ =>
  .op (.store wbM (Rect.unit (s := S1024x2048) ![0, 0] S1024x2048.size inb_S1024x2048_S1024x2048_0_0) (wv w) Finset.univ
    (View.stores_vmem h_S1024x2048 ((Memref.isWhole_whole _).storeExact_slice rfl _ packedbf16_S1024x2048_S1024x2048_0_0)
      (fun _ => rfl)) (.inl rfl)) fun _ => c

def mmS0 (h : Fin 4) (c : Pr F) : Pr F :=
  mmBlk T 0 h (xStart (T.x 1 h) (T.hx 1 h) h) <| sendA T false 0 h <| sendA T true 0 h c

def addBoth (s : Fin 2) (h : Fin 4) (c : Pr F) : Pr F := addS T false s h <| addS T true s h c

def ownBoth (h : Fin 4) (pre : Bool → Pr F → Pr F) (c : Pr F) : Pr F :=
  ownS T false h fun ga => ownS T true h fun gb => putS T false 0 h (pre false) ga <| putS T true 0 h (pre true) gb c

/-- A finished tile is passed on and written out. -/
def fwd1 (h : Fin 4) (pre : Bool → Pr F → Pr F) (c : Pr F) : Pr F :=
  recvA T false 3 h <| sendB T false 0 h <| recvA T true 3 h <| sendB T true 0 h <|
  loadP (slM false) (toff (n := 3) 0 h) (isT _ h) fun a => putS T false 1 h (pre false) (extP a) <|
  loadP (slM true) (toff (n := 3) 0 h) (isT _ h) fun b => putS T true 1 h (pre true) (extP b) c
def fwd2 (h : Fin 4) (pre : Bool → Pr F → Pr F) (c : Pr F) : Pr F :=
  recvB false 0 h <| sendB T false 1 h <| recvB true 0 h <| sendB T true 1 h <|
  loadP (slM false) (toff (n := 3) 1 h) (isT _ h) fun a => putS T false 2 h (pre false) (extP a) <|
  loadP (slM true) (toff (n := 3) 1 h) (isT _ h) fun b => putS T true 2 h (pre true) (extP b) c
def lastS (h : Fin 4) (pre : Bool → Pr F → Pr F) (c : Pr F) : Pr F :=
  recvB false 1 h <|
  loadP (slM false) (toff (n := 3) 2 h) (isT _ h) fun a => putS T false 3 h (pre false) (extP a) <|
  recvB true 1 h <|
  loadP (slM true) (toff (n := 3) 2 h) (isT _ h) fun b => putS T true 3 h (pre true) (extP b) c

def doneAll (R : Bool) (c : Pr F) : Pr F :=
  seq4 (doneA T R 0) <| seq4 (doneA T R 1) <| seq4 (doneA T R 2) <| seq4 (doneA T R 3) <|
  seq4 (doneB R 0) <| seq4 (doneB R 1) c

def endP : Pr F :=
  doneAll T false <| doneAll T true <|
  oWait false 0 (T.o false 3 2) (T.ho _ _ _) <| oWait false 1 (T.o false 3 3) (T.ho _ _ _) <|
  oWait true 0 (T.o true 3 2) (T.ho _ _ _) <| oWait true 1 (T.o true 3 3) (T.ho _ _ _) <| .ret ⟨⟩

def body : Pr F :=
  startP T <|
  seq4 (mmS0 T) <|
  seq4 (fun h => mmBlk T 1 h (xStart (T.x 2 h) (T.hx 2 h) h)) <|
  seq4 (fun h => mmBlk T 2 h (xStart (T.x 3 h) (T.hx 3 h) h)) <|
  seq4 (fun h => mmBlk T 3 h id) <|
  seq4 (addBoth T 0) <| creds T 0 <|
  seq4 (addBoth T 1) <| creds T 1 <| waits <|
  ownBoth T 0 (fun _ => id) <| ownBoth T 1 (fun _ => id) <|
  ownBoth T 2 (fun R => oWait R 0 (T.o R 0 0) (T.ho _ _ _)) <| ownBoth T 3 (fun R => oWait R 1 (T.o R 0 1) (T.ho _ _ _)) <|
  creds T 2 <| waits <|
  fwd1 T 0 (fun R => oWait R 0 (T.o R 0 2) (T.ho _ _ _)) <| fwd1 T 1 (fun R => oWait R 1 (T.o R 0 3) (T.ho _ _ _)) <|
  fwd1 T 2 (fun R => oWait R 0 (T.o R 1 0) (T.ho _ _ _)) <| fwd1 T 3 (fun R => oWait R 1 (T.o R 1 1) (T.ho _ _ _)) <|
  waits <|
  fwd2 T 0 (fun R => oWait R 0 (T.o R 1 2) (T.ho _ _ _)) <| fwd2 T 1 (fun R => oWait R 1 (T.o R 1 3) (T.ho _ _ _)) <|
  fwd2 T 2 (fun R => oWait R 0 (T.o R 2 0) (T.ho _ _ _)) <| fwd2 T 3 (fun R => oWait R 1 (T.o R 2 1) (T.ho _ _ _)) <|
  lastS T 0 (fun R => oWait R 0 (T.o R 2 2) (T.ho _ _ _)) <| lastS T 1 (fun R => oWait R 1 (T.o R 2 3) (T.ho _ _ _)) <|
  lastS T 2 (fun R => oWait R 0 (T.o R 3 0) (T.ho _ _ _)) <| lastS T 3 (fun R => oWait R 1 (T.o R 3 1) (T.ho _ _ _)) <|
  endP T

/-! ## The printed offsets -/

/-- The place of a block in the order in which the body multiplies the four chunks: 0, 1, 3, 2 after the own one. -/
abbrev jw : Fin 4 → BitVec 32 | 0 => 0#32 | 1 => 1#32 | 2 => 3#32 | 3 => 2#32
def px (d0 : Dev nD) : Fin 4 → Fin 4 → Fin 2 → ℕ
  | 0, 0 => k0_off1 d0 0#32 0#32
  | 0, 1 => k0_off1 d0 0#32 256#32
  | 0, 2 => k0_off1 d0 0#32 512#32
  | 0, 3 => k0_off1 d0 0#32 768#32
  | 1, 0 => k0_off1 d0 1#32 0#32
  | 1, 1 => k0_off1 d0 1#32 256#32
  | 1, 2 => k0_off1 d0 1#32 512#32
  | 1, 3 => k0_off1 d0 1#32 768#32
  | 2, 0 => k0_off1 d0 3#32 0#32
  | 2, 1 => k0_off1 d0 3#32 256#32
  | 2, 2 => k0_off1 d0 3#32 512#32
  | 2, 3 => k0_off1 d0 3#32 768#32
  | 3, 0 => k0_off1 d0 2#32 0#32
  | 3, 1 => k0_off1 d0 2#32 256#32
  | 3, 2 => k0_off1 d0 2#32 512#32
  | 3, 3 => k0_off1 d0 2#32 768#32
def pm (d0 : Dev nD) : Fin 4 → Fin 4 → Fin 3 → ℕ
  | 0, 0 => k0_off2 d0 0#32
  | 0, 1 => k0_off4 d0 0#32
  | 0, 2 => k0_off6 d0 0#32
  | 0, 3 => k0_off8 d0 0#32
  | 1, 0 => k0_off2 d0 1#32
  | 1, 1 => k0_off4 d0 1#32
  | 1, 2 => k0_off6 d0 1#32
  | 1, 3 => k0_off8 d0 1#32
  | 2, 0 => k0_off2 d0 3#32
  | 2, 1 => k0_off4 d0 3#32
  | 2, 2 => k0_off6 d0 3#32
  | 2, 3 => k0_off8 d0 3#32
  | 3, 0 => k0_off2 d0 2#32
  | 3, 1 => k0_off4 d0 2#32
  | 3, 2 => k0_off6 d0 2#32
  | 3, 3 => k0_off8 d0 2#32
def ps (d0 : Dev nD) : Bool → Fin 4 → Fin 4 → Fin 3 → ℕ
  | false, 0, 0 => k0_off3 d0
  | false, 0, 1 => k0_off5 d0
  | false, 0, 2 => k0_off7 d0
  | false, 0, 3 => k0_off9 d0
  | false, 1, 0 => k0_off11 d0 0#32
  | false, 1, 1 => k0_off15 d0 0#32
  | false, 1, 2 => k0_off19 d0 0#32
  | false, 1, 3 => k0_off23 d0 0#32
  | false, 2, 0 => k0_off11 d0 1#32
  | false, 2, 1 => k0_off15 d0 1#32
  | false, 2, 2 => k0_off19 d0 1#32
  | false, 2, 3 => k0_off23 d0 1#32
  | false, 3, 0 => k0_off26 d0 1#32
  | false, 3, 1 => k0_off29 d0 1#32
  | false, 3, 2 => k0_off30 d0 1#32
  | false, 3, 3 => k0_off31 d0 1#32
  | true, 0, 0 => k0_off3 d0
  | true, 0, 1 => k0_off5 d0
  | true, 0, 2 => k0_off7 d0
  | true, 0, 3 => k0_off9 d0
  | true, 1, 0 => k0_off13 d0 0#32
  | true, 1, 1 => k0_off17 d0 0#32
  | true, 1, 2 => k0_off21 d0 0#32
  | true, 1, 3 => k0_off25 d0 0#32
  | true, 2, 0 => k0_off13 d0 1#32
  | true, 2, 1 => k0_off17 d0 1#32
  | true, 2, 2 => k0_off21 d0 1#32
  | true, 2, 3 => k0_off25 d0 1#32
  | true, 3, 0 => k0_off26 d0 3#32
  | true, 3, 1 => k0_off29 d0 3#32
  | true, 3, 2 => k0_off30 d0 3#32
  | true, 3, 3 => k0_off31 d0 3#32
def pr (d0 : Dev nD) : Bool → Fin 3 → Fin 4 → Fin 3 → ℕ
  | false, 0, 0 => k0_off10 d0 0#32
  | false, 0, 1 => k0_off14 d0 0#32
  | false, 0, 2 => k0_off18 d0 0#32
  | false, 0, 3 => k0_off22 d0 0#32
  | false, 1, 0 => k0_off10 d0 1#32
  | false, 1, 1 => k0_off14 d0 1#32
  | false, 1, 2 => k0_off18 d0 1#32
  | false, 1, 3 => k0_off22 d0 1#32
  | false, 2, 0 => k0_off2 d0 1#32
  | false, 2, 1 => k0_off4 d0 1#32
  | false, 2, 2 => k0_off6 d0 1#32
  | false, 2, 3 => k0_off8 d0 1#32
  | true, 0, 0 => k0_off12 d0 0#32
  | true, 0, 1 => k0_off16 d0 0#32
  | true, 0, 2 => k0_off20 d0 0#32
  | true, 0, 3 => k0_off24 d0 0#32
  | true, 1, 0 => k0_off12 d0 1#32
  | true, 1, 1 => k0_off16 d0 1#32
  | true, 1, 2 => k0_off20 d0 1#32
  | true, 1, 3 => k0_off24 d0 1#32
  | true, 2, 0 => k0_off2 d0 3#32
  | true, 2, 1 => k0_off4 d0 3#32
  | true, 2, 2 => k0_off6 d0 3#32
  | true, 2, 3 => k0_off8 d0 3#32
def po (d0 : Dev nD) : Bool → Fin 4 → Fin 4 → Fin 2 → ℕ
  | false, 0, 0 => k0_off27 d0 1#32 0#32
  | false, 0, 1 => k0_off27 d0 1#32 256#32
  | false, 0, 2 => k0_off27 d0 1#32 512#32
  | false, 0, 3 => k0_off27 d0 1#32 768#32
  | false, 1, 0 => k0_off32 d0 1#32 0#32
  | false, 1, 1 => k0_off32 d0 1#32 256#32
  | false, 1, 2 => k0_off32 d0 1#32 512#32
  | false, 1, 3 => k0_off32 d0 1#32 768#32
  | false, 2, 0 => k0_off32 d0 2#32 0#32
  | false, 2, 1 => k0_off32 d0 2#32 256#32
  | false, 2, 2 => k0_off32 d0 2#32 512#32
  | false, 2, 3 => k0_off32 d0 2#32 768#32
  | false, 3, 0 => k0_off27 d0 2#32 0#32
  | false, 3, 1 => k0_off27 d0 2#32 256#32
  | false, 3, 2 => k0_off27 d0 2#32 512#32
  | false, 3, 3 => k0_off27 d0 2#32 768#32
  | true, 0, 0 => k0_off28 d0 3#32 0#32
  | true, 0, 1 => k0_off28 d0 3#32 256#32
  | true, 0, 2 => k0_off28 d0 3#32 512#32
  | true, 0, 3 => k0_off28 d0 3#32 768#32
  | true, 1, 0 => k0_off33 d0 1#32 0#32
  | true, 1, 1 => k0_off33 d0 1#32 256#32
  | true, 1, 2 => k0_off33 d0 1#32 512#32
  | true, 1, 3 => k0_off33 d0 1#32 768#32
  | true, 2, 0 => k0_off33 d0 2#32 0#32
  | true, 2, 1 => k0_off33 d0 2#32 256#32
  | true, 2, 2 => k0_off33 d0 2#32 512#32
  | true, 2, 3 => k0_off33 d0 2#32 768#32
  | true, 3, 0 => k0_off28 d0 2#32 0#32
  | true, 3, 1 => k0_off28 d0 2#32 256#32
  | true, 3, 2 => k0_off28 d0 2#32 512#32
  | true, 3, 3 => k0_off28 d0 2#32 768#32
def pdev (d0 : Dev nD) : Bool → Fin 6 → Fin 4 → Dev nD
  | false, 0, 0 => ⟨k0_dev3 d0, k0_dev3_lt d0⟩
  | false, 0, 1 => ⟨k0_dev5 d0, k0_dev5_lt d0⟩
  | false, 0, 2 => ⟨k0_dev7 d0, k0_dev7_lt d0⟩
  | false, 0, 3 => ⟨k0_dev9 d0, k0_dev9_lt d0⟩
  | false, 1, 0 => ⟨k0_dev11 d0, k0_dev11_lt d0⟩
  | false, 1, 1 => ⟨k0_dev13 d0, k0_dev13_lt d0⟩
  | false, 1, 2 => ⟨k0_dev15 d0, k0_dev15_lt d0⟩
  | false, 1, 3 => ⟨k0_dev17 d0, k0_dev17_lt d0⟩
  | false, 2, 0 => ⟨k0_dev21 d0, k0_dev21_lt d0⟩
  | false, 2, 1 => ⟨k0_dev23 d0, k0_dev23_lt d0⟩
  | false, 2, 2 => ⟨k0_dev25 d0, k0_dev25_lt d0⟩
  | false, 2, 3 => ⟨k0_dev27 d0, k0_dev27_lt d0⟩
  | false, 3, 0 => ⟨k0_dev31 d0, k0_dev31_lt d0⟩
  | false, 3, 1 => ⟨k0_dev33 d0, k0_dev33_lt d0⟩
  | false, 3, 2 => ⟨k0_dev35 d0, k0_dev35_lt d0⟩
  | false, 3, 3 => ⟨k0_dev37 d0, k0_dev37_lt d0⟩
  | false, 4, 0 => ⟨k0_dev41 d0, k0_dev41_lt d0⟩
  | false, 4, 1 => ⟨k0_dev43 d0, k0_dev43_lt d0⟩
  | false, 4, 2 => ⟨k0_dev45 d0, k0_dev45_lt d0⟩
  | false, 4, 3 => ⟨k0_dev47 d0, k0_dev47_lt d0⟩
  | false, 5, 0 => ⟨k0_dev49 d0, k0_dev49_lt d0⟩
  | false, 5, 1 => ⟨k0_dev51 d0, k0_dev51_lt d0⟩
  | false, 5, 2 => ⟨k0_dev53 d0, k0_dev53_lt d0⟩
  | false, 5, 3 => ⟨k0_dev55 d0, k0_dev55_lt d0⟩
  | true, 0, 0 => ⟨k0_dev4 d0, k0_dev4_lt d0⟩
  | true, 0, 1 => ⟨k0_dev6 d0, k0_dev6_lt d0⟩
  | true, 0, 2 => ⟨k0_dev8 d0, k0_dev8_lt d0⟩
  | true, 0, 3 => ⟨k0_dev10 d0, k0_dev10_lt d0⟩
  | true, 1, 0 => ⟨k0_dev12 d0, k0_dev12_lt d0⟩
  | true, 1, 1 => ⟨k0_dev14 d0, k0_dev14_lt d0⟩
  | true, 1, 2 => ⟨k0_dev16 d0, k0_dev16_lt d0⟩
  | true, 1, 3 => ⟨k0_dev18 d0, k0_dev18_lt d0⟩
  | true, 2, 0 => ⟨k0_dev22 d0, k0_dev22_lt d0⟩
  | true, 2, 1 => ⟨k0_dev24 d0, k0_dev24_lt d0⟩
  | true, 2, 2 => ⟨k0_dev26 d0, k0_dev26_lt d0⟩
  | true, 2, 3 => ⟨k0_dev28 d0, k0_dev28_lt d0⟩
  | true, 3, 0 => ⟨k0_dev32 d0, k0_dev32_lt d0⟩
  | true, 3, 1 => ⟨k0_dev34 d0, k0_dev34_lt d0⟩
  | true, 3, 2 => ⟨k0_dev36 d0, k0_dev36_lt d0⟩
  | true, 3, 3 => ⟨k0_dev38 d0, k0_dev38_lt d0⟩
  | true, 4, 0 => ⟨k0_dev42 d0, k0_dev42_lt d0⟩
  | true, 4, 1 => ⟨k0_dev44 d0, k0_dev44_lt d0⟩
  | true, 4, 2 => ⟨k0_dev46 d0, k0_dev46_lt d0⟩
  | true, 4, 3 => ⟨k0_dev48 d0, k0_dev48_lt d0⟩
  | true, 5, 0 => ⟨k0_dev50 d0, k0_dev50_lt d0⟩
  | true, 5, 1 => ⟨k0_dev52 d0, k0_dev52_lt d0⟩
  | true, 5, 2 => ⟨k0_dev54 d0, k0_dev54_lt d0⟩
  | true, 5, 3 => ⟨k0_dev56 d0, k0_dev56_lt d0⟩
def pbar (d0 : Dev nD) : Bool → Dev nD | false => ⟨k0_dev1 d0, k0_dev1_lt d0⟩ | true => ⟨k0_dev2 d0, k0_dev2_lt d0⟩
def pcr (d0 : Dev nD) : Bool → Fin 3 → Dev nD
  | false, 0 => ⟨k0_dev19 d0, k0_dev19_lt d0⟩
  | false, 1 => ⟨k0_dev29 d0, k0_dev29_lt d0⟩
  | false, 2 => ⟨k0_dev39 d0, k0_dev39_lt d0⟩
  | true, 0 => ⟨k0_dev20 d0, k0_dev20_lt d0⟩
  | true, 1 => ⟨k0_dev30 d0, k0_dev30_lt d0⟩
  | true, 2 => ⟨k0_dev40 d0, k0_dev40_lt d0⟩

/-! ## The same in closed form -/

/-- The devices to the right and to the left. -/
abbrev nxt (d : Dev nD) : Dev nD := d + 1
abbrev prv (d : Dev nD) : Dev nD := d + 3
/-- The device a ring sends to, and the one it receives from. -/
abbrev dst (R : Bool) (d : Dev nD) : Dev nD := cond R (prv d) (nxt d)
abbrev org (R : Bool) (d : Dev nD) : Dev nD := cond R (nxt d) (prv d)

abbrev jq : Fin 4 → Fin 4 | 0 => 0 | 1 => 1 | 2 => 3 | 3 => 2
/-- The chunk that send `k` of ring `R` moves. -/
abbrev sch (R : Bool) (d : Dev nD) (k : Fin 4) : Fin 4 := cond R (d + k) (d - k)
/-- The chunk that stage `u` writes out. -/
abbrev och (R : Bool) (d : Dev nD) (u : Fin 4) : Fin 4 := cond R (d + 3 + u) (d + 1 - u)

theorem px_eq : ∀ (d : Dev nD) (i h : Fin 4), px d i h = xoff (d + jq i, h) := by decide
theorem pm_eq : ∀ (d : Dev nD) (i h : Fin 4), pm d i h = toff (n := 4) (d + jq i) h := by decide
theorem ps_eq : ∀ (d : Dev nD) (R : Bool) (k h : Fin 4), ps d R k h = toff (n := 4) (sch R d k) h := by decide
theorem pr_eq : ∀ (d : Dev nD) (R : Bool) (k : Fin 3) (h : Fin 4),
    pr d R k h = toff (n := 4) (sch R d ⟨k.val + 1, by omega⟩) h := by decide
theorem po_eq : ∀ (d : Dev nD) (R : Bool) (k h : Fin 4), po d R k h = ooff R (och R d k, h) := by decide
theorem pdev_eq : ∀ (d : Dev nD) (R : Bool) (k : Fin 6) (h : Fin 4), pdev d R k h = dst R d := by decide
theorem pbar_eq : ∀ (d : Dev nD) (R : Bool), pbar d R = dst (!R) d := by decide
theorem pcr_eq : ∀ (d : Dev nD) (R : Bool) (s : Fin 3), pcr d R s = org R d := by decide

/-- The table of the printed text. -/
def ptab (d : Dev nD) : Tab where
  x := px d
  hx i h := ⟨_, px_eq d i h⟩
  m := pm d
  hm i h := ⟨_, _, pm_eq d i h⟩
  s := ps d
  hs R k h := ⟨_, _, ps_eq d R k h⟩
  r := pr d
  hr R k h := ⟨_, _, pr_eq d R k h⟩
  o := po d
  ho R k h := ⟨_, po_eq d R k h⟩
  dev := pdev d
  bar := pbar d
  cr := pcr d

/-- The table in closed form. -/
def ctab (d : Dev nD) : Tab where
  x i h := xoff (d + jq i, h)
  hx i h := ⟨_, rfl⟩
  m i h := toff (n := 4) (d + jq i) h
  hm i h := isT _ _
  s R k h := toff (n := 4) (sch R d k) h
  hs R k h := isT _ _
  r R k h := toff (n := 4) (sch R d ⟨k.val + 1, by omega⟩) h
  hr R k h := isT _ _
  o R k h := ooff R (och R d k, h)
  ho R k h := ⟨_, rfl⟩
  dev R _ _ := dst R d
  bar R := dst (!R) d
  cr R _ := org R d

theorem tab_eq (d : Dev nD) : ptab d = ctab d := by
  unfold ptab ctab
  congr 1
  · funext i h; exact px_eq d i h
  · funext i h; exact pm_eq d i h
  · funext R k h; exact ps_eq d R k h
  · funext R k h; exact pr_eq d R k h
  · funext R k h; exact po_eq d R k h
  · funext R k h; exact pdev_eq d R k h
  · funext R; exact pbar_eq d R
  · funext R s; exact pcr_eq d R s

theorem bodyAt_eq_printed : (bodyAt0 (F := F) t0_0) = .op .deviceId fun d => body (ptab d) := by
  rfl

/-- The kernel's body is the composition of the steps, over the table in closed form. -/
theorem body_eq : (bodyAt0 (F := F) t0_0) = .op .deviceId fun d => body (ctab d) :=
  bodyAt_eq_printed.trans (congrArg _ (funext fun d => by rw [tab_eq]))

end Cert.RingProof

end
-- ==== Proof.Common.lean ====
/-
# The protocol of the two rings

Four devices. Ring `false` sends to the right and ring `true` to the left; each moves, for every row block `h`, six tiles
per device: three partial sums (sends 0, 1, 2), the finished tile (send 3), and two forwarded finished tiles (4, 5).
Send `k` lands in slot `k % 3` of the receiver. This module says who hands what to whom at which semaphore:

* the barrier: a device hands each neighbour the slots that the neighbour will fill;
* the receive cell of a send: the slot with the tile in it, and with it a slot of the OPPOSITE ring that the sender has
  emptied, and that the receiver will fill again (`hb`);
* the send cell: the source tile back (a half share of it where the sender goes on reading it);
* the credit cells: nothing.
-/
module

public import proofs.«01_k».proof.Proof.Prog
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The rings' rounds library. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
/-- The local transfers' counters. -/
abbrev EC : UEmb Counters (MT nD τ sig ℕ (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The semaphores the rings synchronise on: the barrier, a ring's credit semaphore, and the two semaphores of each send. -/
inductive CK where
  | bar
  | cr (R : Bool)
  | snd (R : Bool) (k : Fin 6) (h : Fin 4)
  | rcv (R : Bool) (k : Fin 6) (h : Fin 4)
deriving DecidableEq

abbrev XK : Type := Bool × Fin 6 × Fin 4

def CK.all : Finset CK :=
  insert CK.bar ((Finset.univ.image CK.cr) ∪ ((Finset.univ.image fun x : XK => CK.snd x.1 x.2.1 x.2.2)
    ∪ (Finset.univ.image fun x : XK => CK.rcv x.1 x.2.1 x.2.2)))

theorem CK.mem_all (k : CK) : k ∈ CK.all := by
  unfold CK.all
  cases k <;> simp

instance : Fintype CK := ⟨CK.all, CK.mem_all⟩

def csl : CK → SemLoc sig
  | .bar => .reg barS
  | .cr R => .reg (crS R)
  | .snd R k h => .dma (semAt (ssA R) (kh k h))
  | .rcv R k h => .dma (semAt (rsA R) (kh k h))

def kq (n : ℕ) : Fin 6 := ⟨n / 4 % 6, Nat.mod_lt _ (by omega)⟩
def hq (n : ℕ) : Fin 4 := ⟨n % 4, Nat.mod_lt _ (by omega)⟩

/-- Which cell a semaphore is. -/
def kd : SemLoc sig → Option CK
  | .reg s => if s.val = 0 then some (.cr false) else if s.val = 1 then some (.cr true) else if s.val = 2 then some .bar else none
  | .dma q =>
    if q.val < 24 then some (.snd false (kq q.val) (hq q.val)) else if q.val < 48 then some (.rcv false (kq (q.val - 24)) (hq (q.val - 24)))
    else if q.val < 72 then some (.snd true (kq (q.val - 48)) (hq (q.val - 48)))
    else if q.val < 96 then some (.rcv true (kq (q.val - 72)) (hq (q.val - 72))) else none

theorem kd_csl (k : CK) : kd (csl k) = some k := by
  cases k with
  | bar => rfl
  | cr R => cases R <;> rfl
  | snd R k h => revert R k h; decide
  | rcv R k h => revert R k h; decide

abbrev kcell (ck : Dev nD × CK) : GSem nD τ sig := ((ck.1 : Thread nD τ), csl ck.2)

theorem kcell_injective : Function.Injective (kcell : Dev nD × CK → GSem nD τ sig) := by
  rintro ⟨c, k⟩ ⟨c', k'⟩ h
  have h1 : c = c' := congrArg (fun g : GSem nD τ sig => g.1.1) h
  have h2 : some k = some k' := by rw [← kd_csl k, ← kd_csl k']; exact congrArg (fun g : GSem nD τ sig => kd g.2) h
  rw [h1, Option.some.inj h2]

/-! ## Tiles -/

/-- The units one tile's transfer adds to a semaphore. -/
def N : ℕ := (tile (slM false) (toff (n := 3) 0 0) (isT 0 0)).view.dmaCredit
theorem N_pos : 0 < N := View.dmaCredit_pos _ (by decide)
theorem credit_sl (R : Bool) (o) (ho : IsT 3 o) : (tile (slM R) o ho).view.dmaCredit = N := by cases R <;> rfl
theorem credit_pb (R : Bool) (o) (ho : IsT 4 o) : (tile (pbM R) o ho).view.dmaCredit = N := by cases R <;> rfl

/-- Device `c` holds tile `(a, h)` of a buffer at share `q`, with `v` in it; -/
def vt {n : ℕ} (M : Memref sig .tc .vmem (SB n) .bf16) (c : Dev nD) (q : PosShare TreeShare) (a : Fin n) (h : Fin 4)
    (v : Vec F S1x256x1024 .bf16) : sProp 𝕄 :=
  iprop(∃ f : Buf (Elt F) ((M.access (tR (toff a h) (isT a h))).loc (c : Thread nD τ)),
    ⌜(M.access (tR (toff a h) (isT a h))).read (Elt F) f = v⌝
      ∗ ((M.access (tR (toff a h) (isT a h))).loc (c : Thread nD τ) ↦[(M.access (tR (toff a h) (isT a h))).set]{q} f))
/-- whatever is in it. -/
def at_ {n : ℕ} (M : Memref sig .tc .vmem (SB n) .bf16) (c : Dev nD) (q : PosShare TreeShare) (a : Fin n) (h : Fin 4) : sProp 𝕄 :=
  iprop(∃ f : Buf (Elt F) ((M.access (tR (toff a h) (isT a h))).loc (c : Thread nD τ)),
    (M.access (tR (toff a h) (isT a h))).loc (c : Thread nD τ) ↦[(M.access (tR (toff a h) (isT a h))).set]{q} f)

instance vt_storable {n : ℕ} (M : Memref sig .tc .vmem (SB n) .bf16) (c : Dev nD) (q) (a : Fin n) (h) (v : Vec F S1x256x1024 .bf16) :
    BI.Storable (upEmb : UEmb _ 𝕄) (vt M c q a h v) := by unfold vt; infer_instance
instance at_storable {n : ℕ} (M : Memref sig .tc .vmem (SB n) .bf16) (c : Dev nD) (q) (a : Fin n) (h) :
    BI.Storable (upEmb : UEmb _ 𝕄) (at_ (F := F) M c q a h) := by unfold at_; infer_instance

theorem vt_at {n : ℕ} (M : Memref sig .tc .vmem (SB n) .bf16) (c : Dev nD) (q) (a : Fin n) (h) (v : Vec F S1x256x1024 .bf16) :
    (vt M c q a h v : sProp 𝕄) ⊢ at_ M c q a h := by
  unfold vt at_
  iintro ⟨%f, -, H⟩
  iexists f; iexact H

/-! ## Contents -/

/-- Row block `h` of chunk `a` of device `d`'s argument, as its staging tile holds it; -/
def xv (d : Dev nD) (b : Fin 4 × Fin 4) : Vec F S1x256x1024 .f32 :=
  shapeCast S1x256x1024 ((xT (xoff b) ⟨b, rfl⟩).view.read (Elt F) (m ((d : Thread nD τ).loc main_arg0))) shapeCasts_S256x1024_S1x256x1024
/-- its weights; -/
def wvv (d : Dev nD) : Vec F S1024x2048 .bf16 := wv (m ((d : Thread nD τ).loc main_arg1))
/-- and their product, ring `R`'s half of the columns. -/
def pv (R : Bool) (d : Dev nD) (a h : Fin 4) : Vec F S1x256x1024 .bf16 := mmP R (xv m d (a, h)) (wvv m d)

/-- The tile that send `k` of row block `h` moves from device `d`. -/
def tv (R : Bool) (h : Fin 4) : ℕ → Dev nD → Vec F S1x256x1024 .bf16
  | 0, d => pv m R d (sch R d 0) h
  | 1, d => addP (pv m R d (sch R d 1) h) (tv R h 0 (org R d))
  | 2, d => addP (pv m R d (sch R d 2) h) (tv R h 1 (org R d))
  | 3, d => packP (geluP (sumP (pv m R d (sch R d 3) h) (tv R h 2 (org R d))))
  | n + 4, d => tv R h (n + 3) (org R d)

/-- The finished tile of device `d`'s own chunk, not yet packed. -/
def gv (R : Bool) (h : Fin 4) (d : Dev nD) : FVec F S256x1024 .f32 :=
  geluP (sumP (pv m R d (sch R d 3) h) (tv m R h 2 (org R d)))

/-- What device `d` writes out at stage `u`. -/
def ogv (R : Bool) (d : Dev nD) : Fin 4 → Fin 4 → FVec F S256x1024 .f32
  | 0, h => gv m R h d
  | 1, h => extP (tv m R h 3 (org R d))
  | 2, h => extP (tv m R h 4 (org R d))
  | 3, h => extP (tv m R h 5 (org R d))

/-! ## The schedule -/

theorem org_dst (R : Bool) (c : Dev nD) : org R (dst R c) = c := by revert R c; decide
theorem dst_org (R : Bool) (c : Dev nD) : dst R (org R c) = c := by revert R c; decide
theorem dst_not (R : Bool) (c : Dev nD) : dst (!R) c = org R c := by revert R c; decide

abbrev slot (k : Fin 6) : Fin 3 := ⟨k.val % 3, Nat.mod_lt _ (by omega)⟩

/-- What a device's barrier signal hands its neighbour `c`: all its slots of the ring on which `c` sends to it. -/
def barPay (R : Bool) (c : Dev nD) : sProp 𝕄 :=
  bigSep Finset.univ fun x : Fin 3 × Fin 4 => at_ (slM R) (dst R c) fullShare x.1 x.2

/-- What comes back at the send cell. -/
def sndPay (R : Bool) (c : Dev nD) (h : Fin 4) : Fin 6 → sProp 𝕄
  | 0 => at_ (pbM R) c fullShare (sch R c 0) h
  | 1 => at_ (pbM R) c fullShare (sch R c 1) h
  | 2 => at_ (pbM R) c fullShare (sch R c 2) h
  | 3 => at_ (pbM R) c fullShare (sch R c 3) h
  | 4 => at_ (slM R) c fullShare.left 0 h
  | 5 => at_ (slM R) c fullShare.left 1 h

/-- The emptied slot of the opposite ring that device `d` hands over with send `k` of ring `R`. -/
def hb (d : Dev nD) (h : Fin 4) : Bool → Fin 6 → sProp 𝕄
  | false, 2 => at_ (slM true) d fullShare 0 h
  | false, 3 => at_ (slM true) d fullShare 1 h
  | false, 4 => at_ (slM true) d fullShare 2 h
  | true, 1 => at_ (slM false) d fullShare 0 h
  | true, 2 => at_ (slM false) d fullShare 1 h
  | true, 3 => at_ (slM false) d fullShare 2 h
  | _, _ => iprop(emp)

def rcvPay (R : Bool) (c : Dev nD) (h : Fin 4) (k : Fin 6) : sProp 𝕄 :=
  iprop(vt (slM R) c fullShare (slot k) h (tv m R h k.val (org R c)) ∗ hb (org R c) h R k)

instance sndPay_storable (R) (c : Dev nD) (h) (k) : BI.Storable (upEmb : UEmb _ 𝕄) (sndPay (F := F) R c h k) := by
  unfold sndPay; split <;> infer_instance
instance hb_storable (d : Dev nD) (h) (R) (k) : BI.Storable (upEmb : UEmb _ 𝕄) (hb (F := F) d h R k) := by
  unfold hb; split <;> infer_instance
instance rcvPay_storable (R) (c : Dev nD) (h) (k) : BI.Storable (upEmb : UEmb _ 𝕄) (rcvPay m R c h k) := by
  unfold rcvPay; infer_instance
instance barPay_storable (R) (c : Dev nD) : BI.Storable (upEmb : UEmb _ 𝕄) (barPay (F := F) R c) := by
  unfold barPay; infer_instance

/-- Which barrier duty a ring's slots come with. -/
abbrev bd (R : Bool) : Fin 3 := cond R 1 0

def pay (c : Dev nD) (d : Fin 3) : CK → sProp 𝕄
  | .bar => if d = 0 then barPay false c else if d = 1 then barPay true c else iprop(emp)
  | .cr _ => iprop(emp)
  | .snd R k h => sndPay R c h k
  | .rcv R k h => rcvPay m R c h k

instance pay_storable (c : Dev nD) (d) (k) : BI.Storable (upEmb : UEmb _ 𝕄) (pay m c d k) := by
  unfold pay; (repeat' split) <;> infer_instance

def dts : CK → Finset (Fin 3)
  | .bar => {0, 1}
  | .cr _ => {0, 1, 2}
  | _ => {0}

def amt : CK → ℕ
  | .bar => 1
  | .cr _ => 1
  | _ => N

theorem amt_pos (k : CK) : 0 < amt k := by cases k <;> first | exact Nat.one_pos | exact N_pos

def Rd : Rounds.Schedule (GSem nD τ sig) (Fin 3) 𝕄 where
  duties g r := if r = 0 ∧ g.1.2 = .tc then (kd g.2).elim ∅ dts else ∅
  unitless _ := False
  amount g _ _ := (kd g.2).elim 1 amt
  payload g _ d := (kd g.2).elim iprop(emp) (pay m g.1.1 d)
  amount_pos g _ _ _ := by cases h : kd g.2 with | none => exact Nat.one_pos | some k => exact amt_pos k

instance Rd_storable (g : GSem nD τ sig) (r : ℕ) (d : Fin 3) : BI.Storable (upEmb : UEmb _ 𝕄) ((Rd (F := F) m).payload g r d) := by
  show BI.Storable upEmb ((kd g.2).elim iprop(emp) (pay m g.1.1 d))
  cases kd g.2 <;> (dsimp only [Option.elim]; infer_instance)

theorem duties_at (c : Dev nD) (k : CK) : (Rd (F := F) m).duties (kcell (c, k)) 0 = dts k := by
  dsimp only [Rd]; rw [if_pos ⟨rfl, rfl⟩, kd_csl]; rfl
theorem duties_later (g : GSem nD τ sig) : ∀ r, 1 ≤ r → (Rd (F := F) m).duties g r = ∅ :=
  fun r hr => by dsimp only [Rd]; rw [if_neg fun h => by omega]
theorem amount_at (c : Dev nD) (k : CK) (d : Fin 3) : (Rd (F := F) m).amount (kcell (c, k)) 0 d = amt k := by
  dsimp only [Rd]; rw [kd_csl]; rfl
theorem payload_at (c : Dev nD) (k : CK) (d : Fin 3) : (Rd (F := F) m).payload (kcell (c, k)) 0 d = pay m c d k := by
  dsimp only [Rd]; rw [kd_csl]; rfl
theorem expect_at (c : Dev nD) (k : CK) : (Rd (F := F) m).expect (kcell (c, k)) 0 = (dts k).card * amt k := by
  unfold Schedule.expect Schedule.amountOf
  rw [duties_at, Finset.sum_congr rfl fun d _ => amount_at m c k d, Finset.sum_const, smul_eq_mul]

/-! ## What a device owes, and the levels -/

/-- A payment a device makes: a barrier signal, a send, a credit. -/
inductive Item where
  | bar (R : Bool)
  | snd (R : Bool) (k : Fin 6) (h : Fin 4)
  | cr (R : Bool) (s : Fin 3)
deriving DecidableEq

/-- The cell it is made to, the index it is made at, and its units. -/
def Item.tg (c : Dev nD) : Item → Dev nD × CK
  | .bar R => (dst (!R) c, .bar)
  | .snd R k h => (dst R c, .rcv R k h)
  | .cr R _ => (org R c, .cr R)
def Item.ix : Item → ℕ
  | .cr _ s => s.val
  | _ => 0
def Item.un : Item → ℕ
  | .snd _ _ _ => N
  | _ => 1
def Item.lvl : Item → ℕ
  | .bar _ => 1
  | .snd _ k _ => 2 * k.val + 2
  | .cr _ s => 2 * s.val + 3

def tal (c : Dev nD) (i : Item) : CellTallies nD τ sig ℕ := tallyAt (kcell (i.tg c)) i.ix i.un
def Ow (c : Dev nD) (l : List Item) : CellTallies nD τ sig ℕ := (l.map (tal c)).sum

theorem Ow_cons (c : Dev nD) (i : Item) (l : List Item) : Ow c (i :: l) = Ow c l + tal c i := by
  unfold Ow; rw [List.map_cons, List.sum_cons, add_comm]
theorem Ow_nil (c : Dev nD) : Ow c [] = 0 := rfl

def L (g : GSem nD τ sig) : Finset ℕ := if g.1.2 = .tc then {0, 1, 2} else ∅
def lvK (ι : ℕ) : CK → ℕ
  | .bar => 1
  | .cr _ => 2 * ι + 3
  | .snd _ _ _ => 0
  | .rcv _ k _ => 2 * k.val + 2
def lv (g : GSem nD τ sig) (ι : ℕ) : ℕ := (kd g.2).elim 0 (lvK ι)

theorem L_of_ne (g : GSem nD τ sig) (h : g.1.2 ≠ .tc) : L g = ∅ := if_neg h
theorem L_tc (c : Dev nD) (sm : SemLoc sig) : L ((c : Thread nD τ), sm) = {0, 1, 2} := if_pos rfl

theorem lv_item (c : Dev nD) (i : Item) : lv (kcell (i.tg c)) i.ix = i.lvl := by
  unfold lv; dsimp only [kcell]; rw [kd_csl]; cases i <;> rfl
theorem ix_mem (i : Item) : i.ix ∈ ({0, 1, 2} : Finset ℕ) := by
  cases i with
  | bar R => exact Finset.mem_insert_self _ _
  | snd R k h => exact Finset.mem_insert_self _ _
  | cr R s => revert s; show ∀ s : Fin 3, s.val ∈ ({0, 1, 2} : Finset ℕ); decide

theorem Ow_pos {c : Dev nD} {l : List Item} {g : GSem nD τ sig} {ι : ℕ} (h : 0 < Ow c l g ι) :
    ∃ i ∈ l, g = kcell (i.tg c) ∧ ι = i.ix := by
  induction l with
  | nil => exact absurd h (Nat.lt_irrefl 0)
  | cons i l ih =>
    rw [Ow_cons, Pi.add_apply, Finsupp.add_apply] at h
    unfold tal at h
    rw [tallyAt_apply] at h
    by_cases hg : g = kcell (i.tg c) ∧ ι = i.ix
    · exact ⟨i, List.mem_cons_self, hg⟩
    · rw [if_neg hg, Nat.add_zero] at h
      obtain ⟨j, hj, h'⟩ := ih h
      exact ⟨j, List.mem_cons_of_mem _ hj, h'⟩

/-- Every payment in the list is above the level. -/
def above (n : ℕ) (l : List Item) : Bool := l.all fun i => decide (n < i.lvl)

theorem mayWait (c : Dev nD) (sm : SemLoc sig) (ι : ℕ) (hι : ι ∈ ({0, 1, 2} : Finset ℕ)) (l : List Item) (n : ℕ)
    (hn : lv ((c : Thread nD τ), sm) ι ≤ n) (hl : above n l = true) :
    (levAts L lv : sProp 𝕄) ⊢ MayWait (c : Thread nD τ) sm ι (Ow c l) :=
  MayOwe.of_cut (L := L) (lev := lv) n (fun p hp => by rw [Finset.mem_singleton.mp hp, L_tc]; exact hι)
    (fun g u hg => by obtain ⟨i, -, rfl, rfl⟩ := Ow_pos hg; rw [L_tc]; exact ix_mem i)
    (fun p hp => by rw [Finset.mem_singleton.mp hp]; exact hn)
    (fun g u hg => by
      obtain ⟨i, hi, rfl, rfl⟩ := Ow_pos hg
      rw [lv_item]
      exact of_decide_eq_true (List.all_eq_true.mp hl i hi))

def owesW (c : Dev nD) (l : List Item) : sProp 𝕄 := iprop(∃ W, owes (c : Thread nD τ) (Ow c l) W)

/-! ## What every device knows -/

/-- All the cells' invariants, that all the cells are in round 0, and the levels. -/
def know (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)

instance know_persistent (K : Dev nD × CK → ℕ) : BI.Persistent (know m K) := by unfold know; infer_instance

theorem know_inv (K : Dev nD × CK → ℕ) (ck : Dev nD × CK) : (know m K : sProp 𝕄) ⊢ cellInv ER (Rd m) (K ck) (kcell ck) := by
  unfold know
  exact sep_elim_left.trans (bigSep_elim (Finset.mem_univ ck))
theorem know_reached (K : Dev nD × CK → ℕ) (ck : Dev nD × CK) : (know m K : sProp 𝕄) ⊢ reached ER (kcell ck) 0 := by
  unfold know
  exact sep_elim_right.trans (sep_elim_left.trans (bigSep_elim (Finset.mem_univ ck)))
theorem know_lev (K : Dev nD × CK → ℕ) : (know m K : sProp 𝕄) ⊢ levAts L lv := by
  unfold know
  iintro ⟨-, -, H⟩
  iexact H

end Cert.RingProof

end
-- ==== Proof.Steps.lean ====
/-
# The steps, one rule each

For each of the small programs of `Prog`: what a device needs for it and what it holds afterwards.
-/
module

public import proofs.«01_k».proof.Proof.Common

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- Device `c` runs `p`, and then `Q` holds. -/
abbrev WP (c : Dev nD) (p : Pr F) (Q : PUnit → sProp 𝕄) : sProp 𝕄 :=
  wp frame (wpE (defs₀ (F := F)) 𝒱₀ (c : Thread nD τ) none) Set.univ p Q

/-! ## Shapes: a tile and its squeezed view -/

theorem shapeCast_inj {α : Type} {s t : Shape} (h : s.ShapeCasts t) {x y : s.Idx → α} (e : shapeCast t x h = shapeCast t y h) : x = y := by
  funext i
  have := congrFun e ((Shape.reshapeEquiv h).symm i)
  unfold shapeCast at this
  rwa [Equiv.apply_symm_apply] at this

theorem shapeCast_cast {α : Type} {s t : Shape} (h : s.ShapeCasts t) (h' : t.ShapeCasts s) (x : s.Idx → α) : shapeCast s (shapeCast t x h) h' = x := by
  funext i
  unfold shapeCast
  congr 1
  rw [Shape.reshapeEquiv_reshapeEquiv, Shape.reshapeEquiv_self]

variable {n n' : ℕ}

theorem tile_read (M : Memref sig .tc .vmem (SB n) .bf16) (a : Fin n) (h : Fin 4) (f) :
    (tile M (toff a h) (isT a h)).view.read (Elt F) f
      = shapeCast S256x1024 ((M.access (tR (toff a h) (isT a h))).read (Elt F) f) shapeCasts_S1x256x1024_S256x1024 := rfl
theorem stile_read (M : Memref sig .tc .vmem (SS n) .f32) (p : Fin n) (f) :
    (stile M p).view.read (Elt F) f
      = shapeCast S256x1024 ((M.access (sR p)).read (Elt F) f) shapeCasts_S1x256x1024_S256x1024 := rfl
theorem tile_set (M : Memref sig .tc .vmem (SB n) .bf16) (a : Fin n) (h : Fin 4) :
    (tile M (toff a h) (isT a h)).view.set = (M.access (tR (toff a h) (isT a h))).set := View.set_reshape ..
theorem stile_set (M : Memref sig .tc .vmem (SS n) .f32) (p : Fin n) : (stile M p).view.set = (M.access (sR p)).set := View.set_reshape ..

/-- A tile's own form of ownership is its squeezed view's. -/
theorem vt_tile (M : Memref sig .tc .vmem (SB n) .bf16) (c : Dev nD) (q) (a : Fin n) (h : Fin 4) (f) :
    (((tile M (toff a h) (isT a h)).view.loc (c : Thread nD τ) ↦[(tile M (toff a h) (isT a h)).view.set]{q} f) : sProp 𝕄)
      = ((M.access (tR (toff a h) (isT a h))).loc (c : Thread nD τ) ↦[(M.access (tR (toff a h) (isT a h))).set]{q} f) := by
  rw [tile_set]

/-! ## Loads and stores -/

theorem wp_loadP (M : Memref sig .tc .vmem (SB n) .bf16) (c : Dev nD) (q) (a : Fin n) (h : Fin 4) (v : Vec F S1x256x1024 .bf16)
    (k : Vec F S1x256x1024 .bf16 → Pr F) (Q) :
    (vt M c q a h v : sProp 𝕄) ⊢ iprop((vt M c q a h v -∗ WP c (k v) Q) -∗ WP c (loadP M (toff a h) (isT a h) k) Q) := by
  unfold vt loadP
  iintro ⟨%f, %hf, H⟩ Hk
  iapply (wp_load_rect 𝒱₀ (c : Thread nD τ) none Set.univ (m := M) (r := tR (toff a h) (isT a h)) (Finset.Subset.refl _)) $$ H
  iintro H
  rw [hf]
  iapply Hk
  iexists f
  isplitr; · ipureintro; exact hf
  iexact H

theorem wp_loadP_any (M : Memref sig .tc .vmem (SB n) .bf16) (c : Dev nD) (q) (a : Fin n) (h : Fin 4)
    (k : Pr F) (Q) :
    (at_ M c q a h : sProp 𝕄) ⊢ iprop((at_ M c q a h -∗ WP c k Q) -∗ WP c (loadP M (toff a h) (isT a h) fun _ => k) Q) := by
  unfold at_ loadP
  iintro ⟨%f, H⟩ Hk
  iapply (wp_load_rect 𝒱₀ (c : Thread nD τ) none Set.univ (m := M) (r := tR (toff a h) (isT a h)) (Finset.Subset.refl _)) $$ H
  iintro H
  iapply Hk
  iexists f
  iexact H

theorem wp_storeP {M : Memref sig .tc .vmem (SB n) .bf16} (hM : M.IsWhole) (c : Dev nD) (a : Fin n) (h : Fin 4) (v : Vec F S1x256x1024 .bf16)
    (k : Pr F) (Q) :
    (at_ M c fullShare a h : sProp 𝕄) ⊢ iprop((vt M c fullShare a h v -∗ WP c k Q) -∗ WP c (storeP hM (toff a h) (isT a h) v k) Q) := by
  unfold at_ vt storeP
  iintro ⟨%f, H⟩ Hk
  iapply (wp_store 𝒱₀ (c : Thread nD τ) none Set.univ (m := M) (r := tR (toff a h) (isT a h)) (Mk := Finset.univ) (by rw [View.setOn_univ])) $$ H
  iintro H
  iapply Hk
  iexists ((M.access (tR (toff a h) (isT a h))).write (Elt F) f v Finset.univ)
  isplitr
  · ipureintro; exact View.read_write_univ _ _
  iexact H

/-! ## Sends and waits on the rings' cells -/

/-- What a device pays with at send `k` and waits with at its send cell; -/
def toSend (R : Bool) (h : Fin 4) (c : Dev nD) (k : Fin 6) : sProp 𝕄 :=
  iprop(dutyTok ER (kcell (c, .snd R k h)) 0 0 ∗ dutyTok ER (kcell (dst R c, .rcv R k h)) 0 0 ∗ atPos ER (kcell (c, .snd R k h)) 0 ∅ 0)
/-- what is left of it after the send; -/
def sent (R : Bool) (h : Fin 4) (c : Dev nD) (k : Fin 6) : sProp 𝕄 :=
  iprop(cred (tallyAt (kcell (c, .snd R k h)) 0 N) ∗ atPos ER (kcell (c, .snd R k h)) 0 ∅ 0)
/-- what it waits with at its receive cell; -/
def toRecv (R : Bool) (h : Fin 4) (c : Dev nD) (k : Fin 6) : sProp 𝕄 :=
  iprop(cred (tallyAt (kcell (c, .rcv R k h)) 0 N) ∗ atPos ER (kcell (c, .rcv R k h)) 0 ∅ 0)
/-- the two cells closed. -/
def zs (R : Bool) (h : Fin 4) (c : Dev nD) (k : Fin 6) : sProp 𝕄 := semVal (kcell (c, .snd R k h)) 0
def zr (R : Bool) (h : Fin 4) (c : Dev nD) (k : Fin 6) : sProp 𝕄 := semVal (kcell (c, .rcv R k h)) 0

variable (K : Dev nD × CK → ℕ)

theorem wp_sendP {M : Memref sig .tc .vmem (SB n) .bf16} (hM : M.IsWhole) (c : Dev nD) (q) (a : Fin n) (h : Fin 4)
    (R : Bool) (j : Fin 6) (v : Vec F S1x256x1024 .bf16) (hv : v = tv m R h j.val c)
    (hsp : (at_ (F := F) M c q a h : sProp 𝕄) ⊢ sndPay R c h j) (l : List Item) (k : Pr F) (Q) :
    iprop(know m K ∗ vt M c q a h v ∗ at_ (slM R) (dst R c) fullShare (slot j) h ∗ hb c h R j ∗ owesW c (.snd R j h :: l) ∗ toSend R h c j)
      ⊢ iprop(((sent R h c j ∗ owesW c l) -∗ WP c k Q)
        -∗ WP c (sendP hM (toff a h) (isT a h) (slM_whole R) (toff (slot j) h) (isT (slot j) h) (dst R c)
            (semAt (ssA R) (kh j h)) (semAt (rsA R) (kh j h)) k) Q) := by
  unfold vt owesW toSend sent sendP
  rw [Ow_cons]
  conv => lhs; unfold at_
  iintro ⟨#HK, ⟨%fs, %hf, Hs⟩, ⟨%fd, Hd⟩, Hb, ⟨%W, HO⟩, Ht1, Ht2, Hp⟩ Hk
  iapply (Rounds.wp_send_pointsTo_with 𝒱₀ ER (Rd m) (c : Thread nD τ) none (c' := (dst R c : Thread nD τ))
    (src := tile M (toff a h) (isT a h)) (dst := tile (slM R) (toff (slot j) h) (isT (slot j) h))
    (sS := .dma (semAt (ssA R) (kh j h))) (sem := .dma (semAt (rsA R) (kh j h)))
    (κ₁ := K (c, .snd R j h)) (κ₂ := K (dst R c, .rcv R j h)) (q := q) (fs := fs) (fd := fd) (F := hb c h R j)
    (r₁ := 0) (r₂ := 0) (d₁ := 0) (d₂ := 0)
    (by rw [show ((c : Thread nD τ), SemLoc.dma (semAt (ssA R) (kh j h))) = kcell (c, .snd R j h) from rfl, duties_at]; exact Finset.mem_singleton_self _)
    (by rw [show ((dst R c : Thread nD τ), SemLoc.dma (semAt (rsA R) (kh j h))) = kcell (dst R c, .rcv R j h) from rfl, duties_at]; exact Finset.mem_singleton_self _)
    0 0 N (credit_sl R _ _) (amount_at m c (.snd R j h) 0) (amount_at m (dst R c) (.rcv R j h) 0) (Ow c l) rfl (W := W)
    (by
      rw [show ((c : Thread nD τ), SemLoc.dma (semAt (ssA R) (kh j h))) = kcell (c, .snd R j h) from rfl, payload_at, vt_tile]
      refine .trans ?_ hsp
      unfold at_
      iintro H; iexists fs; iexact H)
    (by
      rw [show ((dst R c : Thread nD τ), SemLoc.dma (semAt (rsA R) (kh j h))) = kcell (dst R c, .rcv R j h) from rfl, payload_at, vt_tile]
      show _ ⊢ rcvPay m R (dst R c) h j
      unfold rcvPay vt
      rw [org_dst]
      iintro ⟨H, Hb⟩
      isplitl [H]
      · iexists ((tile (slM R) (toff (slot j) h) (isT (slot j) h)).view.write (Elt F) fd ((tile M (toff a h) (isT a h)).view.read (Elt F) fs) Finset.univ)
        isplitr
        · ipureintro
          refine shapeCast_inj shapeCasts_S1x256x1024_S256x1024 ?_
          rw [← tile_read, View.read_write_univ, tile_read, hf, hv]
        iexact H
      iexact Hb)) $$ [Hs Hd Hb HO Ht1 Ht2]
  · isplitr; · iapply (know_inv m K (c, .snd R j h)); iexact HK
    isplitr; · iapply (know_inv m K (dst R c, .rcv R j h)); iexact HK
    rw [vt_tile, vt_tile]
    isplitl [Hs]; · iexact Hs
    isplitl [Hd Hb]
    · isplitl [Hd]; · iexact Hd
      iexact Hb
    isplitl [HO]; · iexact HO
    isplitl [Ht1]; · iexact Ht1
    isplitr; · iapply (know_reached m K (c, .snd R j h)); iexact HK
    isplitl [Ht2]; · iexact Ht2
    iapply (know_reached m K (dst R c, .rcv R j h)); iexact HK
  iintro ⟨Hc, HO⟩
  iapply Hk
  isplitl [Hc Hp]
  · isplitl [Hc]; · iexact Hc
    iexact Hp
  iexists W; iexact HO

theorem wp_waitP {M : Memref sig .tc .vmem (SB n) .bf16} {hM : M.IsWhole} {o ho} {M' : Memref sig .tc .vmem (SB n') .bf16} {hM' : M'.IsWhole} {o' ho'}
    (hN : (tile M' o' ho').view.dmaCredit = N) (c : Dev nD) (x : CK) (s : DmaSem sig) (hs : csl x = .dma s) (hd : dts x = {0}) (ha : amt x = N)
    (l : List Item) (b : ℕ) (hb : lvK 0 x ≤ b) (hl : above b l = true) (k : Pr F) (Q) :
    iprop(know m K ∗ cred (tallyAt (kcell (c, x)) 0 N) ∗ atPos ER (kcell (c, x)) 0 ∅ 0 ∗ owesW c l)
      ⊢ iprop(((pay m c 0 x ∗ semVal (kcell (c, x)) 0 ∗ owesW c l) -∗ WP c k Q) -∗ WP c (waitP hM o ho hM' o' ho' s k) Q) := by
  unfold owesW waitP
  have hg : kcell (c, x) = ((c : Thread nD τ), SemLoc.dma s) := by rw [← hs]
  have hI := know_inv m K (c, x)
  have hD := duties_at m c x
  have hP := payload_at m c x 0
  have hE := expect_at m c x
  have hlv : lv (kcell (c, x)) 0 ≤ b := by unfold lv; dsimp only [kcell]; rw [kd_csl]; exact hb
  rw [hg] at hI hD hP hE hlv ⊢
  rw [hd, ha, Finset.card_singleton, Nat.one_mul] at hE
  iintro ⟨#HK, Hc, Hp, ⟨%W, HO⟩⟩ Hk
  iapply (Rounds.wp_wait_rest_token 𝒱₀ ER (Rd m) (c : Thread nD τ) none (κ := K (c, x))
      (wpE_waitDma2_eq 𝒱₀ (c : Thread nD τ) none Set.univ) (Set.mem_univ _) 0 (O := Ow c l) (W := W) (R := 0) (m := 0) (T := ∅)
      (by rw [hE, hN, Nat.zero_add])) $$ [Hc HO Hp]
  · isplitr; · iapply hI; iexact HK
    isplitl [Hc]; · rw [hN]; iexact Hc
    isplitl [HO]; · iexact HO
    isplitr
    · iapply (mayWait (F := F) c (.dma s) 0 (Finset.mem_insert_self _ _) l b hlv hl)
      iapply (know_lev m K); iexact HK
    iexact Hp
  iintro ⟨HO, Hp, -, Hpay⟩
  imod (Rounds.cell_close ER (Rd m) (Set.mem_univ (K (c, x))) (fun h => h) (R := 0 + 1) (duties_later m _)) $$ [Hp] with Hz
  · isplitr; · iapply hI; iexact HK
    iexact Hp
  iapply Hk
  isplitl [Hpay]
  · iapply (Entails.of_eq (show bigSep ((Rd m).duties ((c : Thread nD τ), SemLoc.dma s) 0 \ ∅) (fun d => (Rd m).payload ((c : Thread nD τ), SemLoc.dma s) 0 d)
      = pay m c 0 x by rw [Finset.sdiff_empty, hD, hd, bigSep_singleton, hP]))
    iexact Hpay
  isplitl [Hz]; · iexact Hz
  iexists _; iexact HO

/-! ## The staging tiles -/

/-- Device `c` holds staging tile `p`, with `v` in it; -/
def st (M : Memref sig .tc .vmem (SS n) .f32) (c : Dev nD) (p : Fin n) (v : Vec F S1x256x1024 .f32) : sProp 𝕄 :=
  iprop(∃ f : Buf (Elt F) ((M.access (sR p)).loc (c : Thread nD τ)), ⌜(M.access (sR p)).read (Elt F) f = v⌝
      ∗ ((M.access (sR p)).loc (c : Thread nD τ) ↦[(M.access (sR p)).set]{fullShare} f))
/-- whatever is in it. -/
def sa (M : Memref sig .tc .vmem (SS n) .f32) (c : Dev nD) (p : Fin n) : sProp 𝕄 :=
  iprop(∃ f : Buf (Elt F) ((M.access (sR p)).loc (c : Thread nD τ)),
    (M.access (sR p)).loc (c : Thread nD τ) ↦[(M.access (sR p)).set]{fullShare} f)

theorem st_sa (M : Memref sig .tc .vmem (SS n) .f32) (c : Dev nD) (p : Fin n) (v : Vec F S1x256x1024 .f32) : (st M c p v : sProp 𝕄) ⊢ sa M c p := by
  unfold st sa
  iintro ⟨%f, -, H⟩
  iexists f; iexact H

theorem vs_tile (M : Memref sig .tc .vmem (SS n) .f32) (c : Dev nD) (p : Fin n) (f) :
    (((stile M p).view.loc (c : Thread nD τ) ↦[(stile M p).view.set]{fullShare} f) : sProp 𝕄)
      = ((M.access (sR p)).loc (c : Thread nD τ) ↦[(M.access (sR p)).set]{fullShare} f) := by
  rw [stile_set]

theorem wp_loadS (M : Memref sig .tc .vmem (SS n) .f32) (c : Dev nD) (p : Fin n) (v : Vec F S1x256x1024 .f32) (k : Vec F S1x256x1024 .f32 → Pr F) (Q) :
    (st M c p v : sProp 𝕄) ⊢ iprop((st M c p v -∗ WP c (k v) Q) -∗ WP c (loadS M p k) Q) := by
  unfold st loadS
  iintro ⟨%f, %hf, H⟩ Hk
  iapply (wp_load_rect 𝒱₀ (c : Thread nD τ) none Set.univ (m := M) (r := sR p) (Finset.Subset.refl _)) $$ H
  iintro H
  rw [hf]
  iapply Hk
  iexists f
  isplitr; · ipureintro; exact hf
  iexact H

theorem wp_loadS_any (M : Memref sig .tc .vmem (SS n) .f32) (c : Dev nD) (p : Fin n) (k : Pr F) (Q) :
    (sa M c p : sProp 𝕄) ⊢ iprop((sa M c p -∗ WP c k Q) -∗ WP c (loadS M p fun _ => k) Q) := by
  unfold sa loadS
  iintro ⟨%f, H⟩ Hk
  iapply (wp_load_rect 𝒱₀ (c : Thread nD τ) none Set.univ (m := M) (r := sR p) (Finset.Subset.refl _)) $$ H
  iintro H
  iapply Hk
  iexists f
  iexact H

theorem wp_storeS (M : Memref sig .tc .vmem (SS n) .f32) (c : Dev nD) (p : Fin n) (v : Vec F S1x256x1024 .f32) (k : Pr F) (Q) :
    (sa M c p : sProp 𝕄) ⊢ iprop((st M c p v -∗ WP c k Q) -∗ WP c (storeS M p v k) Q) := by
  unfold sa st storeS
  iintro ⟨%f, H⟩ Hk
  iapply (wp_store 𝒱₀ (c : Thread nD τ) none Set.univ (m := M) (r := sR p) (Mk := Finset.univ) (by rw [View.setOn_univ])) $$ H
  iintro H
  iapply Hk
  iexists ((M.access (sR p)).write (Elt F) f v Finset.univ)
  isplitr
  · ipureintro; exact View.read_write_univ _ _
  iexact H

/-! ## The copies within a device -/

/-- Block `b` of the argument, as launched; -/
def xp (c : Dev nD) (b : Fin 4 × Fin 4) : sProp 𝕄 :=
  iprop((xT (xoff b) ⟨b, rfl⟩).view.loc (c : Thread nD τ) ↦[(xT (xoff b) ⟨b, rfl⟩).view.set]{fullShare} m ((c : Thread nD τ).loc main_arg0))
/-- its copy to staging tile `h`, under way. -/
def xfl (c : Dev nD) (b : Fin 4 × Fin 4) (h : Fin 4) : sProp 𝕄 :=
  iprop(∃ fd : Buf (Elt F) ((stile xsM h).view.loc (c : Thread nD τ)),
    Flight EC (c : Thread nD τ) (.dma (semAt xsA h)) 0 (stile xsM h).view.dmaCredit
      iprop(((stile xsM h).view.loc (c : Thread nD τ) ↦[(stile xsM h).view.set]{fullShare}
          ((stile xsM h).view.write (Elt F) fd ((xT (xoff b) ⟨b, rfl⟩).view.read (Elt F) (m ((c : Thread nD τ).loc main_arg0))) Finset.univ))
        ∗ ((xT (xoff b) ⟨b, rfl⟩).view.loc (c : Thread nD τ) ↦[(xT (xoff b) ⟨b, rfl⟩).view.set]{fullShare} m ((c : Thread nD τ).loc main_arg0))))
/-- The counter of its semaphore. -/
def xz (c : Dev nD) (h : Fin 4) : sProp 𝕄 := semVal ((c : Thread nD τ), .dma (semAt xsA h)) 0

theorem wp_xStart (c : Dev nD) (b : Fin 4 × Fin 4) (h : Fin 4) (k : Pr F) (Q) :
    iprop(xp m c b ∗ sa xsM c h ∗ xz c h)
      ⊢ iprop((xfl m c b h -∗ WP c k Q) -∗ WP c (xStart (xoff b) ⟨b, rfl⟩ h k) Q) := by
  unfold xp sa xz xfl xStart
  iintro ⟨Hx, ⟨%fd, Hs⟩, Hz⟩ Hk
  ihave Hs := (Entails.of_eq (vs_tile (F := F) xsM c h fd).symm) $$ Hs
  iapply (wp_dmaLocal EC 𝒱₀ (c : Thread nD τ) none (src := xT (xoff b) ⟨b, rfl⟩) (dst := stile xsM h) (fd := fd)
    0 (stile xsM h).view.dmaCredit rfl (View.dmaCredit_pos _ (by decide)) (Finset.Subset.refl _)) $$ [Hx Hs Hz]
  · isplitl [Hx]; · iexact Hx
    isplitl [Hs]; · iexact Hs
    iexact Hz
  iintro H
  iapply Hk
  iexists fd
  iexact H

variable (K : Dev nD × CK → ℕ)

theorem kd_loc (c : Dev nD) (q : DmaSem sig) (hq : 96 ≤ q.val) : lv ((c : Thread nD τ), .dma q) 0 ≤ 0 := by
  unfold lv kd
  dsimp only
  rw [if_neg (by omega), if_neg (by omega), if_neg (by omega), if_neg (by omega)]
  exact Nat.le_refl 0

theorem xs_ge : ∀ h : Fin 4, 96 ≤ (semAt xsA h).val := by decide
theorem cs_ge : ∀ (R : Bool) (p : Fin 2), 96 ≤ (semAt (csA R) p).val := by decide

theorem wp_xWait (c : Dev nD) (b : Fin 4 × Fin 4) (h : Fin 4) (l : List Item) (hl : above 0 l = true) (k : Pr F) (Q) :
    iprop(know m K ∗ xfl m c b h ∗ owesW c l)
      ⊢ iprop(((xp m c b ∗ st xsM c h (xv m c b) ∗ xz c h ∗ owesW c l) -∗ WP c k Q) -∗ WP c (xWait (xoff b) ⟨b, rfl⟩ h k) Q) := by
  unfold xp st xz xfl xWait owesW
  iintro ⟨#HK, ⟨%fd, Hf⟩, ⟨%W, HO⟩⟩ Hk
  iapply (wp_waitLocalO EC 𝒱₀ (c : Thread nD τ) none (srcw := xT (xoff b) ⟨b, rfl⟩) (dstw := stile xsM h) 0 rfl (O := Ow c l) (W := W)) $$ [Hf HO]
  · isplitl [Hf]; · iexact Hf
    isplitl [HO]; · iexact HO
    iapply (mayWait (F := F) c (.dma (semAt xsA h)) 0 (Finset.mem_insert_self _ _) l 0 (kd_loc c _ (xs_ge h)) hl)
    iapply (know_lev m K); iexact HK
  iintro ⟨⟨Hs, Hx⟩, Hz, HO⟩
  iapply Hk
  isplitl [Hx]; · iexact Hx
  isplitl [Hs]
  · iexists ((stile xsM h).view.write (Elt F) fd ((xT (xoff b) ⟨b, rfl⟩).view.read (Elt F) (m ((c : Thread nD τ).loc main_arg0))) Finset.univ)
    isplitr
    · ipureintro
      refine shapeCast_inj shapeCasts_S1x256x1024_S256x1024 ?_
      rw [← stile_read, View.read_write_univ]
      unfold xv
      rw [shapeCast_cast]
    iapply (Entails.of_eq (vs_tile (F := F) xsM c h _)); iexact Hs
  isplitl [Hz]; · iexact Hz
  iexists _; iexact HO

/-- Block `b` of half `R` of the result, with `v` in it; -/
def ov (c : Dev nD) (R : Bool) (b : Fin 4 × Fin 4) (v : FVec F S256x1024 .f32) : sProp 𝕄 :=
  iprop(∃ f : Buf (Elt F) ((oT (ooff R b) ⟨b, rfl⟩).view.loc (c : Thread nD τ)), ⌜(oT (ooff R b) ⟨b, rfl⟩).view.read (Elt F) f = v⌝
    ∗ ((oT (ooff R b) ⟨b, rfl⟩).view.loc (c : Thread nD τ) ↦[(oT (ooff R b) ⟨b, rfl⟩).view.set]{fullShare} f))
/-- whatever is in it; -/
def oa (c : Dev nD) (R : Bool) (b : Fin 4 × Fin 4) : sProp 𝕄 :=
  iprop(∃ f : Buf (Elt F) ((oT (ooff R b) ⟨b, rfl⟩).view.loc (c : Thread nD τ)),
    (oT (ooff R b) ⟨b, rfl⟩).view.loc (c : Thread nD τ) ↦[(oT (ooff R b) ⟨b, rfl⟩).view.set]{fullShare} f)
/-- its copy from staging tile `p`, under way. -/
def ofl (c : Dev nD) (R : Bool) (p : Fin 2) (b : Fin 4 × Fin 4) (v : FVec F S256x1024 .f32) : sProp 𝕄 :=
  iprop(∃ (fs : Buf (Elt F) ((stile (stM R) p).view.loc (c : Thread nD τ))) (fd : Buf (Elt F) ((oT (ooff R b) ⟨b, rfl⟩).view.loc (c : Thread nD τ))),
    ⌜(stile (stM R) p).view.read (Elt F) fs = v⌝
    ∗ Flight EC (c : Thread nD τ) (.dma (semAt (csA R) p)) 0 (oT (ooff R b) ⟨b, rfl⟩).view.dmaCredit
      iprop(((oT (ooff R b) ⟨b, rfl⟩).view.loc (c : Thread nD τ) ↦[(oT (ooff R b) ⟨b, rfl⟩).view.set]{fullShare}
          ((oT (ooff R b) ⟨b, rfl⟩).view.write (Elt F) fd ((stile (stM R) p).view.read (Elt F) fs) Finset.univ))
        ∗ ((stile (stM R) p).view.loc (c : Thread nD τ) ↦[(stile (stM R) p).view.set]{fullShare} fs)))
def oz (c : Dev nD) (R : Bool) (p : Fin 2) : sProp 𝕄 := semVal ((c : Thread nD τ), .dma (semAt (csA R) p)) 0

theorem wp_oStart (c : Dev nD) (R : Bool) (p : Fin 2) (b : Fin 4 × Fin 4) (g : FVec F S256x1024 .f32) (k : Pr F) (Q) :
    iprop(st (stM R) c p (castP g) ∗ oa c R b ∗ oz c R p)
      ⊢ iprop((ofl c R p b g -∗ WP c k Q) -∗ WP c (oStart R p (ooff R b) ⟨b, rfl⟩ k) Q) := by
  unfold st oa oz ofl oStart
  iintro ⟨⟨%fs, %hf, Hs⟩, ⟨%fd, Hd⟩, Hz⟩ Hk
  ihave Hs := (Entails.of_eq (vs_tile (F := F) (stM R) c p fs).symm) $$ Hs
  iapply (wp_dmaLocal EC 𝒱₀ (c : Thread nD τ) none (src := stile (stM R) p) (dst := oT (ooff R b) ⟨b, rfl⟩) (fd := fd) (fs := fs)
    0 (oT (ooff R b) ⟨b, rfl⟩).view.dmaCredit rfl (View.dmaCredit_pos _ (by decide)) (Finset.Subset.refl _)) $$ [Hs Hd Hz]
  · isplitl [Hs]; · iexact Hs
    isplitl [Hd]; · iexact Hd
    iexact Hz
  iintro H
  iapply Hk
  iexists fs, fd
  isplitr
  · ipureintro
    rw [stile_read, hf]
    exact shapeCast_cast _ _ _
  iexact H

theorem wp_oWait (c : Dev nD) (R : Bool) (p : Fin 2) (b : Fin 4 × Fin 4) (g : FVec F S256x1024 .f32) (l : List Item) (hl : above 0 l = true) (k : Pr F) (Q) :
    iprop(know m K ∗ ofl c R p b g ∗ owesW c l)
      ⊢ iprop(((ov c R b g ∗ sa (stM R) c p ∗ oz c R p ∗ owesW c l) -∗ WP c k Q) -∗ WP c (oWait R p (ooff R b) ⟨b, rfl⟩ k) Q) := by
  unfold ov sa oz ofl oWait owesW
  iintro ⟨#HK, ⟨%fs, %fd, %hf, Hf⟩, ⟨%W, HO⟩⟩ Hk
  iapply (wp_waitLocalO EC 𝒱₀ (c : Thread nD τ) none (srcw := stile (stM R) p) (dstw := oT (ooff R b) ⟨b, rfl⟩) 0 rfl (O := Ow c l) (W := W)) $$ [Hf HO]
  · isplitl [Hf]; · iexact Hf
    isplitl [HO]; · iexact HO
    iapply (mayWait (F := F) c (.dma (semAt (csA R) p)) 0 (Finset.mem_insert_self _ _) l 0 (kd_loc c _ (cs_ge R p)) hl)
    iapply (know_lev m K); iexact HK
  iintro ⟨⟨Ho, Hs⟩, Hz, HO⟩
  iapply Hk
  isplitl [Ho]
  · iexists ((oT (ooff R b) ⟨b, rfl⟩).view.write (Elt F) fd ((stile (stM R) p).view.read (Elt F) fs) Finset.univ)
    isplitr
    · ipureintro
      rw [View.read_write_univ, hf]
    iexact Ho
  isplitl [Hs]
  · iexists fs
    iapply (Entails.of_eq (vs_tile (F := F) (stM R) c p fs)); iexact Hs
  isplitl [Hz]; · iexact Hz
  iexists _; iexact HO

/-! ## The weights -/

def wp0 (c : Dev nD) : sProp 𝕄 := iprop(((c : Thread nD τ).loc main_arg1) ↦{fullShare} m ((c : Thread nD τ).loc main_arg1))
def wbv (c : Dev nD) (v : Vec F S1024x2048 .bf16) : sProp 𝕄 :=
  iprop(∃ f : Buf (Elt F) ((c : Thread nD τ).loc cc0_scratch6), ⌜f = v⌝ ∗ (((c : Thread nD τ).loc cc0_scratch6) ↦{fullShare} f))

theorem hz2 : (![0, 0] : Fin 2 → Nat) = fun _ => 0 := funext fun a => by fin_cases a <;> rfl

theorem wp_loadW (c : Dev nD) (v : Vec F S1024x2048 .bf16) (k : Vec F S1024x2048 .bf16 → Pr F) (Q) :
    (wbv c v : sProp 𝕄) ⊢ iprop((wbv c v -∗ WP c (k v) Q) -∗ WP c (loadW k) Q) := by
  unfold wbv loadW
  iintro ⟨%f, %hf, H⟩ Hk
  iapply (wp_load 𝒱₀ (c : Thread nD τ) none Set.univ (m := wbM) (Finset.subset_univ _)) $$ H
  iintro H
  rw [show wbM.view.readAt (Elt F) (Rect.unit (s := S1024x2048) ![0, 0] S1024x2048.size inb_S1024x2048_S1024x2048_0_0).toLoadRect f = v from
    (Memref.readAt_unit_zero (Elt F) cc0_scratch6 hz2 _ f).trans hf]
  iapply Hk
  iexists f
  isplitr; · ipureintro; exact hf
  iexact H

/-! ## Signals and waits on regular semaphores -/

theorem wp_sigBar (c : Dev nD) (R : Bool) (l : List Item) (k : Pr F) (Q) :
    iprop(know m K ∗ owesW c (.bar R :: l) ∗ dutyTok ER (kcell (dst (!R) c, .bar)) 0 (bd R)
        ∗ bigSep Finset.univ fun x : Fin 3 × Fin 4 => at_ (F := F) (slM R) c fullShare x.1 x.2)
      ⊢ iprop((owesW c l -∗ WP c k Q) -∗ WP c (sigP (dst (!R) c) barS k) Q) := by
  unfold owesW sigP
  rw [Ow_cons, show (1#32).toInt = ((1 : ℕ) : ℤ) from rfl]
  iintro ⟨#HK, ⟨%W, HO⟩, Ht, Hp⟩ Hk
  iapply (Rounds.wp_signal 𝒱₀ ER (Rd m) (c : Thread nD τ) none (dst := (dst (!R) c : Thread nD τ)) (κ := K (dst (!R) c, .bar))
      (d := bd R) (r := 0) (k' := 1)
      (by rw [show ((dst (!R) c : Thread nD τ), SemLoc.reg barS) = kcell (dst (!R) c, .bar) from rfl, duties_at]; revert R; decide)
      (amount_at m (dst (!R) c) .bar (bd R)) 0 (Ow c l) rfl (W := W)) $$ [HO Ht Hp]
  · isplitr; · iapply (know_inv m K (dst (!R) c, .bar)); iexact HK
    isplitl [HO]; · iexact HO
    isplitl [Ht]; · iexact Ht
    isplitl [Hp]
    · iapply (Entails.of_eq (show bigSep Finset.univ (fun x : Fin 3 × Fin 4 => at_ (F := F) (slM R) c fullShare x.1 x.2)
          = (Rd m).payload ((dst (!R) c : Thread nD τ), SemLoc.reg barS) 0 (bd R) by
        refine .trans ?_ (payload_at m (dst (!R) c) .bar (bd R)).symm
        have h : barPay (F := F) R (dst (!R) c) = pay m (dst (!R) c) (bd R) .bar := by
          cases R <;> rfl
        rw [← h]
        unfold barPay
        rw [dst_not, dst_org]))
      iexact Hp
    iapply (know_reached m K (dst (!R) c, .bar)); iexact HK
  iintro HO
  iapply Hk
  iexists W; iexact HO

theorem wp_sigCr (c : Dev nD) (R : Bool) (s : Fin 3) (l : List Item) (k : Pr F) (Q) :
    iprop(know m K ∗ owesW c (.cr R s :: l) ∗ dutyTok ER (kcell (org R c, .cr R)) 0 s)
      ⊢ iprop((owesW c l -∗ WP c k Q) -∗ WP c (sigP (org R c) (crS R) k) Q) := by
  unfold owesW sigP
  rw [Ow_cons, show (1#32).toInt = ((1 : ℕ) : ℤ) from rfl]
  iintro ⟨#HK, ⟨%W, HO⟩, Ht⟩ Hk
  iapply (Rounds.wp_signal 𝒱₀ ER (Rd m) (c : Thread nD τ) none (dst := (org R c : Thread nD τ)) (κ := K (org R c, .cr R))
      (d := s) (r := 0) (k' := 1)
      (by rw [show ((org R c : Thread nD τ), SemLoc.reg (crS R)) = kcell (org R c, .cr R) from rfl, duties_at]; revert s; show ∀ s : Fin 3, s ∈ ({0, 1, 2} : Finset (Fin 3)); decide)
      (amount_at m (org R c) (.cr R) s) s.val (Ow c l) rfl (W := W)) $$ [HO Ht]
  · isplitr; · iapply (know_inv m K (org R c, .cr R)); iexact HK
    isplitl [HO]; · iexact HO
    isplitl [Ht]; · iexact Ht
    isplitr
    · iapply (Entails.of_eq (show iprop(emp) = (Rd m).payload ((org R c : Thread nD τ), SemLoc.reg (crS R)) 0 s from (payload_at m (org R c) (.cr R) s).symm))
      iempintro
    iapply (know_reached m K (org R c, .cr R)); iexact HK
  iintro HO
  iapply Hk
  iexists W; iexact HO

/-- The wait for both neighbours: their slots come with it. -/
theorem wp_waitBar (c : Dev nD) (l : List Item) (hl : above 1 l = true) (k : Pr F) (Q) :
    iprop(know m K ∗ cred (tallyAt (kcell (c, .bar)) 0 2) ∗ atPos ER (kcell (c, .bar)) 0 ∅ 0 ∗ owesW c l)
      ⊢ iprop(((barPay false c ∗ barPay true c ∗ semVal (kcell (c, .bar)) 0 ∗ owesW c l) -∗ WP c k Q) -∗ WP c (swP barS 2#32 k) Q) := by
  unfold owesW swP
  rw [show (2#32).toInt = ((2 : ℕ) : ℤ) from rfl]
  iintro ⟨#HK, Hc, Hp, ⟨%W, HO⟩⟩ Hk
  iapply (Rounds.wp_wait_rest_token 𝒱₀ ER (Rd m) (c : Thread nD τ) none (κ := K (c, .bar))
      (wpE_semWait_eq 𝒱₀ (c : Thread nD τ) none Set.univ) (Set.mem_univ _) 0 (O := Ow c l) (W := W) (R := 0) (m := 0) (T := ∅)
      ((show 0 + 2 = 2 * 1 from rfl).trans (expect_at m c .bar).symm)) $$ [Hc HO Hp]
  · isplitr; · iapply (know_inv m K (c, .bar)); iexact HK
    isplitl [Hc]; · iexact Hc
    isplitl [HO]; · iexact HO
    isplitr
    · iapply (mayWait (F := F) c (.reg barS) 0 (Finset.mem_insert_self _ _) l 1 (Nat.le_refl 1) hl)
      iapply (know_lev m K); iexact HK
    iexact Hp
  iintro ⟨HO, Hp, -, Hpay⟩
  imod (Rounds.cell_close ER (Rd m) (Set.mem_univ (K (c, .bar))) (fun h => h) (R := 0 + 1) (duties_later m _)) $$ [Hp] with Hz
  · isplitr; · iapply (know_inv m K (c, .bar)); iexact HK
    iexact Hp
  ihave Hpay := (Entails.of_eq (show bigSep ((Rd m).duties ((c : Thread nD τ), SemLoc.reg barS) 0 \ ∅) (fun d => (Rd m).payload ((c : Thread nD τ), SemLoc.reg barS) 0 d)
      = iprop(barPay false c ∗ barPay true c) by
    show bigSep ((Rd m).duties (kcell (c, .bar)) 0 \ ∅) (fun d => (Rd m).payload (kcell (c, .bar)) 0 d) = _
    rw [Finset.sdiff_empty, duties_at, bigSep_eq_bigSepL_of_eq [0, 1] (by decide) (by decide), bigSepL_cons_cons, bigSepL_singleton, payload_at, payload_at]
    rfl)) $$ Hpay
  icases Hpay with ⟨H1, H2⟩
  iapply Hk
  isplitl [H1]; · iexact H1
  isplitl [H2]; · iexact H2
  isplitl [Hz]; · iexact Hz
  iexists _; iexact HO

/-- A device's credit cell after `j` of its waits. -/
def crAt (R : Bool) (c : Dev nD) (j : ℕ) : sProp 𝕄 := iprop(∃ T, atPos ER (kcell (c, .cr R)) 0 T j)

theorem wp_waitCr (c : Dev nD) (R : Bool) (s : ℕ) (hs : s < 2) (l : List Item) (hl : above (2 * s + 3) l = true) (k : Pr F) (Q) :
    iprop(know m K ∗ cred (tallyAt (kcell (c, .cr R)) s 1) ∗ crAt R c s ∗ owesW c l)
      ⊢ iprop(((crAt R c (s + 1) ∗ owesW c l) -∗ WP c k Q) -∗ WP c (swP (crS R) 1#32 k) Q) := by
  unfold owesW swP crAt
  rw [show (1#32).toInt = ((1 : ℕ) : ℤ) from rfl]
  iintro ⟨#HK, Hc, ⟨%T, Hp⟩, ⟨%W, HO⟩⟩ Hk
  iapply (Rounds.wp_wait 𝒱₀ ER (Rd m) (c : Thread nD τ) none (κ := K (c, .cr R))
      (wpE_semWait_eq 𝒱₀ (c : Thread nD τ) none Set.univ) (Set.mem_univ _) (cr := Finsupp.single s 1) (O := Ow c l) (W := W)
      {(SemLoc.reg (crS R), s)} (R := 0) (m := s) (T := T)
      (Finsupp.sum_single_index rfl) (by
        rw [Finsupp.support_single_ne_zero _ Nat.one_ne_zero, Finset.image_singleton])) $$ [Hc HO Hp]
  · isplitr; · iapply (know_inv m K (c, .cr R)); iexact HK
    isplitl [Hc]; · iexact Hc
    isplitl [HO]; · iexact HO
    isplitr
    · iapply (mayWait (F := F) c (.reg (crS R)) s (by rcases s with _ | _ | s <;> first | decide | omega) l (2 * s + 3) (by cases R <;> exact Nat.le_refl _) hl)
      iapply (know_lev m K); iexact HK
    iexact Hp
  iintro %S ⟨-, HO, Hp, -⟩
  iapply Hk
  isplitl [Hp]
  · iexists S; iexact Hp
  iexists _; iexact HO

theorem wp_waitCrLast (c : Dev nD) (R : Bool) (l : List Item) (hl : above 7 l = true) (k : Pr F) (Q) :
    iprop(know m K ∗ cred (tallyAt (kcell (c, .cr R)) 2 1) ∗ crAt R c 2 ∗ owesW c l)
      ⊢ iprop(((semVal (kcell (c, .cr R)) 0 ∗ owesW c l) -∗ WP c k Q) -∗ WP c (swP (crS R) 1#32 k) Q) := by
  unfold owesW swP crAt
  rw [show (1#32).toInt = ((1 : ℕ) : ℤ) from rfl]
  iintro ⟨#HK, Hc, ⟨%T, Hp⟩, ⟨%W, HO⟩⟩ Hk
  iapply (Rounds.wp_wait_rest_token 𝒱₀ ER (Rd m) (c : Thread nD τ) none (κ := K (c, .cr R))
      (wpE_semWait_eq 𝒱₀ (c : Thread nD τ) none Set.univ) (Set.mem_univ _) 2 (O := Ow c l) (W := W) (R := 0) (m := 2) (T := T)
      ((show 2 + 1 = 3 * 1 from rfl).trans (expect_at m c (.cr R)).symm)) $$ [Hc HO Hp]
  · isplitr; · iapply (know_inv m K (c, .cr R)); iexact HK
    isplitl [Hc]; · iexact Hc
    isplitl [HO]; · iexact HO
    isplitr
    · iapply (mayWait (F := F) c (.reg (crS R)) 2 (by decide) l 7 (by cases R <;> exact Nat.le_refl _) hl)
      iapply (know_lev m K); iexact HK
    iexact Hp
  iintro ⟨HO, Hp, -, -⟩
  imod (Rounds.cell_close ER (Rd m) (Set.mem_univ (K (c, .cr R))) (fun h => h) (R := 0 + 1) (duties_later m _)) $$ [Hp] with Hz
  · isplitr; · iapply (know_inv m K (c, .cr R)); iexact HK
    iexact Hp
  iapply Hk
  isplitl [Hz]; · iexact Hz
  iexists _; iexact HO

end Cert.RingProof

end
-- ==== Proof.Stages.lean ====
/-
# The stages of the body

A device works in four lanes, one per row block `h`; a lane never touches another lane's tiles. `lane0` ... `lane6` are what
a lane holds between the stages, and each stage's rule takes one to the next.
-/
module

public import proofs.«01_k».proof.Proof.Steps

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (c : Dev nD) (h : Fin 4)

/-! ## Step numbers as indices of the other kinds -/

abbrev u46 (k : Fin 4) : Fin 6 := ⟨k.val, by omega⟩
abbrev u24 (s : Fin 2) : Fin 4 := ⟨s.val, by omega⟩
abbrev u26 (k : Fin 2) : Fin 6 := ⟨k.val + 4, by omega⟩
abbrev u23 (s : Fin 2) : Fin 3 := ⟨s.val, by omega⟩
abbrev w24 (s : Fin 2) : Fin 4 := ⟨s.val + 1, by omega⟩

/-! ## A ring's sends and receives -/

theorem sndPay_A (R : Bool) (k : Fin 4) (j : Fin 6) (hj : j.val = k.val) :
    (at_ (F := F) (pbM R) c fullShare (sch R c k) h : sProp 𝕄) ⊢ sndPay R c h j := by
  obtain rfl : j = u46 k := Fin.ext hj
  fin_cases k <;> exact BI.Entails.refl _
theorem sndPay_B (R : Bool) (k : Fin 2) (j : Fin 6) (hj : j.val = k.val + 4) :
    (at_ (F := F) (slM R) c fullShare.left ⟨k.val, by omega⟩ h : sProp 𝕄) ⊢ sndPay R c h j := by
  obtain rfl : j = u26 k := Fin.ext hj
  fin_cases k <;> exact BI.Entails.refl _

theorem wp_sendA (R : Bool) (k : Fin 4) (j : Fin 6) (hj : j.val = k.val) (a : Fin 3) (ha : a = slot j) (v : Vec F S1x256x1024 .bf16)
    (hv : v = tv m R h k.val c) (l : List Item) (kk : Pr F) (Q) :
    iprop(know m K ∗ vt (pbM R) c fullShare (sch R c k) h v ∗ at_ (slM R) (dst R c) fullShare a h ∗ hb c h R j
        ∗ owesW c (.snd R j h :: l) ∗ toSend R h c j)
      ⊢ iprop(((sent R h c j ∗ owesW c l) -∗ WP c kk Q) -∗ WP c (sendA (ctab c) R k h kk) Q) := by
  subst ha
  obtain rfl : j = u46 k := Fin.ext hj
  exact wp_sendP m K (pbM_whole R) c fullShare (sch R c k) h R _ v hv (sndPay_A c h R k _ rfl) l kk Q

theorem wp_sendB (R : Bool) (k : Fin 2) (j : Fin 6) (hj : j.val = k.val + 4) (a a' : Fin 3) (ha : a.val = k.val) (ha' : a'.val = k.val + 1)
    (v : Vec F S1x256x1024 .bf16) (hv : v = tv m R h (k.val + 4) c) (l : List Item) (kk : Pr F) (Q) :
    iprop(know m K ∗ vt (slM R) c fullShare.left a h v ∗ at_ (slM R) (dst R c) fullShare a' h ∗ hb c h R j
        ∗ owesW c (.snd R j h :: l) ∗ toSend R h c j)
      ⊢ iprop(((sent R h c j ∗ owesW c l) -∗ WP c kk Q) -∗ WP c (sendB (ctab c) R k h kk) Q) := by
  obtain rfl : a = u23 k := Fin.ext ha
  obtain rfl : j = u26 k := Fin.ext hj
  obtain rfl : a' = slot (u26 k) := Fin.ext (by show a'.val = (k.val + 4) % 3; omega)
  have h2 := sndPay_B (F := F) c h R k (u26 k) rfl
  revert hv h2
  fin_cases k <;> (intro hv h2; exact wp_sendP m K (slM_whole R) c fullShare.left _ h R _ v hv h2 l kk Q)

theorem wp_recvA (R : Bool) (k : Fin 4) (j : Fin 6) (hj : j.val = k.val) (a : Fin 3) (ha : a = slot j) (b : ℕ) (hbk : 2 * k.val + 2 = b)
    (l : List Item) (hl : above b l = true) (kk : Pr F) (Q) :
    iprop(know m K ∗ toRecv R h c j ∗ owesW c l)
      ⊢ iprop(((vt (slM R) c fullShare a h (tv m R h k.val (org R c)) ∗ hb (org R c) h R j ∗ zr R h c j ∗ owesW c l) -∗ WP c kk Q)
        -∗ WP c (recvA (ctab c) R k h kk) Q) := by
  subst ha
  obtain rfl : j = u46 k := Fin.ext hj
  unfold toRecv zr
  iintro ⟨#HK, ⟨Hc, Hp⟩, HO⟩ Hk
  iapply (wp_waitP m K (hM := pbM_whole R) (hM' := slM_whole R) (credit_sl R _ _) c (.rcv R (u46 k) h) _ rfl rfl rfl l b (Nat.le_of_eq hbk) hl kk Q) $$ [Hc Hp HO]
  · isplitr; · iexact HK
    isplitl [Hc]; · iexact Hc
    isplitl [Hp] <;> iassumption
  iintro ⟨Hpay, Hz, HO⟩
  ihave Hpay := (Entails.of_eq (show pay m c 0 (.rcv R (u46 k) h) = rcvPay m R c h ⟨k.val, by omega⟩ from rfl)) $$ Hpay
  unfold rcvPay
  icases Hpay with ⟨Hv, Hb⟩
  iapply Hk
  isplitl [Hv]; · iexact Hv
  isplitl [Hb]; · iexact Hb
  isplitl [Hz] <;> iassumption

theorem wp_recvB (R : Bool) (k : Fin 2) (j : Fin 6) (hj : j.val = k.val + 4) (a : Fin 3) (ha : a.val = k.val + 1) (b : ℕ) (hbk : 2 * (k.val + 4) + 2 = b)
    (l : List Item) (hl : above b l = true) (kk : Pr F) (Q) :
    iprop(know m K ∗ toRecv R h c j ∗ owesW c l)
      ⊢ iprop(((vt (slM R) c fullShare a h (tv m R h (k.val + 4) (org R c)) ∗ hb (org R c) h R j ∗ zr R h c j ∗ owesW c l) -∗ WP c kk Q)
        -∗ WP c (recvB R k h kk) Q) := by
  obtain rfl : j = u26 k := Fin.ext hj
  obtain rfl : a = slot (u26 k) := Fin.ext (by show a.val = (k.val + 4) % 3; omega)
  unfold toRecv zr
  iintro ⟨#HK, ⟨Hc, Hp⟩, HO⟩ Hk
  iapply (wp_waitP m K (hM := slM_whole R) (hM' := slM_whole R) (credit_sl R _ _) c (.rcv R (u26 k) h) _ rfl rfl rfl l b (Nat.le_of_eq hbk) hl kk Q) $$ [Hc Hp HO]
  · isplitr; · iexact HK
    isplitl [Hc]; · iexact Hc
    isplitl [Hp] <;> iassumption
  iintro ⟨Hpay, Hz, HO⟩
  ihave Hpay := (Entails.of_eq (show pay m c 0 (.rcv R (u26 k) h) = rcvPay m R c h ⟨k.val + 4, by omega⟩ from rfl)) $$ Hpay
  unfold rcvPay
  icases Hpay with ⟨Hv, Hb⟩
  iapply Hk
  isplitl [Hv]; · iexact Hv
  isplitl [Hb]; · iexact Hb
  isplitl [Hz] <;> iassumption

theorem wp_doneA (R : Bool) (k : Fin 4) (j : Fin 6) (hj : j.val = k.val) (kk : Pr F) (Q) :
    iprop(know m K ∗ sent R h c j ∗ owesW c [])
      ⊢ iprop(((sndPay R c h j ∗ zs R h c j ∗ owesW c []) -∗ WP c kk Q) -∗ WP c (doneA (ctab c) R k h kk) Q) := by
  obtain rfl : j = u46 k := Fin.ext hj
  unfold sent zs
  iintro ⟨#HK, ⟨Hc, Hp⟩, HO⟩ Hk
  iapply (wp_waitP m K (hM := slM_whole R) (hM' := pbM_whole R) (credit_pb R _ _) c (.snd R (u46 k) h) _ rfl rfl rfl [] 0 (Nat.le_refl 0) rfl kk Q) $$ [Hc Hp HO]
  · isplitr; · iexact HK
    isplitl [Hc]; · iexact Hc
    isplitl [Hp] <;> iassumption
  iexact Hk

theorem wp_doneB (R : Bool) (k : Fin 2) (j : Fin 6) (hj : j.val = k.val + 4) (kk : Pr F) (Q) :
    iprop(know m K ∗ sent R h c j ∗ owesW c [])
      ⊢ iprop(((sndPay R c h j ∗ zs R h c j ∗ owesW c []) -∗ WP c kk Q) -∗ WP c (doneB R k h kk) Q) := by
  obtain rfl : j = u26 k := Fin.ext hj
  unfold sent zs
  iintro ⟨#HK, ⟨Hc, Hp⟩, HO⟩ Hk
  iapply (wp_waitP m K (hM := slM_whole R) (hM' := slM_whole R) (credit_sl R _ _) c (.snd R (u26 k) h) _ rfl rfl rfl [] 0 (Nat.le_refl 0) rfl kk Q) $$ [Hc Hp HO]
  · isplitr; · iexact HK
    isplitl [Hc]; · iexact Hc
    isplitl [Hp] <;> iassumption
  iexact Hk

/-! ## The products -/

/-- The product of a block, in its tile; -/
abbrev prod (R : Bool) (a : Fin 4) : sProp 𝕄 := vt (pbM R) c fullShare a h (pv m R c a h)
abbrev pany (R : Bool) (a : Fin 4) : sProp 𝕄 := at_ (F := F) (pbM R) c fullShare a h

theorem wp_mmBlk (i : Fin 4) (next : Pr F → Pr F) (A B : sProp 𝕄)
    (hnext : ∀ (k : Pr F) Q, iprop((A ∗ sa xsM c h ∗ xz c h) ∗ (B -∗ WP c k Q)) ⊢ WP c (next k) Q)
    (l : List Item) (hl : above 0 l = true) (kk : Pr F) (Q) :
    iprop(know m K ∗ xfl m c (c + jq i, h) h ∗ A ∗ wbv c (wvv m c) ∗ pany c h false (c + jq i) ∗ pany c h true (c + jq i) ∗ owesW c l)
      ⊢ iprop(((xp m c (c + jq i, h) ∗ B ∗ wbv c (wvv m c) ∗ prod m c h false (c + jq i) ∗ prod m c h true (c + jq i) ∗ owesW c l) -∗ WP c kk Q)
        -∗ WP c (mmBlk (ctab c) i h next kk) Q) := by
  unfold mmBlk
  iintro ⟨#HK, Hf, HA, Hw, H0, H1, HO⟩ Hk
  iapply (wp_xWait m K c (c + jq i, h) h l hl) $$ [Hf HO]
  · isplitr; · iexact HK
    isplitl [Hf] <;> iassumption
  iintro ⟨Hx, Hs, Hz, HO⟩
  iapply (wp_loadS xsM c h) $$ Hs
  iintro Hs
  iapply (wp_loadW c) $$ Hw
  iintro Hw
  iapply (hnext _ _)
  ihave Hs := (st_sa xsM c h _) $$ Hs
  isplitl [HA Hs Hz]
  · isplitl [HA]; · iexact HA
    isplitl [Hs] <;> iassumption
  iintro HB
  iapply (wp_loadP_any (pbM false) c fullShare (c + jq i) h) $$ H0
  iintro H0
  iapply (wp_storeP (pbM_whole false) c (c + jq i) h) $$ H0
  iintro H0
  iapply (wp_loadP_any (pbM true) c fullShare (c + jq i) h) $$ H1
  iintro H1
  iapply (wp_storeP (pbM_whole true) c (c + jq i) h) $$ H1
  iintro H1
  iapply Hk
  isplitl [Hx]; · iexact Hx
  isplitl [HB]; · iexact HB
  isplitl [Hw]; · iexact Hw
  isplitl [H0]; · iexact H0
  isplitl [H1]; · iexact H1
  iexact HO

theorem next_x (i' : Fin 4) (k : Pr F) (Q) :
    iprop((xp m c (c + jq i', h) ∗ sa xsM c h ∗ xz c h) ∗ (xfl m c (c + jq i', h) h -∗ WP c k Q))
      ⊢ WP c (xStart ((ctab c).x i' h) ((ctab c).hx i' h) h k) Q := by
  iintro ⟨H, Hk⟩
  iapply (wp_xStart m c (c + jq i', h) h k Q) $$ H
  iexact Hk

theorem next_id (k : Pr F) (Q) :
    iprop((emp ∗ sa (F := F) xsM c h ∗ xz c h) ∗ (iprop(sa xsM c h ∗ xz c h) -∗ WP c k Q)) ⊢ WP c (id k) Q := by
  iintro ⟨⟨-, H⟩, Hk⟩
  iapply Hk; iexact H

/-! ## The sums -/

theorem wp_addS (R : Bool) (s : Fin 2) (j j' : Fin 6) (hj : j.val = s.val) (hj' : j'.val = s.val + 1) (a a' : Fin 3) (ha : a.val = s.val) (ha' : a'.val = s.val + 1)
    (k' : Fin 4) (hk' : k'.val = s.val + 1) (b : ℕ) (hb' : 2 * s.val + 2 = b)
    (X Y : sProp 𝕄) (hX : X ⊢ hb c h R j') (hY : hb (org R c) h R j ⊢ Y) (l : List Item) (hl : above b (.snd R j' h :: l) = true) (kk : Pr F) (Q) :
    iprop(know m K ∗ toRecv R h c j ∗ prod m c h R (sch R c k') ∗ at_ (slM R) (dst R c) fullShare a' h ∗ X ∗ toSend R h c j'
        ∗ owesW c (.snd R j' h :: l))
      ⊢ iprop(((at_ (slM R) c fullShare a h ∗ Y ∗ zr R h c j ∗ sent R h c j' ∗ owesW c l) -∗ WP c kk Q)
        -∗ WP c (addS (ctab c) R s h kk) Q) := by
  obtain rfl : a = u23 s := Fin.ext ha
  obtain rfl : k' = w24 s := Fin.ext hk'
  have hs : u23 s = slot j := Fin.ext (by show s.val = j.val % 3; omega)
  have hs' : a' = slot j' := Fin.ext (by show a'.val = j'.val % 3; omega)
  have hv : addP (pv m R c (sch R c (w24 s)) h) (tv m R h s.val (org R c)) = tv m R h (s.val + 1) c := by
    fin_cases s <;> rfl
  unfold addS
  iintro ⟨#HK, Hr, Hp, Hd, Hb, Hs, HO⟩ Hk
  iapply (wp_recvA m K c h R (u24 s) j hj _ hs b hb' _ hl) $$ [Hr HO]
  · isplitr; · iexact HK
    isplitl [Hr] <;> iassumption
  iintro ⟨Hv, Hbi, Hz, HO⟩
  iapply (wp_loadP (pbM R) c fullShare (sch R c (w24 s)) h) $$ Hp
  iintro Hp
  iapply (wp_loadP (slM R) c fullShare (u23 s) h) $$ Hv
  iintro Hv
  iapply (wp_loadP (pbM R) c fullShare (sch R c (w24 s)) h) $$ Hp
  iintro Hp
  ihave Hp := (vt_at (pbM R) c fullShare _ h _) $$ Hp
  iapply (wp_storeP (pbM_whole R) c (sch R c (w24 s)) h) $$ Hp
  iintro Hp
  iapply (wp_sendA m K c h R (w24 s) j' hj' a' hs' _ hv l) $$ [Hp Hd Hb HO Hs]
  · isplitr; · iexact HK
    isplitl [Hp]; · iexact Hp
    isplitl [Hd]; · iexact Hd
    isplitl [Hb]; · iapply hX; iexact Hb
    isplitl [HO] <;> iassumption
  iintro ⟨Hs, HO⟩
  iapply Hk
  isplitl [Hv]; · iapply (vt_at (slM R) c fullShare _ h _); iexact Hv
  isplitl [Hbi]; · iapply hY; iexact Hbi
  isplitl [Hz]; · iexact Hz
  isplitl [Hs] <;> iassumption

theorem wp_ownS (R : Bool) (X Y : sProp 𝕄) (hX : X ⊢ hb c h R 3) (hY : hb (org R c) h R 2 ⊢ Y) (l : List Item) (hl : above 6 (.snd R 3 h :: l) = true) (kk : FVec F S256x1024 .f32 → Pr F) (Q) :
    iprop(know m K ∗ toRecv R h c 2 ∗ prod m c h R (sch R c 3) ∗ at_ (slM R) (dst R c) fullShare 0 h ∗ X ∗ toSend R h c 3
        ∗ owesW c (.snd R 3 h :: l))
      ⊢ iprop(((at_ (slM R) c fullShare 2 h ∗ Y ∗ zr R h c 2 ∗ sent R h c 3 ∗ owesW c l) -∗ WP c (kk (gv m R h c)) Q)
        -∗ WP c (ownS (ctab c) R h kk) Q) := by
  unfold ownS
  iintro ⟨#HK, Hr, Hp, Hd, Hb, Hs, HO⟩ Hk
  iapply (wp_recvA m K c h R 2 2 rfl 2 rfl 6 rfl _ hl) $$ [Hr HO]
  · isplitr; · iexact HK
    isplitl [Hr] <;> iassumption
  iintro ⟨Hv, Hbi, Hz, HO⟩
  iapply (wp_loadP (pbM R) c fullShare (sch R c 3) h) $$ Hp
  iintro Hp
  iapply (wp_loadP (slM R) c fullShare 2 h) $$ Hv
  iintro Hv
  iapply (wp_loadP (pbM R) c fullShare (sch R c 3) h) $$ Hp
  iintro Hp
  ihave Hp := (vt_at (pbM R) c fullShare _ h _) $$ Hp
  iapply (wp_storeP (pbM_whole R) c (sch R c 3) h) $$ Hp
  iintro Hp
  iapply (wp_sendA m K c h R 3 3 rfl 0 rfl _ rfl l) $$ [Hp Hd Hb HO Hs]
  · isplitr; · iexact HK
    isplitl [Hp]; · iexact Hp
    isplitl [Hd]; · iexact Hd
    isplitl [Hb]; · iapply hX; iexact Hb
    isplitl [HO] <;> iassumption
  iintro ⟨Hs, HO⟩
  iapply Hk
  isplitl [Hv]; · iapply (vt_at (slM R) c fullShare _ h _); iexact Hv
  isplitl [Hbi]; · iapply hY; iexact Hbi
  isplitl [Hz]; · iexact Hz
  isplitl [Hs] <;> iassumption

end Cert.RingProof

end
-- ==== Proof.Lanes.lean ====
/-
# The lanes

What a device holds for one row block between the stages, and for one staging tile between its uses.
-/
module

public import proofs.«01_k».proof.Proof.Stages

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (c : Dev nD)

/-! ## Writing out

Staging tile `p` of ring `R` is used eight times; use `n` writes out row block `p + 2 (n mod 2)` of stage `n / 2`. -/

def uU (n : ℕ) : Fin 4 := ⟨n / 2 % 4, Nat.mod_lt _ (by omega)⟩
def uH (p : Fin 2) (n : ℕ) : Fin 4 := ⟨p.val + 2 * (n % 2), by omega⟩
theorem par_uH (p : Fin 2) (n : ℕ) : par (uH p n) = p := Fin.ext (by show (p.val + 2 * (n % 2)) % 2 = p.val; omega)
/-- The block of the result that use `n` writes, -/
abbrev ob (R : Bool) (p : Fin 2) (n : ℕ) : Fin 4 × Fin 4 := (och R c (uU n), uH p n)
/-- and what it writes there. -/
abbrev oval (R : Bool) (p : Fin 2) (n : ℕ) : FVec F S256x1024 .f32 := ogv m R c (uU n) (uH p n)

/-- The result's blocks of the last `k` uses, not yet written; -/
def remF (R : Bool) (p : Fin 2) : ℕ → sProp 𝕄
  | 0 => iprop(emp)
  | k + 1 => iprop(oa (F := F) c R (ob c R p (7 - k)) ∗ remF R p k)
/-- those of the first `n` uses, written. -/
def donF (R : Bool) (p : Fin 2) : ℕ → sProp 𝕄
  | 0 => iprop(emp)
  | n + 1 => iprop(donF R p n ∗ ov c R (ob c R p n) (oval m c R p n))

/-- Before the first use, -/
def outs0 (R : Bool) (p : Fin 2) : sProp 𝕄 := iprop(sa (F := F) (stM R) c p ∗ oz c R p ∗ remF c R p 8)
/-- after use `n`, with `k` to come, -/
def outs (R : Bool) (p : Fin 2) (n k : ℕ) : sProp 𝕄 :=
  iprop(ofl c R p (ob c R p n) (oval m c R p n) ∗ donF m c R p n ∗ remF c R p k)
/-- and when the last copy has been waited for. -/
def outsE (R : Bool) (p : Fin 2) : sProp 𝕄 := iprop(sa (F := F) (stM R) c p ∗ oz c R p ∗ donF m c R p 8)

theorem wp_put0 (R : Bool) (p : Fin 2) (u h : Fin 4) (hu : u = uU 0) (hh : h = uH p 0) (g : FVec F S256x1024 .f32) (hg : g = ogv m R c u h)
    (kk : Pr F) (Q) :
    (outs0 c R p : sProp 𝕄) ⊢ iprop((outs m c R p 0 7 -∗ WP c kk Q) -∗ WP c (putS (ctab c) R u h id g kk) Q) := by
  subst hu hh hg
  unfold putS outs0 outs
  rw [par_uH]
  iintro ⟨Hs, Hz, Hr⟩ Hk
  ihave Hr := (Entails.of_eq (show remF (F := F) c R p 8 = iprop(oa (F := F) c R (ob c R p 0) ∗ remF c R p 7) from rfl)) $$ Hr
  icases Hr with ⟨Ho, Hr⟩
  iapply (wp_loadS_any (stM R) c p) $$ Hs
  iintro Hs
  iapply (wp_storeS (stM R) c p) $$ Hs
  iintro Hs
  iapply (wp_oStart c R p (ob c R p 0) (oval m c R p 0)) $$ [Hs Ho Hz]
  · isplitl [Hs]; · iexact Hs
    isplitl [Ho] <;> iassumption
  iintro Hf
  iapply Hk
  isplitl [Hf]; · iexact Hf
  isplitr; · iapply (Entails.of_eq (show iprop(emp) = donF m c R p 0 from rfl)); iempintro
  iexact Hr

theorem wp_putN (R : Bool) (p : Fin 2) (n k : ℕ) (hnk : n + k = 6) (u h u' h' : Fin 4) (hu : u = uU (n + 1)) (hh : h = uH p (n + 1))
    (hu' : u' = uU n) (hh' : h' = uH p n) (g : FVec F S256x1024 .f32) (hg : g = ogv m R c u h) (l : List Item) (hl : above 0 l = true)
    (kk : Pr F) (Q) :
    iprop(know m K ∗ outs m c R p n (k + 1) ∗ owesW c l)
      ⊢ iprop(((outs m c R p (n + 1) k ∗ owesW c l) -∗ WP c kk Q)
        -∗ WP c (putS (ctab c) R u h (oWait R p ((ctab c).o R u' h') ((ctab c).ho R u' h')) g kk) Q) := by
  subst hu hh hg hu' hh'
  obtain rfl : n = 6 - k := by omega
  unfold putS outs
  rw [par_uH]
  iintro ⟨#HK, ⟨Hf, Hd, Hr⟩, HO⟩ Hk
  ihave Hr := (Entails.of_eq (show remF (F := F) c R p (k + 1) = iprop(oa (F := F) c R (ob c R p (7 - k)) ∗ remF c R p k) from rfl)) $$ Hr
  icases Hr with ⟨Ho, Hr⟩
  iapply (wp_oWait m K c R p (ob c R p (6 - k)) (oval m c R p (6 - k)) l hl) $$ [Hf HO]
  · isplitr; · iexact HK
    isplitl [Hf] <;> iassumption
  iintro ⟨Hv, Hs, Hz, HO⟩
  iapply (wp_loadS_any (stM R) c p) $$ Hs
  iintro Hs
  iapply (wp_storeS (stM R) c p) $$ Hs
  iintro Hs
  ihave Ho := (Entails.of_eq (congrArg (fun n => oa (F := F) c R (ob c R p n)) (show 7 - k = 6 - k + 1 by omega))) $$ Ho
  iapply (wp_oStart c R p (ob c R p (6 - k + 1)) (oval m c R p (6 - k + 1))) $$ [Hs Ho Hz]
  · isplitl [Hs]; · iexact Hs
    isplitl [Ho] <;> iassumption
  iintro Hf
  iapply Hk
  isplitr [HO]
  · isplitl [Hf]; · iexact Hf
    isplitl [Hd Hv]
    · iapply (Entails.of_eq (show iprop(donF m c R p (6 - k) ∗ ov c R (ob c R p (6 - k)) (oval m c R p (6 - k))) = donF m c R p (6 - k + 1) from rfl))
      isplitl [Hd] <;> iassumption
    iexact Hr
  iexact HO

theorem wp_putE (R : Bool) (p : Fin 2) (u' h' : Fin 4) (hu' : u' = uU 7) (hh' : h' = uH p 7) (l : List Item) (hl : above 0 l = true)
    (kk : Pr F) (Q) :
    iprop(know m K ∗ outs m c R p 7 0 ∗ owesW c l)
      ⊢ iprop(((outsE m c R p ∗ owesW c l) -∗ WP c kk Q)
        -∗ WP c (oWait R p ((ctab c).o R u' h') ((ctab c).ho R u' h') kk) Q) := by
  subst hu' hh'
  unfold outs outsE
  iintro ⟨#HK, ⟨Hf, Hd, -⟩, HO⟩ Hk
  iapply (wp_oWait m K c R p (ob c R p 7) (oval m c R p 7) l hl) $$ [Hf HO]
  · isplitr; · iexact HK
    isplitl [Hf] <;> iassumption
  iintro ⟨Hv, Hs, Hz, HO⟩
  iapply Hk
  isplitr [HO]
  · isplitl [Hs]; · iexact Hs
    isplitl [Hz]; · iexact Hz
    iapply (Entails.of_eq (show iprop(donF m c R p 7 ∗ ov c R (ob c R p 7) (oval m c R p 7)) = donF m c R p 8 from rfl))
    isplitl [Hd] <;> iassumption
  iexact HO

/-! ## Shares of a slot -/

theorem vt_halves {n : ℕ} (M : Memref sig .tc .vmem (SB n) .bf16) (a : Fin n) (h : Fin 4) (v : Vec F S1x256x1024 .bf16) :
    (vt M c fullShare a h v : sProp 𝕄) ⊢ iprop(vt M c fullShare.left a h v ∗ vt M c fullShare.right a h v) := by
  unfold vt
  iintro ⟨%f, %hf, H⟩
  ihave H := (pointsTo_share (PosShare.mem_left_op_right fullShare)).mp $$ H
  icases H with ⟨H1, H2⟩
  isplitl [H1]
  · iexists f; isplitr; · ipureintro; exact hf
    iexact H1
  · iexists f; isplitr; · ipureintro; exact hf
    iexact H2

theorem at_join {n : ℕ} (M : Memref sig .tc .vmem (SB n) .bf16) (a : Fin n) (h : Fin 4) :
    iprop(at_ (F := F) M c fullShare.left a h ∗ at_ (F := F) M c fullShare.right a h) ⊢ (at_ M c fullShare a h : sProp 𝕄) := by
  unfold at_
  iintro ⟨⟨%f, H1⟩, ⟨%g, H2⟩⟩
  ihave #Hfg := pointsTo_agree $$ [H1 H2]
  · isplitl [H1] <;> iassumption
  iexists f
  iapply (pointsTo_share (PosShare.mem_left_op_right fullShare)).mpr
  isplitl [H1]; · iexact H1
  icases Hfg with %hfg
  iapply (Entails.of_eq (pointsTo_congr (fun i hi => (hfg i (by simpa using hi)).1.symm)))
  iexact H2

/-! ## The lanes -/

theorem above_cons (n : ℕ) (i : Item) (l : List Item) (hi : n < i.lvl) (hl : above n l = true) : above n (i :: l) = true := by
  unfold above at hl ⊢
  rw [List.all_cons, hl, decide_eq_true hi]; rfl
theorem above_tail (n : ℕ) (i : Item) (l : List Item) (hl : above n (i :: l) = true) : above n l = true := by
  unfold above at hl ⊢
  rw [List.all_cons, Bool.and_eq_true] at hl; exact hl.2

variable (h : Fin 4)

section
variable (R : Bool)
/-- What a lane still has to receive and send with, from step 5 down to the start, -/
def rst5 : sProp 𝕄 := toRecv R h c 5
def rst4 : sProp 𝕄 := iprop(toRecv R h c 4 ∗ toSend R h c 5 ∗ rst5 (F := F) c h R)
def rst3 : sProp 𝕄 := iprop(toRecv R h c 3 ∗ toSend R h c 4 ∗ rst4 (F := F) c h R)
def rst2 : sProp 𝕄 := iprop(toRecv R h c 2 ∗ toSend R h c 3 ∗ rst3 (F := F) c h R)
def rst1 : sProp 𝕄 := iprop(toRecv R h c 1 ∗ toSend R h c 2 ∗ rst2 (F := F) c h R)
def rst0 : sProp 𝕄 := iprop(toRecv R h c 0 ∗ toSend R h c 1 ∗ rst1 (F := F) c h R)
def rstI : sProp 𝕄 := iprop(toSend R h c 0 ∗ rst0 (F := F) c h R)
/-- and what it has received and sent. -/
def pst0 : sProp 𝕄 := sent R h c 0
def pst1 : sProp 𝕄 := iprop(pst0 (F := F) c h R ∗ zr R h c 0 ∗ sent R h c 1)
def pst2 : sProp 𝕄 := iprop(pst1 (F := F) c h R ∗ zr R h c 1 ∗ sent R h c 2)
def pst3 : sProp 𝕄 := iprop(pst2 (F := F) c h R ∗ zr R h c 2 ∗ sent R h c 3)
def pst4 : sProp 𝕄 := iprop(pst3 (F := F) c h R ∗ zr R h c 3 ∗ sent R h c 4)
def pst5 : sProp 𝕄 := iprop(pst4 (F := F) c h R ∗ zr R h c 4 ∗ sent R h c 5)
def pst6 : sProp 𝕄 := iprop(pst5 (F := F) c h R ∗ zr R h c 5)
end

/-- A slot of the ring's receiver, ready for a send; -/
abbrev tg (R : Bool) (a : Fin 3) : sProp 𝕄 := at_ (F := F) (slM R) (dst R c) fullShare a h
/-- an own slot, emptied; -/
abbrev own (R : Bool) (a : Fin 3) : sProp 𝕄 := at_ (F := F) (slM R) c fullShare a h
/-- the half of an own slot kept while the other half is being sent. -/
abbrev half (R : Bool) (a : Fin 3) : sProp 𝕄 := at_ (F := F) (slM R) c fullShare.right a h
/-- The product for chunk `k` of the ring's schedule. -/
abbrev prd (R : Bool) (k : Fin 4) : sProp 𝕄 := prod m c h R (sch R c k)

def lane0 : sProp 𝕄 :=
  iprop(rst0 (F := F) c h false ∗ rst0 (F := F) c h true ∗ pst0 (F := F) c h false ∗ pst0 (F := F) c h true
    ∗ (prd m c h false 1 ∗ prd m c h false 2 ∗ prd m c h false 3) ∗ (prd m c h true 1 ∗ prd m c h true 2 ∗ prd m c h true 3)
    ∗ (tg (F := F) c h false 1 ∗ tg (F := F) c h false 2) ∗ (tg (F := F) c h true 1 ∗ tg (F := F) c h true 2))
def lane1 : sProp 𝕄 :=
  iprop(rst1 (F := F) c h false ∗ rst1 (F := F) c h true ∗ pst1 (F := F) c h false ∗ pst1 (F := F) c h true
    ∗ (prd m c h false 2 ∗ prd m c h false 3) ∗ (prd m c h true 2 ∗ prd m c h true 3)
    ∗ tg (F := F) c h false 2 ∗ tg (F := F) c h true 2 ∗ own (F := F) c h true 0)
def lane2 : sProp 𝕄 :=
  iprop(rst2 (F := F) c h false ∗ rst2 (F := F) c h true ∗ pst2 (F := F) c h false ∗ pst2 (F := F) c h true
    ∗ prd m c h false 3 ∗ prd m c h true 3
    ∗ tg (F := F) c h false 0 ∗ own (F := F) c h true 1)
def lane3 : sProp 𝕄 :=
  iprop(rst3 (F := F) c h false ∗ rst3 (F := F) c h true ∗ pst3 (F := F) c h false ∗ pst3 (F := F) c h true
    ∗ tg (F := F) c h false 1 ∗ own (F := F) c h true 2)
def lane4 : sProp 𝕄 :=
  iprop(rst4 (F := F) c h false ∗ rst4 (F := F) c h true ∗ pst4 (F := F) c h false ∗ pst4 (F := F) c h true
    ∗ tg (F := F) c h false 2 ∗ half (F := F) c h false 0 ∗ half (F := F) c h true 0)
def lane5 : sProp 𝕄 :=
  iprop(rst5 (F := F) c h false ∗ rst5 (F := F) c h true ∗ pst5 (F := F) c h false ∗ pst5 (F := F) c h true
    ∗ (half (F := F) c h false 0 ∗ half (F := F) c h false 1) ∗ (half (F := F) c h true 0 ∗ half (F := F) c h true 1))
def lane6 : sProp 𝕄 :=
  iprop(pst6 (F := F) c h false ∗ pst6 (F := F) c h true
    ∗ (half (F := F) c h false 0 ∗ half (F := F) c h false 1 ∗ own (F := F) c h false 2)
    ∗ (half (F := F) c h true 0 ∗ half (F := F) c h true 1 ∗ own (F := F) c h true 2))

theorem wp_add0 (l : List Item) (hl : above 2 l = true) (kk : Pr F) (Q) :
    iprop(know m K ∗ lane0 m c h ∗ owesW c (.snd false 1 h :: .snd true 1 h :: l))
      ⊢ iprop(((lane1 m c h ∗ owesW c l) -∗ WP c kk Q) -∗ WP c (addBoth (ctab c) 0 h kk) Q) := by
  have h1 : above 2 (.snd true 1 h :: l) = true := above_cons _ _ _ (show 2 < 4 by decide) hl
  have h0 : above 2 (.snd false 1 h :: .snd true 1 h :: l) = true := above_cons _ _ _ (show 2 < 4 by decide) h1
  unfold lane0 lane1 rst0 pst1 addBoth
  iintro ⟨#HK, ⟨⟨Ra, Sa, Ea⟩, ⟨Rb, Sb, Eb⟩, Pa, Pb, ⟨A1, A2, A3⟩, ⟨B1, B2, B3⟩, ⟨Ta1, Ta2⟩, ⟨Tb1, Tb2⟩⟩, HO⟩ Hk
  iapply (wp_addS m K c h false 0 0 1 rfl rfl 0 1 rfl rfl 1 rfl 2 rfl iprop(emp) iprop(emp) (Entails.refl _) (Entails.refl _) _ h0) $$ [Ra A1 Ta1 Sa HO]
  · isplitr; · iexact HK
    isplitl [Ra]; · iexact Ra
    isplitl [A1]; · iexact A1
    isplitl [Ta1]; · iexact Ta1
    isplitr; · iempintro
    isplitl [Sa] <;> iassumption
  iintro ⟨Oa, -, Za, Xa, HO⟩
  iapply (wp_addS m K c h true 0 0 1 rfl rfl 0 1 rfl rfl 1 rfl 2 rfl (own (F := F) c h false 0) iprop(emp) (Entails.refl _) (Entails.refl _) _ h1) $$ [Rb B1 Tb1 Sb Oa HO]
  · isplitr; · iexact HK
    isplitl [Rb]; · iexact Rb
    isplitl [B1]; · iexact B1
    isplitl [Tb1]; · iexact Tb1
    isplitl [Oa]; · iexact Oa
    isplitl [Sb] <;> iassumption
  iintro ⟨Ob, -, Zb, Xb, HO⟩
  iapply Hk
  isplitr [HO]
  · isplitl [Ea]; · iexact Ea
    isplitl [Eb]; · iexact Eb
    isplitl [Pa Za Xa]
    · isplitl [Pa]; · iexact Pa
      isplitl [Za] <;> iassumption
    isplitl [Pb Zb Xb]
    · isplitl [Pb]; · iexact Pb
      isplitl [Zb] <;> iassumption
    isplitl [A2 A3]
    · isplitl [A2] <;> iassumption
    isplitl [B2 B3]
    · isplitl [B2] <;> iassumption
    isplitl [Ta2]; · iexact Ta2
    isplitl [Tb2] <;> iassumption
  iexact HO

theorem wp_add1 (l : List Item) (hl : above 4 l = true) (kk : Pr F) (Q) :
    iprop(know m K ∗ lane1 m c h ∗ owesW c (.snd false 2 h :: .snd true 2 h :: l))
      ⊢ iprop(((lane2 m c h ∗ owesW c l) -∗ WP c kk Q) -∗ WP c (addBoth (ctab c) 1 h kk) Q) := by
  have h1 : above 4 (.snd true 2 h :: l) = true := above_cons _ _ _ (show 4 < 6 by decide) hl
  have h0 : above 4 (.snd false 2 h :: .snd true 2 h :: l) = true := above_cons _ _ _ (show 4 < 6 by decide) h1
  unfold lane1 lane2 rst1 pst2 addBoth
  iintro ⟨#HK, ⟨⟨Ra, Sa, Ea⟩, ⟨Rb, Sb, Eb⟩, Pa, Pb, ⟨A2, A3⟩, ⟨B2, B3⟩, Ta2, Tb2, O0⟩, HO⟩ Hk
  iapply (wp_addS m K c h false 1 1 2 rfl rfl 1 2 rfl rfl 2 rfl 4 rfl (own (F := F) c h true 0) iprop(emp) (Entails.refl _) (Entails.refl _) _ h0) $$ [Ra A2 Ta2 O0 Sa HO]
  · isplitr; · iexact HK
    isplitl [Ra]; · iexact Ra
    isplitl [A2]; · iexact A2
    isplitl [Ta2]; · iexact Ta2
    isplitl [O0]; · iexact O0
    isplitl [Sa] <;> iassumption
  iintro ⟨Oa, -, Za, Xa, HO⟩
  iapply (wp_addS m K c h true 1 1 2 rfl rfl 1 2 rfl rfl 2 rfl 4 rfl (own (F := F) c h false 1) (tg (F := F) c h false 0) (Entails.refl _) (Entails.refl _) _ h1) $$ [Rb B2 Tb2 Sb Oa HO]
  · isplitr; · iexact HK
    isplitl [Rb]; · iexact Rb
    isplitl [B2]; · iexact B2
    isplitl [Tb2]; · iexact Tb2
    isplitl [Oa]; · iexact Oa
    isplitl [Sb] <;> iassumption
  iintro ⟨Ob, Ta0, Zb, Xb, HO⟩
  iapply Hk
  isplitr [HO]
  · isplitl [Ea]; · iexact Ea
    isplitl [Eb]; · iexact Eb
    isplitl [Pa Za Xa]
    · isplitl [Pa]; · iexact Pa
      isplitl [Za] <;> iassumption
    isplitl [Pb Zb Xb]
    · isplitl [Pb]; · iexact Pb
      isplitl [Zb] <;> iassumption
    isplitl [A3]; · iexact A3
    isplitl [B3]; · iexact B3
    isplitl [Ta0] <;> iassumption
  iexact HO

/-- The own chunk: both rings' tiles are finished and sent on, and then written out. -/
theorem wp_own (pre : Bool → Pr F → Pr F) (l : List Item) (hl : above 6 l = true) (kk : Pr F) (Q) :
    iprop(know m K ∗ lane2 m c h ∗ owesW c (.snd false 3 h :: .snd true 3 h :: l))
      ⊢ iprop(((lane3 c h ∗ owesW c l) -∗ WP c (putS (ctab c) false 0 h (pre false) (gv m false h c)
          (putS (ctab c) true 0 h (pre true) (gv m true h c) kk)) Q) -∗ WP c (ownBoth (ctab c) h pre kk) Q) := by
  have h1 : above 6 (.snd true 3 h :: l) = true := above_cons _ _ _ (show 6 < 8 by decide) hl
  have h0 : above 6 (.snd false 3 h :: .snd true 3 h :: l) = true := above_cons _ _ _ (show 6 < 8 by decide) h1
  unfold lane2 lane3 rst2 pst3 ownBoth
  iintro ⟨#HK, ⟨⟨Ra, Sa, Ea⟩, ⟨Rb, Sb, Eb⟩, Pa, Pb, A3, B3, Ta0, O1⟩, HO⟩ Hk
  iapply (wp_ownS m K c h false (own (F := F) c h true 1) (tg (F := F) c h true 0) (Entails.refl _) (Entails.refl _) _ h0) $$ [Ra A3 Ta0 O1 Sa HO]
  · isplitr; · iexact HK
    isplitl [Ra]; · iexact Ra
    isplitl [A3]; · iexact A3
    isplitl [Ta0]; · iexact Ta0
    isplitl [O1]; · iexact O1
    isplitl [Sa] <;> iassumption
  iintro ⟨Oa, Tb0, Za, Xa, HO⟩
  iapply (wp_ownS m K c h true (own (F := F) c h false 2) (tg (F := F) c h false 1) (Entails.refl _) (Entails.refl _) _ h1) $$ [Rb B3 Tb0 Sb Oa HO]
  · isplitr; · iexact HK
    isplitl [Rb]; · iexact Rb
    isplitl [B3]; · iexact B3
    isplitl [Tb0]; · iexact Tb0
    isplitl [Oa]; · iexact Oa
    isplitl [Sb] <;> iassumption
  iintro ⟨Ob, Ta1, Zb, Xb, HO⟩
  iapply Hk
  isplitr [HO]
  · isplitl [Ea]; · iexact Ea
    isplitl [Eb]; · iexact Eb
    isplitl [Pa Za Xa]
    · isplitl [Pa]; · iexact Pa
      isplitl [Za] <;> iassumption
    isplitl [Pb Zb Xb]
    · isplitl [Pb]; · iexact Pb
      isplitl [Zb] <;> iassumption
    isplitl [Ta1] <;> iassumption
  iexact HO

/-- Both rings' finished tiles are passed on and written out, with the staging tiles' uses `n + 1`. -/
theorem wp_fwd1 (p : Fin 2) (n k : ℕ) (hnk : n + k = 6) (u' h' : Fin 4) (hu : 1 = uU (n + 1)) (hh : h = uH p (n + 1)) (hu' : u' = uU n) (hh' : h' = uH p n)
    (l : List Item) (hl : above 8 l = true) (hl0 : above 0 l = true) (kk : Pr F) (Q) :
    iprop(know m K ∗ lane3 c h ∗ outs m c false p n (k + 1) ∗ outs m c true p n (k + 1) ∗ owesW c (.snd false 4 h :: .snd true 4 h :: l))
      ⊢ iprop(((lane4 c h ∗ outs m c false p (n + 1) k ∗ outs m c true p (n + 1) k ∗ owesW c l) -∗ WP c kk Q)
        -∗ WP c (fwd1 (ctab c) h (fun R => oWait R p ((ctab c).o R u' h') ((ctab c).ho R u' h')) kk) Q) := by
  have h1 : above 8 (.snd true 4 h :: l) = true := above_cons _ _ _ (show 8 < 10 by decide) hl
  have h0 : above 8 (.snd false 4 h :: .snd true 4 h :: l) = true := above_cons _ _ _ (show 8 < 10 by decide) h1
  unfold lane3 lane4 rst3 pst4 fwd1
  iintro ⟨#HK, ⟨⟨Ra, Sa, Ea⟩, ⟨Rb, Sb, Eb⟩, Pa, Pb, Ta1, O2⟩, Ua, Ub, HO⟩ Hk
  iapply (wp_recvA m K c h false 3 3 rfl 0 rfl 8 rfl _ h0) $$ [Ra HO]
  · isplitr; · iexact HK
    isplitl [Ra] <;> iassumption
  iintro ⟨Va, Tb1, Za, HO⟩
  ihave Tb1 := (Entails.of_eq (show hb (org false c) h false 3 = tg (F := F) c h true 1 from rfl)) $$ Tb1
  ihave Va := (vt_halves c (slM false) 0 h _) $$ Va
  icases Va with ⟨Val, Var⟩
  iapply (wp_sendB m K c h false 0 4 rfl 0 1 rfl rfl _ rfl _) $$ [Val Ta1 O2 HO Sa]
  · isplitr; · iexact HK
    isplitl [Val]; · iexact Val
    isplitl [Ta1]; · iexact Ta1
    isplitl [O2]; · iapply (Entails.of_eq (show own (F := F) c h true 2 = hb c h false 4 from rfl)); iexact O2
    isplitl [HO] <;> iassumption
  iintro ⟨Xa, HO⟩
  iapply (wp_recvA m K c h true 3 3 rfl 0 rfl 8 rfl _ h1) $$ [Rb HO]
  · isplitr; · iexact HK
    isplitl [Rb] <;> iassumption
  iintro ⟨Vb, Ta2, Zb, HO⟩
  ihave Ta2 := (Entails.of_eq (show hb (org true c) h true 3 = tg (F := F) c h false 2 from rfl)) $$ Ta2
  ihave Vb := (vt_halves c (slM true) 0 h _) $$ Vb
  icases Vb with ⟨Vbl, Vbr⟩
  iapply (wp_sendB m K c h true 0 4 rfl 0 1 rfl rfl _ rfl _) $$ [Vbl Tb1 HO Sb]
  · isplitr; · iexact HK
    isplitl [Vbl]; · iexact Vbl
    isplitl [Tb1]; · iexact Tb1
    isplitr; · iapply (Entails.of_eq (show iprop(emp) = hb (F := F) c h true 4 from rfl)); iempintro
    isplitl [HO] <;> iassumption
  iintro ⟨Xb, HO⟩
  iapply (wp_loadP (slM false) c fullShare.right 0 h) $$ Var
  iintro Var
  iapply (wp_putN m K c false p n k hnk 1 h u' h' hu hh hu' hh' _ rfl l hl0) $$ [Ua HO]
  · isplitr; · iexact HK
    isplitl [Ua] <;> iassumption
  iintro ⟨Ua, HO⟩
  iapply (wp_loadP (slM true) c fullShare.right 0 h) $$ Vbr
  iintro Vbr
  iapply (wp_putN m K c true p n k hnk 1 h u' h' hu hh hu' hh' _ rfl l hl0) $$ [Ub HO]
  · isplitr; · iexact HK
    isplitl [Ub] <;> iassumption
  iintro ⟨Ub, HO⟩
  iapply Hk
  isplitl [Ea Eb Pa Za Xa Pb Zb Xb Ta2 Var Vbr]
  · isplitl [Ea]; · iexact Ea
    isplitl [Eb]; · iexact Eb
    isplitl [Pa Za Xa]
    · isplitl [Pa]; · iexact Pa
      isplitl [Za] <;> iassumption
    isplitl [Pb Zb Xb]
    · isplitl [Pb]; · iexact Pb
      isplitl [Zb] <;> iassumption
    isplitl [Ta2]; · iexact Ta2
    isplitl [Var]; · iapply (vt_at (slM false) c fullShare.right 0 h _); iexact Var
    iapply (vt_at (slM true) c fullShare.right 0 h _); iexact Vbr
  isplitl [Ua]; · iexact Ua
  isplitl [Ub] <;> iassumption

theorem wp_fwd2 (p : Fin 2) (n k : ℕ) (hnk : n + k = 6) (u' h' : Fin 4) (hu : 2 = uU (n + 1)) (hh : h = uH p (n + 1)) (hu' : u' = uU n) (hh' : h' = uH p n)
    (l : List Item) (hl : above 10 l = true) (hl0 : above 0 l = true) (kk : Pr F) (Q) :
    iprop(know m K ∗ lane4 c h ∗ outs m c false p n (k + 1) ∗ outs m c true p n (k + 1) ∗ owesW c (.snd false 5 h :: .snd true 5 h :: l))
      ⊢ iprop(((lane5 c h ∗ outs m c false p (n + 1) k ∗ outs m c true p (n + 1) k ∗ owesW c l) -∗ WP c kk Q)
        -∗ WP c (fwd2 (ctab c) h (fun R => oWait R p ((ctab c).o R u' h') ((ctab c).ho R u' h')) kk) Q) := by
  have h1 : above 10 (.snd true 5 h :: l) = true := above_cons _ _ _ (show 10 < 12 by decide) hl
  have h0 : above 10 (.snd false 5 h :: .snd true 5 h :: l) = true := above_cons _ _ _ (show 10 < 12 by decide) h1
  unfold lane4 lane5 rst4 pst5 fwd2
  iintro ⟨#HK, ⟨⟨Ra, Sa, Ea⟩, ⟨Rb, Sb, Eb⟩, Pa, Pb, Ta2, Ha0, Hb0⟩, Ua, Ub, HO⟩ Hk
  iapply (wp_recvB m K c h false 0 4 rfl 1 rfl 10 rfl _ h0) $$ [Ra HO]
  · isplitr; · iexact HK
    isplitl [Ra] <;> iassumption
  iintro ⟨Va, Tb2, Za, HO⟩
  ihave Tb2 := (Entails.of_eq (show hb (org false c) h false 4 = tg (F := F) c h true 2 from rfl)) $$ Tb2
  ihave Va := (vt_halves c (slM false) 1 h _) $$ Va
  icases Va with ⟨Val, Var⟩
  iapply (wp_sendB m K c h false 1 5 rfl 1 2 rfl rfl _ rfl _) $$ [Val Ta2 HO Sa]
  · isplitr; · iexact HK
    isplitl [Val]; · iexact Val
    isplitl [Ta2]; · iexact Ta2
    isplitr; · iapply (Entails.of_eq (show iprop(emp) = hb (F := F) c h false 5 from rfl)); iempintro
    isplitl [HO] <;> iassumption
  iintro ⟨Xa, HO⟩
  iapply (wp_recvB m K c h true 0 4 rfl 1 rfl 10 rfl _ h1) $$ [Rb HO]
  · isplitr; · iexact HK
    isplitl [Rb] <;> iassumption
  iintro ⟨Vb, -, Zb, HO⟩
  ihave Vb := (vt_halves c (slM true) 1 h _) $$ Vb
  icases Vb with ⟨Vbl, Vbr⟩
  iapply (wp_sendB m K c h true 1 5 rfl 1 2 rfl rfl _ rfl _) $$ [Vbl Tb2 HO Sb]
  · isplitr; · iexact HK
    isplitl [Vbl]; · iexact Vbl
    isplitl [Tb2]; · iexact Tb2
    isplitr; · iapply (Entails.of_eq (show iprop(emp) = hb (F := F) c h true 5 from rfl)); iempintro
    isplitl [HO] <;> iassumption
  iintro ⟨Xb, HO⟩
  iapply (wp_loadP (slM false) c fullShare.right 1 h) $$ Var
  iintro Var
  iapply (wp_putN m K c false p n k hnk 2 h u' h' hu hh hu' hh' _ rfl l hl0) $$ [Ua HO]
  · isplitr; · iexact HK
    isplitl [Ua] <;> iassumption
  iintro ⟨Ua, HO⟩
  iapply (wp_loadP (slM true) c fullShare.right 1 h) $$ Vbr
  iintro Vbr
  iapply (wp_putN m K c true p n k hnk 2 h u' h' hu hh hu' hh' _ rfl l hl0) $$ [Ub HO]
  · isplitr; · iexact HK
    isplitl [Ub] <;> iassumption
  iintro ⟨Ub, HO⟩
  iapply Hk
  isplitl [Ea Eb Pa Za Xa Pb Zb Xb Ha0 Hb0 Var Vbr]
  · isplitl [Ea]; · iexact Ea
    isplitl [Eb]; · iexact Eb
    isplitl [Pa Za Xa]
    · isplitl [Pa]; · iexact Pa
      isplitl [Za] <;> iassumption
    isplitl [Pb Zb Xb]
    · isplitl [Pb]; · iexact Pb
      isplitl [Zb] <;> iassumption
    isplitl [Ha0 Var]
    · isplitl [Ha0]; · iexact Ha0
      iapply (vt_at (slM false) c fullShare.right 1 h _); iexact Var
    isplitl [Hb0]; · iexact Hb0
    iapply (vt_at (slM true) c fullShare.right 1 h _); iexact Vbr
  isplitl [Ua]; · iexact Ua
  isplitl [Ub] <;> iassumption

theorem wp_last (p : Fin 2) (n k : ℕ) (hnk : n + k = 6) (u' h' : Fin 4) (hu : 3 = uU (n + 1)) (hh : h = uH p (n + 1)) (hu' : u' = uU n) (hh' : h' = uH p n)
    (kk : Pr F) (Q) :
    iprop(know m K ∗ lane5 c h ∗ outs m c false p n (k + 1) ∗ outs m c true p n (k + 1) ∗ owesW c [])
      ⊢ iprop(((lane6 c h ∗ outs m c false p (n + 1) k ∗ outs m c true p (n + 1) k ∗ owesW c []) -∗ WP c kk Q)
        -∗ WP c (lastS (ctab c) h (fun R => oWait R p ((ctab c).o R u' h') ((ctab c).ho R u' h')) kk) Q) := by
  unfold lane5 lane6 rst5 pst6 lastS
  iintro ⟨#HK, ⟨Ra, Rb, Pa, Pb, ⟨Ha0, Ha1⟩, ⟨Hb0, Hb1⟩⟩, Ua, Ub, HO⟩ Hk
  iapply (wp_recvB m K c h false 1 5 rfl 2 rfl 12 rfl [] rfl) $$ [Ra HO]
  · isplitr; · iexact HK
    isplitl [Ra] <;> iassumption
  iintro ⟨Va, -, Za, HO⟩
  iapply (wp_loadP (slM false) c fullShare 2 h) $$ Va
  iintro Va
  iapply (wp_putN m K c false p n k hnk 3 h u' h' hu hh hu' hh' _ rfl [] rfl) $$ [Ua HO]
  · isplitr; · iexact HK
    isplitl [Ua] <;> iassumption
  iintro ⟨Ua, HO⟩
  iapply (wp_recvB m K c h true 1 5 rfl 2 rfl 12 rfl [] rfl) $$ [Rb HO]
  · isplitr; · iexact HK
    isplitl [Rb] <;> iassumption
  iintro ⟨Vb, -, Zb, HO⟩
  iapply (wp_loadP (slM true) c fullShare 2 h) $$ Vb
  iintro Vb
  iapply (wp_putN m K c true p n k hnk 3 h u' h' hu hh hu' hh' _ rfl [] rfl) $$ [Ub HO]
  · isplitr; · iexact HK
    isplitl [Ub] <;> iassumption
  iintro ⟨Ub, HO⟩
  iapply Hk
  isplitl [Pa Za Pb Zb Ha0 Hb0 Ha1 Hb1 Va Vb]
  · isplitl [Pa Za]
    · isplitl [Pa] <;> iassumption
    isplitl [Pb Zb]
    · isplitl [Pb] <;> iassumption
    isplitl [Ha0 Ha1 Va]
    · isplitl [Ha0]; · iexact Ha0
      isplitl [Ha1]; · iexact Ha1
      iapply (vt_at (slM false) c fullShare 2 h _); iexact Va
    isplitl [Hb0]; · iexact Hb0
    isplitl [Hb1]; · iexact Hb1
    iapply (vt_at (slM true) c fullShare 2 h _); iexact Vb
  isplitl [Ua]; · iexact Ua
  isplitl [Ub] <;> iassumption

end Cert.RingProof

end
-- ==== Proof.Body.lean ====
/-
# The body

The whole program of one device, from what the launch deals it to what it gives back.
-/
module

public import proofs.«01_k».proof.Proof.Lanes

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (c : Dev nD)

/-! ## What a device owes, in the order it pays -/

def rowItems (k : Fin 6) : List Item :=
  [.snd false k 0, .snd true k 0, .snd false k 1, .snd true k 1, .snd false k 2, .snd true k 2, .snd false k 3, .snd true k 3]
def full : List Item :=
  [.bar false, .bar true] ++ rowItems 0 ++ rowItems 1 ++ [.cr false 0, .cr true 0] ++ rowItems 2 ++ [.cr false 1, .cr true 1]
    ++ rowItems 3 ++ [.cr false 2, .cr true 2] ++ rowItems 4 ++ rowItems 5
/-- What is left after the first `n`. -/
abbrev pl (n : ℕ) : List Item := full.drop n
/-- The same, held. -/
def ow (n : ℕ) : sProp 𝕄 := owesW (F := F) c (pl n)

theorem ow_to {n : ℕ} {l : List Item} (h : pl n = l) : (ow (F := F) c n : sProp 𝕄) ⊢ owesW c l := by
  unfold ow; rw [h]
theorem of_ow {n : ℕ} : (owesW (F := F) c (pl n) : sProp 𝕄) ⊢ ow c n := by
  unfold ow; exact Entails.refl _

/-- Four of a kind, one per lane. -/
def quad (P : Fin 4 → sProp 𝕄) : sProp 𝕄 := iprop(P 0 ∗ P 1 ∗ P 2 ∗ P 3)

/-- Lane `h` takes the step from `A h` to `B h`, and what the lanes share from `T` to `T'`. -/
def Takes (step : Fin 4 → Pr F → Pr F) (A B : Fin 4 → sProp 𝕄) (h : Fin 4) (T T' : sProp 𝕄) : Prop :=
  ∀ (kk : Pr F) Q, iprop(know m K ∗ A h ∗ T) ⊢ iprop(((B h ∗ T') -∗ WP c kk Q) -∗ WP c (step h kk) Q)

/-- A stage that runs the four lanes one after the other. -/
theorem wp_seq4 (step : Fin 4 → Pr F → Pr F) (A B : Fin 4 → sProp 𝕄) (T0 T1 T2 T3 T4 : sProp 𝕄)
    (h0 : Takes m K c step A B 0 T0 T1) (h1 : Takes m K c step A B 1 T1 T2) (h2 : Takes m K c step A B 2 T2 T3)
    (h3 : Takes m K c step A B 3 T3 T4) (kk : Pr F) (Q) :
    iprop(know m K ∗ quad A ∗ T0) ⊢ iprop(((quad B ∗ T4) -∗ WP c kk Q) -∗ WP c (seq4 step kk) Q) := by
  unfold quad seq4
  iintro ⟨#HK, ⟨A0, A1, A2, A3⟩, HT⟩ Hk
  iapply (h0 _ Q) $$ [A0 HT]
  · isplitr; · iexact HK
    isplitl [A0] <;> iassumption
  iintro ⟨B0, HT⟩
  iapply (h1 _ Q) $$ [A1 HT]
  · isplitr; · iexact HK
    isplitl [A1] <;> iassumption
  iintro ⟨B1, HT⟩
  iapply (h2 _ Q) $$ [A2 HT]
  · isplitr; · iexact HK
    isplitl [A2] <;> iassumption
  iintro ⟨B2, HT⟩
  iapply (h3 _ Q) $$ [A3 HT]
  · isplitr; · iexact HK
    isplitl [A3] <;> iassumption
  iintro ⟨B3, HT⟩
  iapply Hk
  isplitr [HT]
  · isplitl [B0]; · iexact B0
    isplitl [B1]; · iexact B1
    isplitl [B2] <;> iassumption
  iexact HT

/-! ## The products -/

section
variable (h : Fin 4)
abbrev xq (i : Fin 4) : sProp 𝕄 := xp m c (c + jq i, h)
abbrev pq (i : Fin 4) : sProp 𝕄 := iprop(pany (F := F) c h false (c + jq i) ∗ pany (F := F) c h true (c + jq i))
abbrev dq (i : Fin 4) : sProp 𝕄 := iprop(prod m c h false (c + jq i) ∗ prod m c h true (c + jq i))

/-- Row block `h`'s blocks of the input, its staging tile and its product tiles: at the start, -/
def mmX : sProp 𝕄 := iprop((xq m c h 0 ∗ xq m c h 1 ∗ xq m c h 2 ∗ xq m c h 3) ∗ (sa (F := F) xsM c h ∗ xz c h)
  ∗ pq (F := F) c h 0 ∗ pq (F := F) c h 1 ∗ pq (F := F) c h 2 ∗ pq (F := F) c h 3)
/-- with the copy of the first block under way, -/
def mmX0 : sProp 𝕄 := iprop((xfl m c (c + jq 0, h) h ∗ xq m c h 1 ∗ xq m c h 2 ∗ xq m c h 3)
  ∗ pq (F := F) c h 0 ∗ pq (F := F) c h 1 ∗ pq (F := F) c h 2 ∗ pq (F := F) c h 3)
def mmX1 : sProp 𝕄 := iprop((xq m c h 0 ∗ xfl m c (c + jq 1, h) h ∗ xq m c h 2 ∗ xq m c h 3)
  ∗ pq (F := F) c h 1 ∗ pq (F := F) c h 2 ∗ pq (F := F) c h 3)
def mmX2 : sProp 𝕄 := iprop((xq m c h 0 ∗ xq m c h 1 ∗ xfl m c (c + jq 2, h) h ∗ xq m c h 3)
  ∗ dq m c h 1 ∗ pq (F := F) c h 2 ∗ pq (F := F) c h 3)
def mmX3 : sProp 𝕄 := iprop((xq m c h 0 ∗ xq m c h 1 ∗ xq m c h 2 ∗ xfl m c (c + jq 3, h) h)
  ∗ dq m c h 1 ∗ dq m c h 2 ∗ pq (F := F) c h 3)
/-- and when the input is no longer needed. -/
def xEnd : sProp 𝕄 := iprop((xq m c h 0 ∗ xq m c h 1 ∗ xq m c h 2 ∗ xq m c h 3) ∗ (sa (F := F) xsM c h ∗ xz c h))
def mmX4 : sProp 𝕄 := iprop(xEnd m c h ∗ dq m c h 1 ∗ dq m c h 2 ∗ dq m c h 3)
/-- A lane's part in the exchange before its first send, and after it. -/
def laneI : sProp 𝕄 := iprop(rstI (F := F) c h false ∗ rstI (F := F) c h true
  ∗ (tg (F := F) c h false 0 ∗ tg (F := F) c h false 1 ∗ tg (F := F) c h false 2) ∗ (tg (F := F) c h true 0 ∗ tg (F := F) c h true 1 ∗ tg (F := F) c h true 2))
def laneJ : sProp 𝕄 := iprop(rst0 (F := F) c h false ∗ rst0 (F := F) c h true ∗ pst0 (F := F) c h false ∗ pst0 (F := F) c h true
  ∗ (tg (F := F) c h false 1 ∗ tg (F := F) c h false 2) ∗ (tg (F := F) c h true 1 ∗ tg (F := F) c h true 2))

theorem pos_A0 (c : Dev nD) : c + jq 0 = sch false c 0 := by revert c; decide
theorem pos_B0 (c : Dev nD) : c + jq 0 = sch true c 0 := by revert c; decide
theorem pos_A1 (c : Dev nD) : c + jq 2 = sch false c 1 := by revert c; decide
theorem pos_A2 (c : Dev nD) : c + jq 3 = sch false c 2 := by revert c; decide
theorem pos_A3 (c : Dev nD) : c + jq 1 = sch false c 3 := by revert c; decide
theorem pos_B1 (c : Dev nD) : c + jq 1 = sch true c 1 := by revert c; decide
theorem pos_B2 (c : Dev nD) : c + jq 3 = sch true c 2 := by revert c; decide
theorem pos_B3 (c : Dev nD) : c + jq 2 = sch true c 3 := by revert c; decide

theorem prod_pos (R : Bool) {a b : Fin 4} (e : a = b) : (prod m c h R a : sProp 𝕄) ⊢ prod m c h R b := by
  subst e; exact Entails.refl _

theorem wp_mm0 (l : List Item) (hl : above 0 l = true) (kk : Pr F) (Q) :
    iprop(know m K ∗ (mmX0 m c h ∗ laneI c h) ∗ wbv c (wvv m c) ∗ owesW c (.snd false 0 h :: .snd true 0 h :: l))
      ⊢ iprop((((mmX1 m c h ∗ laneJ c h) ∗ wbv c (wvv m c) ∗ owesW c l) -∗ WP c kk Q) -∗ WP c (mmS0 (ctab c) h kk) Q) := by
  have h1 : above 0 (.snd true 0 h :: l) = true := above_cons _ _ _ (show 0 < 2 by decide) hl
  have h0 : above 0 (.snd false 0 h :: .snd true 0 h :: l) = true := above_cons _ _ _ (show 0 < 2 by decide) h1
  unfold mmX0 mmX1 laneI laneJ rstI pst0 mmS0
  iintro ⟨#HK, ⟨⟨⟨Hf, X1, X2, X3⟩, ⟨A0, B0⟩, P1, P2, P3⟩, ⟨Sa, Ra⟩, ⟨Sb, Rb⟩, ⟨Ta0, Ta1, Ta2⟩, ⟨Tb0, Tb1, Tb2⟩⟩, Hw, HO⟩ Hk
  iapply (wp_mmBlk m K c h 0 _ (xq m c h 1) (xfl m c (c + jq 1, h) h) (next_x m c h 1) _ h0) $$ [Hf X1 Hw A0 B0 HO]
  · isplitr; · iexact HK
    isplitl [Hf]; · iexact Hf
    isplitl [X1]; · iexact X1
    isplitl [Hw]; · iexact Hw
    isplitl [A0]; · iexact A0
    isplitl [B0] <;> iassumption
  iintro ⟨X0, Hf, Hw, A0, B0, HO⟩
  ihave A0 := (prod_pos m c h false (pos_A0 c)) $$ A0
  ihave B0 := (prod_pos m c h true (pos_B0 c)) $$ B0
  iapply (wp_sendA m K c h false 0 0 rfl 0 rfl _ rfl _) $$ [A0 Ta0 HO Sa]
  · isplitr; · iexact HK
    isplitl [A0]; · iexact A0
    isplitl [Ta0]; · iexact Ta0
    isplitr; · iapply (Entails.of_eq (show iprop(emp) = hb (F := F) c h false 0 from rfl)); iempintro
    isplitl [HO] <;> iassumption
  iintro ⟨Sa, HO⟩
  iapply (wp_sendA m K c h true 0 0 rfl 0 rfl _ rfl _) $$ [B0 Tb0 HO Sb]
  · isplitr; · iexact HK
    isplitl [B0]; · iexact B0
    isplitl [Tb0]; · iexact Tb0
    isplitr; · iapply (Entails.of_eq (show iprop(emp) = hb (F := F) c h true 0 from rfl)); iempintro
    isplitl [HO] <;> iassumption
  iintro ⟨Sb, HO⟩
  iapply Hk
  isplitr [HO Hw]
  · isplitr [Ra Rb Sa Sb Ta1 Ta2 Tb1 Tb2]
    · isplitl [X0 Hf X2 X3]
      · isplitl [X0]; · iexact X0
        isplitl [Hf]; · iexact Hf
        isplitl [X2] <;> iassumption
      isplitl [P1]; · iexact P1
      isplitl [P2] <;> iassumption
    isplitl [Ra]; · iexact Ra
    isplitl [Rb]; · iexact Rb
    isplitl [Sa]; · iexact Sa
    isplitl [Sb]; · iexact Sb
    isplitl [Ta1 Ta2]
    · isplitl [Ta1] <;> iassumption
    isplitl [Tb1] <;> iassumption
  isplitl [Hw] <;> iassumption

theorem wp_mm1 (l : List Item) (hl : above 0 l = true) (kk : Pr F) (Q) :
    iprop(know m K ∗ mmX1 m c h ∗ wbv c (wvv m c) ∗ owesW c l)
      ⊢ iprop(((mmX2 m c h ∗ wbv c (wvv m c) ∗ owesW c l) -∗ WP c kk Q)
        -∗ WP c (mmBlk (ctab c) 1 h (xStart ((ctab c).x 2 h) ((ctab c).hx 2 h) h) kk) Q) := by
  unfold mmX1 mmX2
  iintro ⟨#HK, ⟨⟨X0, Hf, X2, X3⟩, ⟨A, B⟩, P2, P3⟩, Hw, HO⟩ Hk
  iapply (wp_mmBlk m K c h 1 _ (xq m c h 2) (xfl m c (c + jq 2, h) h) (next_x m c h 2) _ hl) $$ [Hf X2 Hw A B HO]
  · isplitr; · iexact HK
    isplitl [Hf]; · iexact Hf
    isplitl [X2]; · iexact X2
    isplitl [Hw]; · iexact Hw
    isplitl [A]; · iexact A
    isplitl [B] <;> iassumption
  iintro ⟨X1, Hf, Hw, A, B, HO⟩
  iapply Hk
  isplitr [HO Hw]
  · isplitl [X0 X1 Hf X3]
    · isplitl [X0]; · iexact X0
      isplitl [X1]; · iexact X1
      isplitl [Hf] <;> iassumption
    isplitl [A B]
    · isplitl [A] <;> iassumption
    isplitl [P2] <;> iassumption
  isplitl [Hw] <;> iassumption

theorem wp_mm2 (l : List Item) (hl : above 0 l = true) (kk : Pr F) (Q) :
    iprop(know m K ∗ mmX2 m c h ∗ wbv c (wvv m c) ∗ owesW c l)
      ⊢ iprop(((mmX3 m c h ∗ wbv c (wvv m c) ∗ owesW c l) -∗ WP c kk Q)
        -∗ WP c (mmBlk (ctab c) 2 h (xStart ((ctab c).x 3 h) ((ctab c).hx 3 h) h) kk) Q) := by
  unfold mmX2 mmX3
  iintro ⟨#HK, ⟨⟨X0, X1, Hf, X3⟩, D1, ⟨A, B⟩, P3⟩, Hw, HO⟩ Hk
  iapply (wp_mmBlk m K c h 2 _ (xq m c h 3) (xfl m c (c + jq 3, h) h) (next_x m c h 3) _ hl) $$ [Hf X3 Hw A B HO]
  · isplitr; · iexact HK
    isplitl [Hf]; · iexact Hf
    isplitl [X3]; · iexact X3
    isplitl [Hw]; · iexact Hw
    isplitl [A]; · iexact A
    isplitl [B] <;> iassumption
  iintro ⟨X2, Hf, Hw, A, B, HO⟩
  iapply Hk
  isplitr [HO Hw]
  · isplitl [X0 X1 Hf X2]
    · isplitl [X0]; · iexact X0
      isplitl [X1]; · iexact X1
      isplitl [X2] <;> iassumption
    isplitl [D1]; · iexact D1
    isplitl [A B]
    · isplitl [A] <;> iassumption
    iexact P3
  isplitl [Hw] <;> iassumption

theorem wp_mm3 (l : List Item) (hl : above 0 l = true) (kk : Pr F) (Q) :
    iprop(know m K ∗ mmX3 m c h ∗ wbv c (wvv m c) ∗ owesW c l)
      ⊢ iprop(((mmX4 m c h ∗ wbv c (wvv m c) ∗ owesW c l) -∗ WP c kk Q) -∗ WP c (mmBlk (ctab c) 3 h id kk) Q) := by
  unfold mmX3 mmX4 xEnd
  iintro ⟨#HK, ⟨⟨X0, X1, X2, Hf⟩, D1, D2, ⟨A, B⟩⟩, Hw, HO⟩ Hk
  iapply (wp_mmBlk m K c h 3 _ iprop(emp) iprop(sa xsM c h ∗ xz c h) (next_id c h) _ hl) $$ [Hf Hw A B HO]
  · isplitr; · iexact HK
    isplitl [Hf]; · iexact Hf
    isplitr; · iempintro
    isplitl [Hw]; · iexact Hw
    isplitl [A]; · iexact A
    isplitl [B] <;> iassumption
  iintro ⟨X3, Hs, Hw, A, B, HO⟩
  iapply Hk
  isplitr [HO Hw]
  · isplitl [X0 X1 X2 X3 Hs]
    · isplitl [X0 X1 X2 X3]
      · isplitl [X0]; · iexact X0
        isplitl [X1]; · iexact X1
        isplitl [X2] <;> iassumption
      iexact Hs
    isplitl [D1]; · iexact D1
    isplitl [D2]; · iexact D2
    isplitl [A] <;> iassumption
  isplitl [Hw] <;> iassumption

/-- The products in the order the rings use them. -/
theorem lane_ready : iprop(mmX4 m c h ∗ laneJ c h) ⊢ (iprop(lane0 m c h ∗ xEnd m c h) : sProp 𝕄) := by
  unfold mmX4 laneJ lane0
  iintro ⟨⟨Hx, ⟨A1, B1⟩, ⟨A2, B2⟩, ⟨A3, B3⟩⟩, Ra, Rb, Sa, Sb, Ta, Tb⟩
  isplitr [Hx]
  · isplitl [Ra]; · iexact Ra
    isplitl [Rb]; · iexact Rb
    isplitl [Sa]; · iexact Sa
    isplitl [Sb]; · iexact Sb
    isplitl [A1 A2 A3]
    · isplitl [A2]; · iapply (prod_pos m c h false (pos_A1 c)); iexact A2
      isplitl [A3]; · iapply (prod_pos m c h false (pos_A2 c)); iexact A3
      iapply (prod_pos m c h false (pos_A3 c)); iexact A1
    isplitl [B1 B2 B3]
    · isplitl [B1]; · iapply (prod_pos m c h true (pos_B1 c)); iexact B1
      isplitl [B3]; · iapply (prod_pos m c h true (pos_B2 c)); iexact B3
      iapply (prod_pos m c h true (pos_B3 c)); iexact B2
    isplitl [Ta] <;> iassumption
  iexact Hx
end

/-! ## The start -/

def wsAny : sProp 𝕄 := iprop(∃ f : Buf (Elt F) ((c : Thread nD τ).loc cc0_scratch7), ((c : Thread nD τ).loc cc0_scratch7) ↦{fullShare} f)
def wbAny : sProp 𝕄 := iprop(∃ f : Buf (Elt F) ((c : Thread nD τ).loc cc0_scratch6), ((c : Thread nD τ).loc cc0_scratch6) ↦{fullShare} f)
def wz : sProp 𝕄 := semVal ((c : Thread nD τ), .dma wsS) 0
def slots (R : Bool) : sProp 𝕄 := bigSep Finset.univ fun x : Fin 3 × Fin 4 => at_ (F := F) (slM R) c fullShare x.1 x.2
def barTok (R : Bool) : sProp 𝕄 := dutyTok ER (kcell (dst (!R) c, .bar)) 0 (bd R)
def barIn : sProp 𝕄 := iprop(cred (tallyAt (kcell (c, .bar)) 0 2) ∗ atPos ER (kcell (c, .bar)) 0 ∅ 0)

theorem ws_ge : 96 ≤ (wsS : DmaSem sig).val := by decide

theorem w_pt (f : Buf (Elt F) ((c : Thread nD τ).loc main_arg1)) :
    (iprop(wM.view.loc (c : Thread nD τ) ↦[wM.view.set]{fullShare} f) : sProp 𝕄) = iprop(((c : Thread nD τ).loc main_arg1) ↦{fullShare} f) := by
  rw [show wM.view.set = Finset.univ from View.set_whole _]
theorem ws_pt (f : Buf (Elt F) ((c : Thread nD τ).loc cc0_scratch7)) :
    (iprop(wsM.view.loc (c : Thread nD τ) ↦[wsM.view.set]{fullShare} f) : sProp 𝕄) = iprop(((c : Thread nD τ).loc cc0_scratch7) ↦{fullShare} f) := by
  rw [show wsM.view.set = Finset.univ from View.set_whole _]

abbrev rW : Rect S1024x2048 := Rect.unit (s := S1024x2048) ![0, 0] S1024x2048.size inb_S1024x2048_S1024x2048_0_0

/-- What the weights' staging buffer holds after the copy, narrowed, is what is stored. -/
theorem w_stored (fs : Buf (Elt F) ((c : Thread nD τ).loc cc0_scratch7)) (fb : Buf (Elt F) ((c : Thread nD τ).loc cc0_scratch6)) :
    (wbM.access rW).write (Elt F) fb (wv (wsM.view.readAt (Elt F) rW.toLoadRect
      (wsM.view.write (Elt F) fs (wM.view.read (Elt F) (m ((c : Thread nD τ).loc main_arg1))) Finset.univ))) Finset.univ = wvv m c := by
  refine (Memref.write_access_unit_zero_univ (Elt F) cc0_scratch6 hz2 _ fb _).trans ?_
  unfold wvv
  refine congrArg wv ?_
  refine (Memref.readAt_unit_zero (Elt F) cc0_scratch7 hz2 _ _).trans ?_
  exact View.write_whole_univ cc0_scratch7 fs _

theorem wp_start (l : List Item) (hl : above 1 l = true) (kk : Pr F) (Q) :
    iprop(know m K ∗ quad (mmX m c) ∗ (wp0 m c ∗ wsAny c ∗ wbAny c ∗ wz c) ∗ (slots c false ∗ slots c true ∗ barTok c false ∗ barTok c true ∗ barIn c)
        ∗ owesW c (.bar false :: .bar true :: l))
      ⊢ iprop(((quad (mmX0 m c) ∗ (wp0 m c ∗ wsAny c ∗ wbv c (wvv m c) ∗ wz c) ∗ barPay false c ∗ barPay true c ∗ semVal (kcell (c, .bar)) 0
          ∗ owesW c l) -∗ WP c kk Q) -∗ WP c (startP (ctab c) kk) Q) := by
  have hl0 : above 0 l = true := by
    unfold above at hl ⊢
    rw [List.all_eq_true] at hl ⊢
    intro i hi
    have := of_decide_eq_true (hl i hi)
    exact decide_eq_true (by omega)
  unfold quad mmX mmX0 startP wp0 wsAny wbAny wz slots barTok barIn
  iintro ⟨#HK, ⟨⟨⟨X0, Y0⟩, ⟨S0, Z0⟩, P0⟩, ⟨⟨X1, Y1⟩, ⟨S1, Z1⟩, P1⟩, ⟨⟨X2, Y2⟩, ⟨S2, Z2⟩, P2⟩, ⟨⟨X3, Y3⟩, ⟨S3, Z3⟩, P3⟩⟩,
    ⟨Hw, ⟨%fs, Hs⟩, ⟨%fb, Hb⟩, Hz⟩, ⟨Sa, Sb, Ta, Tb, ⟨Bc, Bp⟩⟩, HO⟩ Hk
  iapply (wp_dmaLocal EC 𝒱₀ (c : Thread nD τ) none (src := wM) (dst := wsM) (fs := m ((c : Thread nD τ).loc main_arg1)) (fd := fs)
    0 wsM.view.dmaCredit rfl (View.dmaCredit_pos _ (by decide)) (Finset.Subset.refl _)) $$ [Hw Hs Hz]
  · isplitl [Hw]; · iapply (Entails.of_eq (w_pt c _).symm); iexact Hw
    isplitl [Hs]; · iapply (Entails.of_eq (ws_pt c _).symm); iexact Hs
    iexact Hz
  iintro Hfl
  unfold seq4
  iapply (wp_xStart m c (c + jq 0, 0) 0) $$ [X0 S0 Z0]
  · isplitl [X0]; · iexact X0
    isplitl [S0] <;> iassumption
  iintro X0
  iapply (wp_xStart m c (c + jq 0, 1) 1) $$ [X1 S1 Z1]
  · isplitl [X1]; · iexact X1
    isplitl [S1] <;> iassumption
  iintro X1
  iapply (wp_xStart m c (c + jq 0, 2) 2) $$ [X2 S2 Z2]
  · isplitl [X2]; · iexact X2
    isplitl [S2] <;> iassumption
  iintro X2
  iapply (wp_xStart m c (c + jq 0, 3) 3) $$ [X3 S3 Z3]
  · isplitl [X3]; · iexact X3
    isplitl [S3] <;> iassumption
  iintro X3
  iapply (wp_sigBar m K c false (.bar true :: l)) $$ [HO Ta Sa]
  · isplitr; · iexact HK
    isplitl [HO]; · iexact HO
    isplitl [Ta] <;> iassumption
  iintro HO
  iapply (wp_sigBar m K c true l) $$ [HO Tb Sb]
  · isplitr; · iexact HK
    isplitl [HO]; · iexact HO
    isplitl [Tb] <;> iassumption
  iintro HO
  iapply (wp_waitBar m K c l hl) $$ [HO Bc Bp]
  · isplitr; · iexact HK
    isplitl [Bc]; · iexact Bc
    isplitl [Bp] <;> iassumption
  iintro ⟨Ba, Bb, Bz, HO⟩
  unfold owesW
  icases HO with ⟨%W, HO⟩
  iapply (wp_waitLocalO EC 𝒱₀ (c : Thread nD τ) none (srcw := wM) (dstw := wsM) 0 rfl (O := Ow c l) (W := W)) $$ [Hfl HO]
  · isplitl [Hfl]; · iexact Hfl
    isplitl [HO]; · iexact HO
    iapply (mayWait (F := F) c (.dma wsS) 0 (Finset.mem_insert_self _ _) l 0 (kd_loc c _ ws_ge) hl0)
    iapply (know_lev m K); iexact HK
  iintro ⟨⟨Hs, Hw⟩, Hz, HO⟩
  iapply (wp_load 𝒱₀ (c : Thread nD τ) none Set.univ (m := wsM) (by rw [show wsM.view.set = Finset.univ from View.set_whole _]; exact Finset.subset_univ _)) $$ Hs
  iintro Hs
  ihave Hb := (show iprop(((c : Thread nD τ).loc cc0_scratch6) ↦{fullShare} fb) ⊢ (wbv c fb : sProp 𝕄) from by
    unfold wbv
    iintro H
    iexists fb
    isplitr; · ipureintro; rfl
    iexact H) $$ Hb
  iapply (wp_loadW c fb) $$ Hb
  iintro Hb
  unfold wbv
  icases Hb with ⟨%fb', -, Hb⟩
  ihave Hb := (Entails.of_eq (show iprop(((c : Thread nD τ).loc cc0_scratch6) ↦{fullShare} fb')
    = iprop((wbM.access (Rect.unit (s := S1024x2048) ![0, 0] S1024x2048.size inb_S1024x2048_S1024x2048_0_0)).loc (c : Thread nD τ)
        ↦[Finset.univ]{fullShare} fb') from rfl)) $$ Hb
  iapply (wp_store 𝒱₀ (c : Thread nD τ) none Set.univ (m := wbM)
    (r := Rect.unit (s := S1024x2048) ![0, 0] S1024x2048.size inb_S1024x2048_S1024x2048_0_0) (S := Finset.univ) (f := fb') (Finset.subset_univ _)) $$ Hb
  iintro Hb
  iapply Hk
  isplitl [X0 Y0 P0 X1 Y1 P1 X2 Y2 P2 X3 Y3 P3]
  · isplitl [X0 Y0 P0]
    · isplitl [X0 Y0]
      · isplitl [X0] <;> iassumption
      iexact P0
    isplitl [X1 Y1 P1]
    · isplitl [X1 Y1]
      · isplitl [X1] <;> iassumption
      iexact P1
    isplitl [X2 Y2 P2]
    · isplitl [X2 Y2]
      · isplitl [X2] <;> iassumption
      iexact P2
    isplitl [X3 Y3]
    · isplitl [X3] <;> iassumption
    iexact P3
  isplitl [Hw Hs Hb Hz]
  · isplitl [Hw]; · iapply (Entails.of_eq (w_pt c _)); iexact Hw
    isplitl [Hs]
    · iexists (wsM.view.write (Elt F) fs (wM.view.read (Elt F) (m ((c : Thread nD τ).loc main_arg1))) Finset.univ)
      iapply (Entails.of_eq (ws_pt c _)); iexact Hs
    isplitl [Hb]
    · iexists (wvv m c)
      isplitr; · ipureintro; rfl
      iapply (Entails.of_eq (congrArg (fun g : Buf (Elt F) ((c : Thread nD τ).loc cc0_scratch6) =>
        (iprop(((c : Thread nD τ).loc cc0_scratch6) ↦{fullShare} g) : sProp 𝕄)) (w_stored m c fs fb')))
      iexact Hb
    iexact Hz
  isplitl [Ba]; · iexact Ba
  isplitl [Bb]; · iexact Bb
  isplitl [Bz]; · iexact Bz
  iexists _; iexact HO

end Cert.RingProof

end
-- ==== Proof.Whole.lean ====
/-
# The whole body

The stages one after the other.
-/
module

public import proofs.«01_k».proof.Proof.Body

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (c : Dev nD)

/-! ## Four lanes at once -/

theorem quad_split (A B : Fin 4 → sProp 𝕄) : quad (fun h => iprop(A h ∗ B h)) ⊢ iprop(quad A ∗ quad B) := by
  unfold quad
  iintro ⟨⟨A0, B0⟩, ⟨A1, B1⟩, ⟨A2, B2⟩, A3, B3⟩
  isplitl [A0 A1 A2 A3]
  · isplitl [A0]; · iexact A0
    isplitl [A1]; · iexact A1
    isplitl [A2] <;> iassumption
  isplitl [B0]; · iexact B0
  isplitl [B1]; · iexact B1
  isplitl [B2] <;> iassumption
theorem quad_join (A B : Fin 4 → sProp 𝕄) : iprop(quad A ∗ quad B) ⊢ quad (fun h => iprop(A h ∗ B h)) := by
  unfold quad
  iintro ⟨⟨A0, A1, A2, A3⟩, ⟨B0, B1, B2, B3⟩⟩
  isplitl [A0 B0]
  · isplitl [A0] <;> iassumption
  isplitl [A1 B1]
  · isplitl [A1] <;> iassumption
  isplitl [A2 B2]
  · isplitl [A2] <;> iassumption
  isplitl [A3] <;> iassumption
theorem quad_mono {A B : Fin 4 → sProp 𝕄} (h : ∀ i, A i ⊢ B i) : quad A ⊢ quad B := by
  unfold quad
  iintro ⟨A0, A1, A2, A3⟩
  isplitl [A0]; · iapply (h 0); iexact A0
  isplitl [A1]; · iapply (h 1); iexact A1
  isplitl [A2]; · iapply (h 2); iexact A2
  iapply (h 3); iexact A3

/-! ## The credits between neighbours -/

def crIn (R : Bool) (s : ℕ) : sProp 𝕄 := cred (tallyAt (kcell (c, .cr R)) s 1)
def crTok (R : Bool) (s : Fin 3) : sProp 𝕄 := dutyTok ER (kcell (org R c, .cr R)) 0 s

theorem wp_creds (s : Fin 3) (n n' : ℕ) (hn : pl n = .cr false s :: .cr true s :: pl n') (kk : Pr F) (Q) :
    iprop(know m K ∗ crTok c false s ∗ crTok c true s ∗ ow c n) ⊢ iprop((ow c n' -∗ WP c kk Q) -∗ WP c (creds (ctab c) s kk) Q) := by
  unfold creds crTok
  iintro ⟨#HK, Ta, Tb, HO⟩ Hk
  ihave HO := (ow_to c hn) $$ HO
  iapply (wp_sigCr m K c false s (.cr true s :: pl n')) $$ [HO Ta]
  · isplitr; · iexact HK
    isplitl [HO] <;> iassumption
  iintro HO
  iapply (wp_sigCr m K c true s (pl n')) $$ [HO Tb]
  · isplitr; · iexact HK
    isplitl [HO] <;> iassumption
  iintro HO
  iapply Hk
  iapply (of_ow c); iexact HO

theorem wp_waits (s : ℕ) (hs : s < 2) (n : ℕ) (hl : above (2 * s + 3) (pl n) = true) (kk : Pr F) (Q) :
    iprop(know m K ∗ (crIn c false s ∗ crIn c true s) ∗ (crAt false c s ∗ crAt true c s) ∗ ow c n)
      ⊢ iprop((((crAt false c (s + 1) ∗ crAt true c (s + 1)) ∗ ow c n) -∗ WP c kk Q) -∗ WP c (waits kk) Q) := by
  unfold waits crIn ow
  iintro ⟨#HK, ⟨Ca, Cb⟩, ⟨Pa, Pb⟩, HO⟩ Hk
  iapply (wp_waitCr m K c false s hs (pl n) hl) $$ [HO Ca Pa]
  · isplitr; · iexact HK
    isplitl [Ca]; · iexact Ca
    isplitl [Pa] <;> iassumption
  iintro ⟨Pa, HO⟩
  iapply (wp_waitCr m K c true s hs (pl n) hl) $$ [HO Cb Pb]
  · isplitr; · iexact HK
    isplitl [Cb]; · iexact Cb
    isplitl [Pb] <;> iassumption
  iintro ⟨Pb, HO⟩
  iapply Hk
  isplitl [Pa Pb]
  · isplitl [Pa] <;> iassumption
  iexact HO

def crEnd : sProp 𝕄 := iprop(semVal (kcell (c, .cr false)) 0 ∗ semVal (kcell (c, .cr true)) 0)

theorem wp_waitsLast (n : ℕ) (hl : above 7 (pl n) = true) (kk : Pr F) (Q) :
    iprop(know m K ∗ (crIn c false 2 ∗ crIn c true 2) ∗ (crAt false c 2 ∗ crAt true c 2) ∗ ow c n)
      ⊢ iprop(((crEnd c ∗ ow c n) -∗ WP c kk Q) -∗ WP c (waits kk) Q) := by
  unfold waits crIn ow crEnd
  iintro ⟨#HK, ⟨Ca, Cb⟩, ⟨Pa, Pb⟩, HO⟩ Hk
  iapply (wp_waitCrLast m K c false (pl n) hl) $$ [HO Ca Pa]
  · isplitr; · iexact HK
    isplitl [Ca]; · iexact Ca
    isplitl [Pa] <;> iassumption
  iintro ⟨Pa, HO⟩
  iapply (wp_waitCrLast m K c true (pl n) hl) $$ [HO Cb Pb]
  · isplitr; · iexact HK
    isplitl [Cb]; · iexact Cb
    isplitl [Pb] <;> iassumption
  iintro ⟨Pb, HO⟩
  iapply Hk
  isplitl [Pa Pb]
  · isplitl [Pa] <;> iassumption
  iexact HO

/-! ## The products and the sums -/

def wo (n : ℕ) : sProp 𝕄 := iprop(wbv c (wvv m c) ∗ ow c n)

theorem wp_mm0q (kk : Pr F) (Q) :
    iprop(know m K ∗ quad (fun h => iprop(mmX0 m c h ∗ laneI c h)) ∗ wo m c 2)
      ⊢ iprop(((quad (fun h => iprop(mmX1 m c h ∗ laneJ c h)) ∗ wo m c 10) -∗ WP c kk Q) -∗ WP c (seq4 (mmS0 (ctab c)) kk) Q) :=
  wp_seq4 m K c _ _ _ (wo m c 2) (wo m c 4) (wo m c 6) (wo m c 8) (wo m c 10) (fun kk Q => wp_mm0 m K c 0 (pl 4) rfl kk Q)
    (fun kk Q => wp_mm0 m K c 1 (pl 6) rfl kk Q) (fun kk Q => wp_mm0 m K c 2 (pl 8) rfl kk Q) (fun kk Q => wp_mm0 m K c 3 (pl 10) rfl kk Q) kk Q
theorem wp_mm1q (kk : Pr F) (Q) :
    iprop(know m K ∗ quad (mmX1 m c) ∗ wo m c 10)
      ⊢ iprop(((quad (mmX2 m c) ∗ wo m c 10) -∗ WP c kk Q)
        -∗ WP c (seq4 (fun h => mmBlk (ctab c) 1 h (xStart ((ctab c).x 2 h) ((ctab c).hx 2 h) h)) kk) Q) :=
  have H (h : Fin 4) : Takes m K c _ _ _ h (wo m c 10) (wo m c 10) := fun kk Q => wp_mm1 m K c h (pl 10) rfl kk Q
  wp_seq4 m K c _ _ _ _ _ _ _ _ (H 0) (H 1) (H 2) (H 3) kk Q
theorem wp_mm2q (kk : Pr F) (Q) :
    iprop(know m K ∗ quad (mmX2 m c) ∗ wo m c 10)
      ⊢ iprop(((quad (mmX3 m c) ∗ wo m c 10) -∗ WP c kk Q)
        -∗ WP c (seq4 (fun h => mmBlk (ctab c) 2 h (xStart ((ctab c).x 3 h) ((ctab c).hx 3 h) h)) kk) Q) :=
  have H (h : Fin 4) : Takes m K c _ _ _ h (wo m c 10) (wo m c 10) := fun kk Q => wp_mm2 m K c h (pl 10) rfl kk Q
  wp_seq4 m K c _ _ _ _ _ _ _ _ (H 0) (H 1) (H 2) (H 3) kk Q
theorem wp_mm3q (kk : Pr F) (Q) :
    iprop(know m K ∗ quad (mmX3 m c) ∗ wo m c 10)
      ⊢ iprop(((quad (mmX4 m c) ∗ wo m c 10) -∗ WP c kk Q) -∗ WP c (seq4 (fun h => mmBlk (ctab c) 3 h id) kk) Q) :=
  have H (h : Fin 4) : Takes m K c _ _ _ h (wo m c 10) (wo m c 10) := fun kk Q => wp_mm3 m K c h (pl 10) rfl kk Q
  wp_seq4 m K c _ _ _ _ _ _ _ _ (H 0) (H 1) (H 2) (H 3) kk Q
theorem wp_add0q (kk : Pr F) (Q) :
    iprop(know m K ∗ quad (lane0 m c) ∗ ow c 10)
      ⊢ iprop(((quad (lane1 m c) ∗ ow c 18) -∗ WP c kk Q) -∗ WP c (seq4 (addBoth (ctab c) 0) kk) Q) :=
  wp_seq4 m K c _ _ _ (ow c 10) (ow c 12) (ow c 14) (ow c 16) (ow c 18) (fun kk Q => wp_add0 m K c 0 (pl 12) rfl kk Q)
    (fun kk Q => wp_add0 m K c 1 (pl 14) rfl kk Q) (fun kk Q => wp_add0 m K c 2 (pl 16) rfl kk Q) (fun kk Q => wp_add0 m K c 3 (pl 18) rfl kk Q) kk Q
theorem wp_add1q (kk : Pr F) (Q) :
    iprop(know m K ∗ quad (lane1 m c) ∗ ow c 20)
      ⊢ iprop(((quad (lane2 m c) ∗ ow c 28) -∗ WP c kk Q) -∗ WP c (seq4 (addBoth (ctab c) 1) kk) Q) :=
  wp_seq4 m K c _ _ _ (ow c 20) (ow c 22) (ow c 24) (ow c 26) (ow c 28) (fun kk Q => wp_add1 m K c 0 (pl 22) rfl kk Q)
    (fun kk Q => wp_add1 m K c 1 (pl 24) rfl kk Q) (fun kk Q => wp_add1 m K c 2 (pl 26) rfl kk Q) (fun kk Q => wp_add1 m K c 3 (pl 28) rfl kk Q) kk Q

/-! ## The finished tiles -/

/-- The four staging tiles, after use `n`. -/
def outq (n k : ℕ) : sProp 𝕄 := iprop((outs m c false 0 n k ∗ outs m c true 0 n k) ∗ (outs m c false 1 n k ∗ outs m c true 1 n k))
def outq0 : sProp 𝕄 := iprop((outs0 (F := F) c false 0 ∗ outs0 c true 0) ∗ (outs0 c false 1 ∗ outs0 c true 1))
def outqE : sProp 𝕄 := iprop((outsE m c false 0 ∗ outsE m c true 0) ∗ (outsE m c false 1 ∗ outsE m c true 1))

theorem wp_own0 (h : Fin 4) (p : Fin 2) (hh : h = uH p 0) (n n' : ℕ) (hn : pl n = .snd false 3 h :: .snd true 3 h :: pl n')
    (hl : above 6 (pl n') = true) (kk : Pr F) (Q) :
    iprop(know m K ∗ lane2 m c h ∗ (outs0 c false p ∗ outs0 c true p) ∗ ow c n)
      ⊢ iprop(((lane3 c h ∗ (outs m c false p 0 7 ∗ outs m c true p 0 7) ∗ ow c n') -∗ WP c kk Q)
        -∗ WP c (ownBoth (ctab c) h (fun _ => id) kk) Q) := by
  iintro ⟨#HK, HL, ⟨Ua, Ub⟩, HO⟩ Hk
  ihave HO := (ow_to c hn) $$ HO
  iapply (wp_own m K c h _ (pl n') hl) $$ [HL HO]
  · isplitr; · iexact HK
    isplitl [HL] <;> iassumption
  iintro ⟨HL, HO⟩
  iapply (wp_put0 m c false p 0 h rfl hh _ rfl) $$ Ua
  iintro Ua
  iapply (wp_put0 m c true p 0 h rfl hh _ rfl) $$ Ub
  iintro Ub
  iapply Hk
  isplitl [HL]; · iexact HL
  isplitl [Ua Ub]
  · isplitl [Ua] <;> iassumption
  iapply (of_ow c); iexact HO

theorem wp_own1 (h : Fin 4) (p : Fin 2) (hh : h = uH p 1) (h' : Fin 4) (hh' : h' = uH p 0) (n n' : ℕ)
    (hn : pl n = .snd false 3 h :: .snd true 3 h :: pl n')
    (hl : above 6 (pl n') = true) (hl0 : above 0 (pl n') = true) (kk : Pr F) (Q) :
    iprop(know m K ∗ lane2 m c h ∗ (outs m c false p 0 7 ∗ outs m c true p 0 7) ∗ ow c n)
      ⊢ iprop(((lane3 c h ∗ (outs m c false p 1 6 ∗ outs m c true p 1 6) ∗ ow c n') -∗ WP c kk Q)
        -∗ WP c (ownBoth (ctab c) h (fun R => oWait R p ((ctab c).o R 0 h') ((ctab c).ho R 0 h')) kk) Q) := by
  iintro ⟨#HK, HL, ⟨Ua, Ub⟩, HO⟩ Hk
  ihave HO := (ow_to c hn) $$ HO
  iapply (wp_own m K c h _ (pl n') hl) $$ [HL HO]
  · isplitr; · iexact HK
    isplitl [HL] <;> iassumption
  iintro ⟨HL, HO⟩
  iapply (wp_putN m K c false p 0 6 rfl 0 h 0 h' rfl hh rfl hh' _ rfl (pl n') hl0) $$ [Ua HO]
  · isplitr; · iexact HK
    isplitl [Ua] <;> iassumption
  iintro ⟨Ua, HO⟩
  iapply (wp_putN m K c true p 0 6 rfl 0 h 0 h' rfl hh rfl hh' _ rfl (pl n') hl0) $$ [Ub HO]
  · isplitr; · iexact HK
    isplitl [Ub] <;> iassumption
  iintro ⟨Ub, HO⟩
  iapply Hk
  isplitl [HL]; · iexact HL
  isplitl [Ua Ub]
  · isplitl [Ua] <;> iassumption
  iapply (of_ow c); iexact HO

theorem wp_ownq (kk : Pr F) (Q) :
    iprop(know m K ∗ quad (lane2 m c) ∗ outq0 c ∗ ow c 30)
      ⊢ iprop(((quad (lane3 c) ∗ outq m c 1 6 ∗ ow c 38) -∗ WP c kk Q) -∗ WP c (ownBoth (ctab c) 0 (fun _ => id) <| ownBoth (ctab c) 1 (fun _ => id) <| ownBoth (ctab c) 2 (fun R => oWait R 0 ((ctab c).o R 0 0) ((ctab c).ho _ _ _)) <| ownBoth (ctab c) 3 (fun R => oWait R 1 ((ctab c).o R 0 1) ((ctab c).ho _ _ _)) kk) Q) := by
  unfold quad outq0 outq
  iintro ⟨#HK, ⟨L0, L1, L2, L3⟩, ⟨U0, U1⟩, HO⟩ Hk
  iapply (wp_own0 m K c 0 0 rfl 30 32 rfl rfl) $$ [L0 U0 HO]
  · isplitr; · iexact HK
    isplitl [L0]; · iexact L0
    isplitl [U0] <;> iassumption
  iintro ⟨L0, U0, HO⟩
  iapply (wp_own0 m K c 1 1 rfl 32 34 rfl rfl) $$ [L1 U1 HO]
  · isplitr; · iexact HK
    isplitl [L1]; · iexact L1
    isplitl [U1] <;> iassumption
  iintro ⟨L1, U1, HO⟩
  iapply (wp_own1 m K c 2 0 rfl 0 rfl 34 36 rfl rfl rfl) $$ [L2 U0 HO]
  · isplitr; · iexact HK
    isplitl [L2]; · iexact L2
    isplitl [U0] <;> iassumption
  iintro ⟨L2, U0, HO⟩
  iapply (wp_own1 m K c 3 1 rfl 1 rfl 36 38 rfl rfl rfl) $$ [L3 U1 HO]
  · isplitr; · iexact HK
    isplitl [L3]; · iexact L3
    isplitl [U1] <;> iassumption
  iintro ⟨L3, U1, HO⟩
  iapply Hk
  isplitl [L0 L1 L2 L3]
  · isplitl [L0]; · iexact L0
    isplitl [L1]; · iexact L1
    isplitl [L2] <;> iassumption
  isplitl [U0 U1]
  · isplitl [U0] <;> iassumption
  iexact HO

theorem wp_fwd1p (h : Fin 4) (p : Fin 2) (j k : ℕ) (hjk : j + k = 6) (u' h' : Fin 4) (hu : 1 = uU (j + 1)) (hh : h = uH p (j + 1)) (hu' : u' = uU j) (hh' : h' = uH p j)
    (n n' : ℕ) (hn : pl n = .snd false 4 h :: .snd true 4 h :: pl n') (hl : above 8 (pl n') = true) (hl0 : above 0 (pl n') = true) (kk : Pr F) (Q) :
    iprop(know m K ∗ lane3 c h ∗ (outs m c false p j (k + 1) ∗ outs m c true p j (k + 1)) ∗ ow c n)
      ⊢ iprop(((lane4 c h ∗ (outs m c false p (j + 1) k ∗ outs m c true p (j + 1) k) ∗ ow c n') -∗ WP c kk Q)
        -∗ WP c (fwd1 (ctab c) h (fun R => oWait R p ((ctab c).o R u' h') ((ctab c).ho R u' h')) kk) Q) := by
  iintro ⟨#HK, HL, ⟨Ua, Ub⟩, HO⟩ Hk
  ihave HO := (ow_to c hn) $$ HO
  iapply (wp_fwd1 m K c h p j k hjk u' h' hu hh hu' hh' (pl n') hl hl0) $$ [HL Ua Ub HO]
  · isplitr; · iexact HK
    isplitl [HL]; · iexact HL
    isplitl [Ua]; · iexact Ua
    isplitl [Ub] <;> iassumption
  iintro ⟨HL, Ua, Ub, HO⟩
  iapply Hk
  isplitl [HL]; · iexact HL
  isplitl [Ua Ub]
  · isplitl [Ua] <;> iassumption
  iapply (of_ow c); iexact HO

theorem wp_fwd1q (kk : Pr F) (Q) :
    iprop(know m K ∗ quad (lane3 c) ∗ outq m c 1 6 ∗ ow c 40)
      ⊢ iprop(((quad (lane4 c) ∗ outq m c 3 4 ∗ ow c 48) -∗ WP c kk Q) -∗ WP c (fwd1 (ctab c) 0 (fun R => oWait R 0 ((ctab c).o R 0 2) ((ctab c).ho _ _ _)) <| fwd1 (ctab c) 1 (fun R => oWait R 1 ((ctab c).o R 0 3) ((ctab c).ho _ _ _)) <| fwd1 (ctab c) 2 (fun R => oWait R 0 ((ctab c).o R 1 0) ((ctab c).ho _ _ _)) <| fwd1 (ctab c) 3 (fun R => oWait R 1 ((ctab c).o R 1 1) ((ctab c).ho _ _ _)) kk) Q) := by
  unfold quad outq
  iintro ⟨#HK, ⟨L0, L1, L2, L3⟩, ⟨U0, U1⟩, HO⟩ Hk
  iapply (wp_fwd1p m K c 0 0 1 5 rfl 0 2 rfl rfl rfl rfl 40 42 rfl rfl rfl) $$ [L0 U0 HO]
  · isplitr; · iexact HK
    isplitl [L0]; · iexact L0
    isplitl [U0] <;> iassumption
  iintro ⟨L0, U0, HO⟩
  iapply (wp_fwd1p m K c 1 1 1 5 rfl 0 3 rfl rfl rfl rfl 42 44 rfl rfl rfl) $$ [L1 U1 HO]
  · isplitr; · iexact HK
    isplitl [L1]; · iexact L1
    isplitl [U1] <;> iassumption
  iintro ⟨L1, U1, HO⟩
  iapply (wp_fwd1p m K c 2 0 2 4 rfl 1 0 rfl rfl rfl rfl 44 46 rfl rfl rfl) $$ [L2 U0 HO]
  · isplitr; · iexact HK
    isplitl [L2]; · iexact L2
    isplitl [U0] <;> iassumption
  iintro ⟨L2, U0, HO⟩
  iapply (wp_fwd1p m K c 3 1 2 4 rfl 1 1 rfl rfl rfl rfl 46 48 rfl rfl rfl) $$ [L3 U1 HO]
  · isplitr; · iexact HK
    isplitl [L3]; · iexact L3
    isplitl [U1] <;> iassumption
  iintro ⟨L3, U1, HO⟩
  iapply Hk
  isplitl [L0 L1 L2 L3]
  · isplitl [L0]; · iexact L0
    isplitl [L1]; · iexact L1
    isplitl [L2] <;> iassumption
  isplitl [U0 U1]
  · isplitl [U0] <;> iassumption
  iexact HO

theorem wp_fwd2p (h : Fin 4) (p : Fin 2) (j k : ℕ) (hjk : j + k = 6) (u' h' : Fin 4) (hu : 2 = uU (j + 1)) (hh : h = uH p (j + 1)) (hu' : u' = uU j) (hh' : h' = uH p j)
    (n n' : ℕ) (hn : pl n = .snd false 5 h :: .snd true 5 h :: pl n') (hl : above 10 (pl n') = true) (hl0 : above 0 (pl n') = true) (kk : Pr F) (Q) :
    iprop(know m K ∗ lane4 c h ∗ (outs m c false p j (k + 1) ∗ outs m c true p j (k + 1)) ∗ ow c n)
      ⊢ iprop(((lane5 c h ∗ (outs m c false p (j + 1) k ∗ outs m c true p (j + 1) k) ∗ ow c n') -∗ WP c kk Q)
        -∗ WP c (fwd2 (ctab c) h (fun R => oWait R p ((ctab c).o R u' h') ((ctab c).ho R u' h')) kk) Q) := by
  iintro ⟨#HK, HL, ⟨Ua, Ub⟩, HO⟩ Hk
  ihave HO := (ow_to c hn) $$ HO
  iapply (wp_fwd2 m K c h p j k hjk u' h' hu hh hu' hh' (pl n') hl hl0) $$ [HL Ua Ub HO]
  · isplitr; · iexact HK
    isplitl [HL]; · iexact HL
    isplitl [Ua]; · iexact Ua
    isplitl [Ub] <;> iassumption
  iintro ⟨HL, Ua, Ub, HO⟩
  iapply Hk
  isplitl [HL]; · iexact HL
  isplitl [Ua Ub]
  · isplitl [Ua] <;> iassumption
  iapply (of_ow c); iexact HO

theorem wp_fwd2q (kk : Pr F) (Q) :
    iprop(know m K ∗ quad (lane4 c) ∗ outq m c 3 4 ∗ ow c 48)
      ⊢ iprop(((quad (lane5 c) ∗ outq m c 5 2 ∗ ow c 56) -∗ WP c kk Q) -∗ WP c (fwd2 (ctab c) 0 (fun R => oWait R 0 ((ctab c).o R 1 2) ((ctab c).ho _ _ _)) <| fwd2 (ctab c) 1 (fun R => oWait R 1 ((ctab c).o R 1 3) ((ctab c).ho _ _ _)) <| fwd2 (ctab c) 2 (fun R => oWait R 0 ((ctab c).o R 2 0) ((ctab c).ho _ _ _)) <| fwd2 (ctab c) 3 (fun R => oWait R 1 ((ctab c).o R 2 1) ((ctab c).ho _ _ _)) kk) Q) := by
  unfold quad outq
  iintro ⟨#HK, ⟨L0, L1, L2, L3⟩, ⟨U0, U1⟩, HO⟩ Hk
  iapply (wp_fwd2p m K c 0 0 3 3 rfl 1 2 rfl rfl rfl rfl 48 50 rfl rfl rfl) $$ [L0 U0 HO]
  · isplitr; · iexact HK
    isplitl [L0]; · iexact L0
    isplitl [U0] <;> iassumption
  iintro ⟨L0, U0, HO⟩
  iapply (wp_fwd2p m K c 1 1 3 3 rfl 1 3 rfl rfl rfl rfl 50 52 rfl rfl rfl) $$ [L1 U1 HO]
  · isplitr; · iexact HK
    isplitl [L1]; · iexact L1
    isplitl [U1] <;> iassumption
  iintro ⟨L1, U1, HO⟩
  iapply (wp_fwd2p m K c 2 0 4 2 rfl 2 0 rfl rfl rfl rfl 52 54 rfl rfl rfl) $$ [L2 U0 HO]
  · isplitr; · iexact HK
    isplitl [L2]; · iexact L2
    isplitl [U0] <;> iassumption
  iintro ⟨L2, U0, HO⟩
  iapply (wp_fwd2p m K c 3 1 4 2 rfl 2 1 rfl rfl rfl rfl 54 56 rfl rfl rfl) $$ [L3 U1 HO]
  · isplitr; · iexact HK
    isplitl [L3]; · iexact L3
    isplitl [U1] <;> iassumption
  iintro ⟨L3, U1, HO⟩
  iapply Hk
  isplitl [L0 L1 L2 L3]
  · isplitl [L0]; · iexact L0
    isplitl [L1]; · iexact L1
    isplitl [L2] <;> iassumption
  isplitl [U0 U1]
  · isplitl [U0] <;> iassumption
  iexact HO

theorem wp_lastp (h : Fin 4) (p : Fin 2) (j k : ℕ) (hjk : j + k = 6) (u' h' : Fin 4) (hu : 3 = uU (j + 1)) (hh : h = uH p (j + 1)) (hu' : u' = uU j) (hh' : h' = uH p j)
    (kk : Pr F) (Q) :
    iprop(know m K ∗ lane5 c h ∗ (outs m c false p j (k + 1) ∗ outs m c true p j (k + 1)) ∗ ow c 56)
      ⊢ iprop(((lane6 c h ∗ (outs m c false p (j + 1) k ∗ outs m c true p (j + 1) k) ∗ ow c 56) -∗ WP c kk Q)
        -∗ WP c (lastS (ctab c) h (fun R => oWait R p ((ctab c).o R u' h') ((ctab c).ho R u' h')) kk) Q) := by
  iintro ⟨#HK, HL, ⟨Ua, Ub⟩, HO⟩ Hk
  ihave HO := (ow_to c (l := []) rfl) $$ HO
  iapply (wp_last m K c h p j k hjk u' h' hu hh hu' hh') $$ [HL Ua Ub HO]
  · isplitr; · iexact HK
    isplitl [HL]; · iexact HL
    isplitl [Ua]; · iexact Ua
    isplitl [Ub] <;> iassumption
  iintro ⟨HL, Ua, Ub, HO⟩
  iapply Hk
  isplitl [HL]; · iexact HL
  isplitl [Ua Ub]
  · isplitl [Ua] <;> iassumption
  iapply (of_ow c (n := 56)); iexact HO

theorem wp_lastq (kk : Pr F) (Q) :
    iprop(know m K ∗ quad (lane5 c) ∗ outq m c 5 2 ∗ ow c 56)
      ⊢ iprop(((quad (lane6 c) ∗ outq m c 7 0 ∗ ow c 56) -∗ WP c kk Q) -∗ WP c (lastS (ctab c) 0 (fun R => oWait R 0 ((ctab c).o R 2 2) ((ctab c).ho _ _ _)) <| lastS (ctab c) 1 (fun R => oWait R 1 ((ctab c).o R 2 3) ((ctab c).ho _ _ _)) <| lastS (ctab c) 2 (fun R => oWait R 0 ((ctab c).o R 3 0) ((ctab c).ho _ _ _)) <| lastS (ctab c) 3 (fun R => oWait R 1 ((ctab c).o R 3 1) ((ctab c).ho _ _ _)) kk) Q) := by
  unfold quad outq
  iintro ⟨#HK, ⟨L0, L1, L2, L3⟩, ⟨U0, U1⟩, HO⟩ Hk
  iapply (wp_lastp m K c 0 0 5 1 rfl 2 2 rfl rfl rfl rfl) $$ [L0 U0 HO]
  · isplitr; · iexact HK
    isplitl [L0]; · iexact L0
    isplitl [U0] <;> iassumption
  iintro ⟨L0, U0, HO⟩
  iapply (wp_lastp m K c 1 1 5 1 rfl 2 3 rfl rfl rfl rfl) $$ [L1 U1 HO]
  · isplitr; · iexact HK
    isplitl [L1]; · iexact L1
    isplitl [U1] <;> iassumption
  iintro ⟨L1, U1, HO⟩
  iapply (wp_lastp m K c 2 0 6 0 rfl 3 0 rfl rfl rfl rfl) $$ [L2 U0 HO]
  · isplitr; · iexact HK
    isplitl [L2]; · iexact L2
    isplitl [U0] <;> iassumption
  iintro ⟨L2, U0, HO⟩
  iapply (wp_lastp m K c 3 1 6 0 rfl 3 1 rfl rfl rfl rfl) $$ [L3 U1 HO]
  · isplitr; · iexact HK
    isplitl [L3]; · iexact L3
    isplitl [U1] <;> iassumption
  iintro ⟨L3, U1, HO⟩
  iapply Hk
  isplitl [L0 L1 L2 L3]
  · isplitl [L0]; · iexact L0
    isplitl [L1]; · iexact L1
    isplitl [L2] <;> iassumption
  isplitl [U0 U1]
  · isplitl [U0] <;> iassumption
  iexact HO

end Cert.RingProof

end
-- ==== Proof.End.lean ====
/-
# The end of the body, and the body

The last waits give back the tiles that were sent from, and the program of a device is run as a whole.
-/
module

public import proofs.«01_k».proof.Proof.Whole

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (c : Dev nD)

/-! ## The last waits -/

/-- A send's tile and its closed cell, -/
def back (R : Bool) (j : Fin 6) (h : Fin 4) : sProp 𝕄 := iprop(sndPay (F := F) R c h j ∗ zs R h c j)
/-- and all of a ring's for one lane. -/
def backs (R : Bool) (h : Fin 4) : sProp 𝕄 :=
  iprop(back (F := F) c R 0 h ∗ back c R 1 h ∗ back c R 2 h ∗ back c R 3 h ∗ back c R 4 h ∗ back c R 5 h)
def zrs (R : Bool) (h : Fin 4) : sProp 𝕄 :=
  iprop(zr (F := F) R h c 0 ∗ zr R h c 1 ∗ zr R h c 2 ∗ zr R h c 3 ∗ zr R h c 4 ∗ zr R h c 5)
def sents (R : Bool) (h : Fin 4) : sProp 𝕄 :=
  iprop(sent (F := F) R h c 0 ∗ sent R h c 1 ∗ sent R h c 2 ∗ sent R h c 3 ∗ sent R h c 4 ∗ sent R h c 5)

theorem pst_all (R : Bool) (h : Fin 4) : (pst6 (F := F) c h R : sProp 𝕄) ⊢ iprop(sents c R h ∗ zrs c R h) := by
  unfold pst6 pst5 pst4 pst3 pst2 pst1 pst0 sents zrs
  iintro ⟨⟨⟨⟨⟨⟨S0, Z0, S1⟩, Z1, S2⟩, Z2, S3⟩, Z3, S4⟩, Z4, S5⟩, Z5⟩
  isplitl [S0 S1 S2 S3 S4 S5]
  · isplitl [S0]; · iexact S0
    isplitl [S1]; · iexact S1
    isplitl [S2]; · iexact S2
    isplitl [S3]; · iexact S3
    isplitl [S4] <;> iassumption
  isplitl [Z0]; · iexact Z0
  isplitl [Z1]; · iexact Z1
  isplitl [Z2]; · iexact Z2
  isplitl [Z3]; · iexact Z3
  isplitl [Z4] <;> iassumption

theorem wp_doneAq (R : Bool) (k : Fin 4) (j : Fin 6) (hj : j.val = k.val) (kk : Pr F) (Q) :
    iprop(know m K ∗ quad (fun h => sent R h c j) ∗ owesW c [])
      ⊢ iprop(((quad (back c R j) ∗ owesW c []) -∗ WP c kk Q) -∗ WP c (seq4 (doneA (ctab c) R k) kk) Q) :=
  have H (h : Fin 4) : Takes m K c (doneA (ctab c) R k) (fun h => sent R h c j) (back c R j) h (owesW c []) (owesW c []) := fun kk Q => by
    unfold back
    iintro ⟨#HK, Hs, HO⟩ Hk
    iapply (wp_doneA m K c h R k j hj kk Q) $$ [Hs HO]
    · isplitr; · iexact HK
      isplitl [Hs] <;> iassumption
    iintro ⟨Hp, Hz, HO⟩
    iapply Hk
    isplitl [Hp Hz]
    · isplitl [Hp] <;> iassumption
    iexact HO
  wp_seq4 m K c _ _ _ _ _ _ _ _ (H 0) (H 1) (H 2) (H 3) kk Q

theorem wp_doneBq (R : Bool) (k : Fin 2) (j : Fin 6) (hj : j.val = k.val + 4) (kk : Pr F) (Q) :
    iprop(know m K ∗ quad (fun h => sent R h c j) ∗ owesW c [])
      ⊢ iprop(((quad (back c R j) ∗ owesW c []) -∗ WP c kk Q) -∗ WP c (seq4 (doneB R k) kk) Q) :=
  have H (h : Fin 4) : Takes m K c (doneB R k) (fun h => sent R h c j) (back c R j) h (owesW c []) (owesW c []) := fun kk Q => by
    unfold back
    iintro ⟨#HK, Hs, HO⟩ Hk
    iapply (wp_doneB m K c h R k j hj kk Q) $$ [Hs HO]
    · isplitr; · iexact HK
      isplitl [Hs] <;> iassumption
    iintro ⟨Hp, Hz, HO⟩
    iapply Hk
    isplitl [Hp Hz]
    · isplitl [Hp] <;> iassumption
    iexact HO
  wp_seq4 m K c _ _ _ _ _ _ _ _ (H 0) (H 1) (H 2) (H 3) kk Q

theorem wp_doneAll (R : Bool) (kk : Pr F) (Q) :
    iprop(know m K ∗ quad (sents c R) ∗ owesW c [])
      ⊢ iprop(((quad (backs c R) ∗ owesW c []) -∗ WP c kk Q) -∗ WP c (doneAll (ctab c) R kk) Q) := by
  unfold doneAll
  iintro ⟨#HK, HS, HO⟩ Hk
  ihave HS := (show quad (sents (F := F) c R) ⊢ _ from quad_split _ _) $$ HS
  icases HS with ⟨S0, HS⟩
  ihave HS := (quad_split _ _) $$ HS
  icases HS with ⟨S1, HS⟩
  ihave HS := (quad_split _ _) $$ HS
  icases HS with ⟨S2, HS⟩
  ihave HS := (quad_split _ _) $$ HS
  icases HS with ⟨S3, HS⟩
  ihave HS := (quad_split _ _) $$ HS
  icases HS with ⟨S4, S5⟩
  iapply (wp_doneAq m K c R 0 0 rfl) $$ [S0 HO]
  · isplitr; · iexact HK
    isplitl [S0] <;> iassumption
  iintro ⟨S0, HO⟩
  iapply (wp_doneAq m K c R 1 1 rfl) $$ [S1 HO]
  · isplitr; · iexact HK
    isplitl [S1] <;> iassumption
  iintro ⟨S1, HO⟩
  iapply (wp_doneAq m K c R 2 2 rfl) $$ [S2 HO]
  · isplitr; · iexact HK
    isplitl [S2] <;> iassumption
  iintro ⟨S2, HO⟩
  iapply (wp_doneAq m K c R 3 3 rfl) $$ [S3 HO]
  · isplitr; · iexact HK
    isplitl [S3] <;> iassumption
  iintro ⟨S3, HO⟩
  iapply (wp_doneBq m K c R 0 4 rfl) $$ [S4 HO]
  · isplitr; · iexact HK
    isplitl [S4] <;> iassumption
  iintro ⟨S4, HO⟩
  iapply (wp_doneBq m K c R 1 5 rfl) $$ [S5 HO]
  · isplitr; · iexact HK
    isplitl [S5] <;> iassumption
  iintro ⟨S5, HO⟩
  iapply Hk
  isplitr [HO]
  · iapply (show _ ⊢ quad (backs (F := F) c R) from quad_join (back c R 0) _)
    isplitl [S0]; · iexact S0
    iapply (quad_join (back c R 1) _)
    isplitl [S1]; · iexact S1
    iapply (quad_join (back c R 2) _)
    isplitl [S2]; · iexact S2
    iapply (quad_join (back c R 3) _)
    isplitl [S3]; · iexact S3
    iapply (quad_join (back c R 4) _)
    isplitl [S4] <;> iassumption
  iexact HO

/-- What a lane ends with on one ring: its product tiles, its slots, its cells. -/
def endR (R : Bool) (h : Fin 4) : sProp 𝕄 :=
  iprop((bigSep Finset.univ fun a : Fin 4 => pany (F := F) c h R a) ∗ (bigSep Finset.univ fun a : Fin 3 => own (F := F) c h R a)
    ∗ (bigSep Finset.univ fun k : Fin 6 => zs (F := F) R h c k) ∗ bigSep Finset.univ fun k : Fin 6 => zr (F := F) R h c k)
def laneE (h : Fin 4) : sProp 𝕄 := iprop(endR (F := F) c false h ∗ endR (F := F) c true h)

def halves (R : Bool) (h : Fin 4) : sProp 𝕄 := iprop(half (F := F) c h R 0 ∗ half (F := F) c h R 1 ∗ own (F := F) c h R 2)

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_tiles (Φ : Fin 3 × Fin 4 → sProp 𝕄) : bigSep Finset.univ Φ = iprop(Φ (0, 0) ∗ Φ (1, 0) ∗ Φ (2, 0) ∗ Φ (0, 1) ∗ Φ (1, 1) ∗ Φ (2, 1)
    ∗ Φ (0, 2) ∗ Φ (1, 2) ∗ Φ (2, 2) ∗ Φ (0, 3) ∗ Φ (1, 3) ∗ Φ (2, 3)) :=
  bigSep_univ_eq_bigSepL [((0, 0) : Fin 3 × Fin 4), (1, 0), (2, 0), (0, 1), (1, 1), (2, 1), (0, 2), (1, 2), (2, 2), (0, 3), (1, 3), (2, 3)]
    (by decide) (by decide) Φ

theorem sch_list : ∀ (R : Bool) (c : Dev nD), (Finset.univ : Finset (Fin 4)) = [sch R c 0, sch R c 1, sch R c 2, sch R c 3].toFinset := by decide
theorem sch_nodup : ∀ (R : Bool) (c : Dev nD), [sch R c 0, sch R c 1, sch R c 2, sch R c 3].Nodup := by decide

theorem bigSep_sch (R : Bool) (Φ : Fin 4 → sProp 𝕄) :
    bigSep Finset.univ Φ = iprop(Φ (sch R c 0) ∗ Φ (sch R c 1) ∗ Φ (sch R c 2) ∗ Φ (sch R c 3)) :=
  bigSep_univ_eq_bigSepL _ (sch_list R c) (sch_nodup R c) Φ

theorem end_ring (R : Bool) (h : Fin 4) : iprop(backs (F := F) c R h ∗ zrs c R h ∗ halves c R h) ⊢ endR (F := F) c R h := by
  unfold backs back zrs halves endR
  rw [bigSep_sch c R, bigSep_three, bigSep_six, bigSep_six]
  iintro ⟨⟨⟨P0, Z0⟩, ⟨P1, Z1⟩, ⟨P2, Z2⟩, ⟨P3, Z3⟩, ⟨P4, Z4⟩, P5, Z5⟩, HZ, ⟨H0, H1, H2⟩⟩
  ihave P0 := (Entails.of_eq (show sndPay (F := F) R c h 0 = pany (F := F) c h R (sch R c 0) from rfl)) $$ P0
  ihave P1 := (Entails.of_eq (show sndPay (F := F) R c h 1 = pany (F := F) c h R (sch R c 1) from rfl)) $$ P1
  ihave P2 := (Entails.of_eq (show sndPay (F := F) R c h 2 = pany (F := F) c h R (sch R c 2) from rfl)) $$ P2
  ihave P3 := (Entails.of_eq (show sndPay (F := F) R c h 3 = pany (F := F) c h R (sch R c 3) from rfl)) $$ P3
  ihave P4 := (Entails.of_eq (show sndPay (F := F) R c h 4 = at_ (F := F) (slM R) c fullShare.left 0 h from rfl)) $$ P4
  ihave P5 := (Entails.of_eq (show sndPay (F := F) R c h 5 = at_ (F := F) (slM R) c fullShare.left 1 h from rfl)) $$ P5
  isplitl [P0 P1 P2 P3]
  · isplitl [P0]; · iexact P0
    isplitl [P1]; · iexact P1
    isplitl [P2] <;> iassumption
  isplitl [P4 P5 H0 H1 H2]
  · isplitl [P4 H0]
    · iapply (at_join c (slM R) 0 h)
      isplitl [P4] <;> iassumption
    isplitl [P5 H1]
    · iapply (at_join c (slM R) 1 h)
      isplitl [P5] <;> iassumption
    iexact H2
  isplitl [Z0 Z1 Z2 Z3 Z4 Z5]
  · isplitl [Z0]; · iexact Z0
    isplitl [Z1]; · iexact Z1
    isplitl [Z2]; · iexact Z2
    isplitl [Z3]; · iexact Z3
    isplitl [Z4] <;> iassumption
  iexact HZ

theorem quad_ring (R : Bool) : iprop(quad (backs (F := F) c R) ∗ quad (zrs c R) ∗ quad (halves c R)) ⊢ quad (endR (F := F) c R) := by
  iintro ⟨H1, H2, H3⟩
  iapply (quad_mono fun h => end_ring c R h)
  iapply (quad_join (backs c R) _)
  isplitl [H1]; · iexact H1
  iapply (quad_join (zrs c R) (halves c R))
  isplitl [H2] <;> iassumption

theorem lane6_parts (h : Fin 4) : lane6 (F := F) c h
    ⊢ iprop(sents c false h ∗ zrs c false h ∗ halves c false h ∗ sents c true h ∗ zrs c true h ∗ halves c true h) := by
  unfold lane6 halves
  iintro ⟨Pa, Pb, Ha, Hb⟩
  ihave Pa := (pst_all c false h) $$ Pa
  ihave Pb := (pst_all c true h) $$ Pb
  icases Pa with ⟨Sa, Za⟩
  icases Pb with ⟨Sb, Zb⟩
  isplitl [Sa]; · iexact Sa
  isplitl [Za]; · iexact Za
  isplitl [Ha]; · iexact Ha
  isplitl [Sb]; · iexact Sb
  isplitl [Zb] <;> iassumption

theorem wp_done (Q : PUnit → sProp 𝕄) : Q ⟨⟩ ⊢ WP c (.ret ⟨⟩ : Pr F) Q := by
  unfold WP
  rw [wp_ret]
  iintro H
  imodintro
  iexact H

theorem wp_end (Q : PUnit → sProp 𝕄) :
    iprop(know m K ∗ quad (lane6 c) ∗ outq m c 7 0 ∗ ow c 56)
      ⊢ iprop(((quad (laneE c) ∗ outqE m c ∗ ow c 56) -∗ Q ⟨⟩) -∗ WP c (endP (ctab c)) Q) := by
  unfold endP outq outqE
  iintro ⟨#HK, HL, ⟨⟨U0, V0⟩, ⟨U1, V1⟩⟩, HO⟩ Hk
  ihave HO := (ow_to c (l := []) rfl) $$ HO
  ihave HL := (quad_mono fun h => lane6_parts c h) $$ HL
  ihave HL := (quad_split _ _) $$ HL
  icases HL with ⟨Sa, HL⟩
  ihave HL := (quad_split _ _) $$ HL
  icases HL with ⟨Za, HL⟩
  ihave HL := (quad_split _ _) $$ HL
  icases HL with ⟨Ha, HL⟩
  ihave HL := (quad_split _ _) $$ HL
  icases HL with ⟨Sb, HL⟩
  ihave HL := (quad_split _ _) $$ HL
  icases HL with ⟨Zb, Hb⟩
  iapply (wp_doneAll m K c false) $$ [Sa HO]
  · isplitr; · iexact HK
    isplitl [Sa] <;> iassumption
  iintro ⟨Sa, HO⟩
  iapply (wp_doneAll m K c true) $$ [Sb HO]
  · isplitr; · iexact HK
    isplitl [Sb] <;> iassumption
  iintro ⟨Sb, HO⟩
  iapply (wp_putE m K c false 0 3 2 rfl rfl [] rfl) $$ [U0 HO]
  · isplitr; · iexact HK
    isplitl [U0] <;> iassumption
  iintro ⟨U0, HO⟩
  iapply (wp_putE m K c false 1 3 3 rfl rfl [] rfl) $$ [U1 HO]
  · isplitr; · iexact HK
    isplitl [U1] <;> iassumption
  iintro ⟨U1, HO⟩
  iapply (wp_putE m K c true 0 3 2 rfl rfl [] rfl) $$ [V0 HO]
  · isplitr; · iexact HK
    isplitl [V0] <;> iassumption
  iintro ⟨V0, HO⟩
  iapply (wp_putE m K c true 1 3 3 rfl rfl [] rfl) $$ [V1 HO]
  · isplitr; · iexact HK
    isplitl [V1] <;> iassumption
  iintro ⟨V1, HO⟩
  iapply (wp_done c Q)
  iapply Hk
  isplitl [Sa Za Ha Sb Zb Hb]
  · iapply (show _ ⊢ quad (laneE (F := F) c) from quad_join (endR c false) (endR c true))
    isplitl [Sa Za Ha]
    · iapply (quad_ring c false)
      isplitl [Sa]; · iexact Sa
      isplitl [Za] <;> iassumption
    iapply (quad_ring c true)
    isplitl [Sb]; · iexact Sb
    isplitl [Zb] <;> iassumption
  isplitl [U0 V0 U1 V1]
  · isplitl [U0 V0]
    · isplitl [U0] <;> iassumption
    isplitl [U1] <;> iassumption
  iapply (of_ow c (n := 56)); iexact HO

/-! ## The body -/

/-- What a lane receives and sends with. -/
def rsts (h : Fin 4) : sProp 𝕄 := iprop(rstI (F := F) c h false ∗ rstI (F := F) c h true)

theorem bar_tiles (R : Bool) : (barPay (F := F) R c : sProp 𝕄) ⊢ quad (fun h => iprop(tg (F := F) c h R 0 ∗ tg (F := F) c h R 1 ∗ tg (F := F) c h R 2)) := by
  unfold barPay quad
  rw [bigSep_tiles]
  iintro ⟨H00, H10, H20, H01, H11, H21, H02, H12, H22, H03, H13, H23⟩
  isplitl [H00 H10 H20]
  · isplitl [H00]; · iexact H00
    isplitl [H10] <;> iassumption
  isplitl [H01 H11 H21]
  · isplitl [H01]; · iexact H01
    isplitl [H11] <;> iassumption
  isplitl [H02 H12 H22]
  · isplitl [H02]; · iexact H02
    isplitl [H12] <;> iassumption
  isplitl [H03]; · iexact H03
  isplitl [H13] <;> iassumption

theorem deal (A : Fin 4 → sProp 𝕄) :
    iprop(quad A ∗ quad (rsts c) ∗ barPay false c ∗ barPay true c) ⊢ quad (fun h => iprop(A h ∗ laneI (F := F) c h)) := by
  iintro ⟨HA, HR, Ba, Bb⟩
  iapply (quad_join A (laneI c))
  isplitl [HA]; · iexact HA
  ihave Ba := (bar_tiles c false) $$ Ba
  ihave Bb := (bar_tiles c true) $$ Bb
  ihave HR := (show quad (rsts (F := F) c) ⊢ _ from quad_split _ _) $$ HR
  icases HR with ⟨Ra, Rb⟩
  iapply (show _ ⊢ quad (laneI (F := F) c) from quad_join (fun h => rstI c h false) _)
  isplitl [Ra]; · iexact Ra
  iapply (quad_join (fun h => rstI c h true) _)
  isplitl [Rb]; · iexact Rb
  iapply (quad_join _ _)
  isplitl [Ba] <;> iassumption

/-- A ring's credits: what the device waits with, and what it signals with. -/
def crs (R : Bool) : sProp 𝕄 :=
  iprop((crIn (F := F) c R 0 ∗ crIn c R 1 ∗ crIn c R 2) ∗ (crTok c R 0 ∗ crTok c R 1 ∗ crTok c R 2) ∗ crAt R c 0)

/-- What the launch deals the body, -/
def bodyPre : sProp 𝕄 :=
  iprop(quad (mmX m c) ∗ quad (rsts c) ∗ (wp0 m c ∗ wsAny c ∗ wbAny c ∗ wz c)
    ∗ (slots c false ∗ slots c true ∗ barTok c false ∗ barTok c true ∗ barIn c) ∗ (crs c false ∗ crs c true) ∗ outq0 c ∗ ow c 0)
/-- and what the body gives back. -/
def bodyPost : sProp 𝕄 :=
  iprop(quad (xEnd m c) ∗ quad (laneE c) ∗ (wp0 m c ∗ wsAny c ∗ wbAny c ∗ wz c)
    ∗ semVal (kcell (c, .bar)) 0 ∗ crEnd c ∗ outqE m c ∗ ow c 56)

theorem wbv_any (v : Vec F S1024x2048 .bf16) : (wbv c v : sProp 𝕄) ⊢ wbAny c := by
  unfold wbv wbAny
  iintro ⟨%f, -, H⟩
  iexists f; iexact H

theorem wp_body (Q : PUnit → sProp 𝕄) :
    iprop(know m K ∗ bodyPre m c) ⊢ iprop((bodyPost m c -∗ Q ⟨⟩) -∗ WP c (body (ctab c)) Q) := by
  unfold bodyPre bodyPost crs body
  iintro ⟨#HK, HX, HR, HW, HB, ⟨⟨⟨Ia0, Ia1, Ia2⟩, ⟨Ta0, Ta1, Ta2⟩, Pa⟩, ⟨⟨Ib0, Ib1, Ib2⟩, ⟨Tb0, Tb1, Tb2⟩, Pb⟩⟩, HU, HO⟩ Hk
  ihave HO := (ow_to c (n := 0) (l := .bar false :: .bar true :: pl 2) rfl) $$ HO
  iapply (wp_start m K c (pl 2) rfl) $$ [HX HW HB HO]
  · isplitr; · iexact HK
    isplitl [HX]; · iexact HX
    isplitl [HW]; · iexact HW
    isplitl [HB] <;> iassumption
  iintro ⟨HX, ⟨Hw0, Hws, Hwb, Hwz⟩, Ba, Bb, Bz, HO⟩
  ihave HO := (of_ow c) $$ HO
  ihave HL := (deal c (mmX0 m c)) $$ [HX HR Ba Bb]
  · isplitl [HX]; · iexact HX
    isplitl [HR]; · iexact HR
    isplitl [Ba] <;> iassumption
  iapply (wp_mm0q m K c) $$ [HL Hwb HO]
  · isplitr; · iexact HK
    isplitl [HL]; · iexact HL
    unfold wo; isplitl [Hwb] <;> iassumption
  iintro ⟨HL, HO⟩
  ihave HL := (quad_split (mmX1 m c) (laneJ c)) $$ HL
  icases HL with ⟨HX, HL⟩
  iapply (wp_mm1q m K c) $$ [HX HO]
  · isplitr; · iexact HK
    isplitl [HX] <;> iassumption
  iintro ⟨HX, HO⟩
  iapply (wp_mm2q m K c) $$ [HX HO]
  · isplitr; · iexact HK
    isplitl [HX] <;> iassumption
  iintro ⟨HX, HO⟩
  iapply (wp_mm3q m K c) $$ [HX HO]
  · isplitr; · iexact HK
    isplitl [HX] <;> iassumption
  iintro ⟨HX, HO⟩
  unfold wo
  icases HO with ⟨Hwb, HO⟩
  ihave HL := ((quad_join (mmX4 m c) (laneJ c)).trans ((quad_mono fun h => lane_ready m c h).trans (quad_split (lane0 m c) (xEnd m c)))) $$ [HX HL]
  · isplitl [HX] <;> iassumption
  icases HL with ⟨HL, HX⟩
  iapply (wp_add0q m K c) $$ [HL HO]
  · isplitr; · iexact HK
    isplitl [HL] <;> iassumption
  iintro ⟨HL, HO⟩
  iapply (wp_creds m K c 0 18 20 rfl) $$ [Ta0 Tb0 HO]
  · isplitr; · iexact HK
    isplitl [Ta0]; · iexact Ta0
    isplitl [Tb0] <;> iassumption
  iintro HO
  iapply (wp_add1q m K c) $$ [HL HO]
  · isplitr; · iexact HK
    isplitl [HL] <;> iassumption
  iintro ⟨HL, HO⟩
  iapply (wp_creds m K c 1 28 30 rfl) $$ [Ta1 Tb1 HO]
  · isplitr; · iexact HK
    isplitl [Ta1]; · iexact Ta1
    isplitl [Tb1] <;> iassumption
  iintro HO
  iapply (wp_waits m K c 0 (by decide) 30 rfl) $$ [Ia0 Ib0 Pa Pb HO]
  · isplitr; · iexact HK
    isplitl [Ia0 Ib0]
    · isplitl [Ia0] <;> iassumption
    isplitl [Pa Pb]
    · isplitl [Pa] <;> iassumption
    iexact HO
  iintro ⟨HP, HO⟩
  iapply (wp_ownq m K c) $$ [HL HU HO]
  · isplitr; · iexact HK
    isplitl [HL]; · iexact HL
    isplitl [HU] <;> iassumption
  iintro ⟨HL, HU, HO⟩
  iapply (wp_creds m K c 2 38 40 rfl) $$ [Ta2 Tb2 HO]
  · isplitr; · iexact HK
    isplitl [Ta2]; · iexact Ta2
    isplitl [Tb2] <;> iassumption
  iintro HO
  iapply (wp_waits m K c 1 (by decide) 40 rfl) $$ [Ia1 Ib1 HP HO]
  · isplitr; · iexact HK
    isplitl [Ia1 Ib1]
    · isplitl [Ia1] <;> iassumption
    isplitl [HP] <;> iassumption
  iintro ⟨HP, HO⟩
  iapply (wp_fwd1q m K c) $$ [HL HU HO]
  · isplitr; · iexact HK
    isplitl [HL]; · iexact HL
    isplitl [HU] <;> iassumption
  iintro ⟨HL, HU, HO⟩
  iapply (wp_waitsLast m K c 48 rfl) $$ [Ia2 Ib2 HP HO]
  · isplitr; · iexact HK
    isplitl [Ia2 Ib2]
    · isplitl [Ia2] <;> iassumption
    isplitl [HP] <;> iassumption
  iintro ⟨HC, HO⟩
  iapply (wp_fwd2q m K c) $$ [HL HU HO]
  · isplitr; · iexact HK
    isplitl [HL]; · iexact HL
    isplitl [HU] <;> iassumption
  iintro ⟨HL, HU, HO⟩
  iapply (wp_lastq m K c) $$ [HL HU HO]
  · isplitr; · iexact HK
    isplitl [HL]; · iexact HL
    isplitl [HU] <;> iassumption
  iintro ⟨HL, HU, HO⟩
  iapply (wp_end m K c Q) $$ [HL HU HO]
  · isplitr; · iexact HK
    isplitl [HL]; · iexact HL
    isplitl [HU] <;> iassumption
  iintro ⟨HL, HU, HO⟩
  iapply Hk
  isplitl [HX]; · iexact HX
  isplitl [HL]; · iexact HL
  isplitl [Hw0 Hws Hwb Hwz]
  · isplitl [Hw0]; · iexact Hw0
    isplitl [Hws]; · iexact Hws
    isplitl [Hwb]; · iapply (wbv_any c _); iexact Hwb
    iexact Hwz
  isplitl [Bz]; · iexact Bz
  isplitl [HC]; · iexact HC
  isplitl [HU] <;> iassumption

end Cert.RingProof

end
-- ==== Proof.Tiles.lean ====
/-
# Buffers and their tiles

A buffer held whole is its tiles held one by one, and back: the argument, the result, the product, slot and staging
buffers.
-/
module

public import proofs.«01_k».proof.Proof.End

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-! ## A buffer cut along a key -/

section Cut

variable {ℓ : Loc nD τ sig} {T : Type} [Fintype T] [DecidableEq T] [Nonempty T] (S : T → Finset (Idx ℓ)) (key : Idx ℓ → T)

theorem cut_disj (hk : ∀ t i, i ∈ S t ↔ key i = t) : ∀ t ∈ (Finset.univ : Finset T), ∀ t' ∈ (Finset.univ : Finset T), t ≠ t' → Disjoint (S t) (S t') :=
  fun t _ t' _ hne => Finset.disjoint_left.mpr fun i h h' => hne (((hk t i).mp h).symm.trans ((hk t' i).mp h'))
theorem cut_univ (hk : ∀ t i, i ∈ S t ↔ key i = t) : Finset.univ.biUnion S = Finset.univ :=
  Finset.eq_univ_of_forall fun i => Finset.mem_biUnion.mpr ⟨key i, Finset.mem_univ _, (hk _ i).mpr rfl⟩

/-- A buffer with known contents is its pieces; -/
theorem cut_eq (hk : ∀ t i, i ∈ S t ↔ key i = t) (f : Buf (Elt F) ℓ) :
    (ℓ ↦{fullShare} f : sProp 𝕄) = bigSep Finset.univ fun t => ℓ ↦[S t]{fullShare} f := by
  rw [← pointsTo_biUnion _ _ (cut_disj S key hk), cut_univ S key hk]
/-- one with any contents goes to its pieces, -/
theorem cut_any (hk : ∀ t i, i ∈ S t ↔ key i = t) :
    iprop(∃ f : Buf (Elt F) ℓ, ℓ ↦{fullShare} f) ⊢ (bigSep Finset.univ fun t => iprop(∃ f : Buf (Elt F) ℓ, ℓ ↦[S t]{fullShare} f) : sProp 𝕄) := by
  iintro ⟨%f, H⟩
  ihave H := (Entails.of_eq (cut_eq S key hk f)) $$ H
  have hm (t : T) : (ℓ ↦[S t]{fullShare} f : sProp 𝕄) ⊢ iprop(∃ f : Buf (Elt F) ℓ, ℓ ↦[S t]{fullShare} f) := by
    iintro H
    iexists f
    iexact H
  iapply (show (bigSep Finset.univ fun t => (ℓ ↦[S t]{fullShare} f : sProp 𝕄))
    ⊢ bigSep Finset.univ fun t => iprop(∃ f : Buf (Elt F) ℓ, ℓ ↦[S t]{fullShare} f) from bigSep_mono fun t _ => hm t)
  iexact H
/-- and comes back from them, with what was known of each. -/
theorem join_of (hk : ∀ t i, i ∈ S t ↔ key i = t) (φ : T → Buf (Elt F) ℓ → Prop)
    (hφ : ∀ t f g, (∀ i ∈ S t, g i = f i) → φ t f → φ t g) :
    (bigSep Finset.univ fun t => iprop(∃ f : Buf (Elt F) ℓ, ⌜φ t f⌝ ∗ ℓ ↦[S t]{fullShare} f))
      ⊢ (iprop(∃ g : Buf (Elt F) ℓ, ⌜∀ t, φ t g⌝ ∗ ℓ ↦{fullShare} g) : sProp 𝕄) := by
  iintro H
  ihave H := (bigSep_exists_pi Finset.univ fun (t : T) (f : Buf (Elt F) ℓ) => (iprop(⌜φ t f⌝ ∗ ℓ ↦[S t]{fullShare} f) : sProp 𝕄)) $$ H
  icases H with ⟨%fs, H⟩
  ihave H := (bigSep_pure_sep Finset.univ (fun t => φ t (fs t)) fun t => (ℓ ↦[S t]{fullShare} fs t : sProp 𝕄)) $$ H
  icases H with ⟨%hfs, H⟩
  ihave H := (pointsTo_biUnion_join (Ix := ℕ) (Name := ℕ) (U := UU) (Lvl := ℕ) (q := fullShare) Finset.univ S fs (fs (Classical.choice inferInstance)) (cut_disj S key hk)) $$ H
  icases H with ⟨%g, %hg, H⟩
  iexists g
  isplitr
  · ipureintro; exact fun t => hφ t (fs t) g (hg t (Finset.mem_univ _)) (hfs t (Finset.mem_univ _))
  · rw [cut_univ S key hk]; iexact H
theorem join_any (hk : ∀ t i, i ∈ S t ↔ key i = t) :
    (bigSep Finset.univ fun t => iprop(∃ f : Buf (Elt F) ℓ, ℓ ↦[S t]{fullShare} f))
      ⊢ (iprop(∃ g : Buf (Elt F) ℓ, ℓ ↦{fullShare} g) : sProp 𝕄) := by
  have h1 (t : T) : iprop(∃ f : Buf (Elt F) ℓ, ℓ ↦[S t]{fullShare} f) ⊢ (iprop(∃ f : Buf (Elt F) ℓ, ⌜True⌝ ∗ ℓ ↦[S t]{fullShare} f) : sProp 𝕄) := by
    iintro ⟨%f, H⟩
    iexists f
    isplitr; · ipureintro; trivial
    iexact H
  have h2 : iprop(∃ g : Buf (Elt F) ℓ, ⌜∀ _ : T, True⌝ ∗ ℓ ↦{fullShare} g) ⊢ (iprop(∃ g : Buf (Elt F) ℓ, ℓ ↦{fullShare} g) : sProp 𝕄) := by
    iintro ⟨%f, -, H⟩
    iexists f
    iexact H
  exact ((bigSep_mono fun t _ => h1 t).trans (join_of S key hk (fun _ _ => True) fun _ _ _ _ _ => trivial)).trans h2

end Cut

/-! ## Lists of four, three, two and eight -/

theorem quad_eq (Φ : Fin 4 → sProp 𝕄) : bigSep Finset.univ Φ = quad Φ := bigSep_univ_eq_bigSepL [0, 1, 2, 3] (by decide) (by decide) Φ
theorem pair_eq (Φ : Fin 2 → sProp 𝕄) : bigSep Finset.univ Φ = iprop(Φ 0 ∗ Φ 1) := bigSep_univ_eq_bigSepL [0, 1] (by decide) (by decide) Φ
theorem bool_eq (Φ : Bool → sProp 𝕄) : bigSep Finset.univ Φ = iprop(Φ false ∗ Φ true) := bigSep_univ_eq_bigSepL [false, true] (by decide) (by decide) Φ
theorem eight_eq (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem quad_quad (Φ : Fin 4 → Fin 4 → sProp 𝕄) : (bigSep Finset.univ fun x : Fin 4 × Fin 4 => Φ x.1 x.2) = quad fun h => quad fun i => Φ h i := by
  rw [bigSep_univ_prod (fun x : Fin 4 × Fin 4 => Φ x.1 x.2), bigSep_congr fun h _ => quad_eq _, quad_eq]

/-! ## Keys -/

theorem mem_tR {n : ℕ} (a : Fin n) (h : Fin 4) (i : (SB n).Idx) : i ∈ (tR (toff a h) (isT a h)).set ↔ (i 0).val = a.val ∧ (i 1).val / 256 = h.val := by
  have h1 : (i 1).val < 1024 := (i 1).isLt
  have h2 : (i 2).val < 1024 := (i 2).isLt
  rw [Rect.mem_set_unit]
  constructor
  · intro H
    have h0 : a.val ≤ (i 0).val ∧ (i 0).val < a.val + 1 := H 0
    have h1' : 256 * h.val ≤ (i 1).val ∧ (i 1).val < 256 * h.val + 256 := H 1
    omega
  · rintro ⟨e0, e1⟩ x
    fin_cases x
    · show a.val ≤ (i 0).val ∧ (i 0).val < a.val + 1; omega
    · show 256 * h.val ≤ (i 1).val ∧ (i 1).val < 256 * h.val + 256; omega
    · show 0 ≤ (i 2).val ∧ (i 2).val < 0 + 1024; omega

theorem mem_sR {n : ℕ} (p : Fin n) (i : (SS n).Idx) : i ∈ (sR p).set ↔ (i 0).val = p.val := by
  have h1 : (i 1).val < 256 := (i 1).isLt
  have h2 : (i 2).val < 1024 := (i 2).isLt
  rw [Rect.mem_set_unit]
  constructor
  · intro H
    have h0 : p.val ≤ (i 0).val ∧ (i 0).val < p.val + 1 := H 0
    omega
  · rintro e0 x
    fin_cases x
    · show p.val ≤ (i 0).val ∧ (i 0).val < p.val + 1; omega
    · show 0 ≤ (i 1).val ∧ (i 1).val < 0 + 256; omega
    · show 0 ≤ (i 2).val ∧ (i 2).val < 0 + 1024; omega

theorem mem_xR (b : Fin 4 × Fin 4) (i : S4096x1024.Idx) :
    i ∈ (Rect.unit (s := S4096x1024) (xoff b) S256x1024.size (IsX.inb ⟨b, rfl⟩)).set ↔ (i 0).val / 1024 = b.1.val ∧ (i 0).val % 1024 / 256 = b.2.val := by
  have h0 : (i 0).val < 4096 := (i 0).isLt
  have h1 : (i 1).val < 1024 := (i 1).isLt
  have := b.1.isLt; have := b.2.isLt
  rw [Rect.mem_set_unit]
  constructor
  · intro H
    have h0 : 1024 * b.1.val + 256 * b.2.val ≤ (i 0).val ∧ (i 0).val < 1024 * b.1.val + 256 * b.2.val + 256 := H 0
    omega
  · rintro ⟨e0, e1⟩ x
    fin_cases x
    · show 1024 * b.1.val + 256 * b.2.val ≤ (i 0).val ∧ (i 0).val < 1024 * b.1.val + 256 * b.2.val + 256; omega
    · show 0 ≤ (i 1).val ∧ (i 1).val < 0 + 1024; omega

theorem mem_oR (R : Bool) (b : Fin 4 × Fin 4) (i : S4096x2048.Idx) :
    i ∈ (Rect.unit (s := S4096x2048) (ooff R b) S256x1024.size (IsO.inb (R := R) ⟨b, rfl⟩)).set
      ↔ (i 0).val / 1024 = b.1.val ∧ (i 0).val % 1024 / 256 = b.2.val ∧ decide (1024 ≤ (i 1).val) = R := by
  have h0 : (i 0).val < 4096 := (i 0).isLt
  have h1 : (i 1).val < 2048 := (i 1).isLt
  have := b.1.isLt; have := b.2.isLt
  rw [Rect.mem_set_unit]
  constructor
  · intro H
    have h0 : 1024 * b.1.val + 256 * b.2.val ≤ (i 0).val ∧ (i 0).val < 1024 * b.1.val + 256 * b.2.val + 256 := H 0
    refine ⟨by omega, by omega, ?_⟩
    cases R
    · have h1' : 0 ≤ (i 1).val ∧ (i 1).val < 0 + 1024 := H 1
      exact decide_eq_false (by omega)
    · have h1' : 1024 ≤ (i 1).val ∧ (i 1).val < 1024 + 1024 := H 1
      exact decide_eq_true (by omega)
  · rintro ⟨e0, e1, e2⟩ x
    fin_cases x
    · show 1024 * b.1.val + 256 * b.2.val ≤ (i 0).val ∧ (i 0).val < 1024 * b.1.val + 256 * b.2.val + 256; omega
    · cases R
      · have := of_decide_eq_false e2
        show 0 ≤ (i 1).val ∧ (i 1).val < 0 + 1024; omega
      · have := of_decide_eq_true e2
        show 1024 ≤ (i 1).val ∧ (i 1).val < 1024 + 1024; omega

/-! ## The product, slot and staging buffers -/

theorem jq_sub (j c i : Fin 4) : jq (j - c) = i ↔ j = c + jq i := by revert j c i; decide

def bkey {n : ℕ} (i : (SB n).Idx) : Fin n × Fin 4 := (⟨(i 0).val, (i 0).isLt⟩, ⟨(i 1).val / 256, by have : (i 1).val < 1024 := (i 1).isLt; omega⟩)

theorem tkey {n : ℕ} (a : Fin n) (h : Fin 4) (i : (SB n).Idx) : i ∈ (tR (toff a h) (isT a h)).set ↔ bkey i = (a, h) := by
  rw [mem_tR]
  unfold bkey
  rw [Prod.mk.injEq, Fin.ext_iff, Fin.ext_iff]

/-- A product buffer, in the order its blocks are computed; -/
theorem pb_split (R : Bool) : iprop(∃ f : Buf (Elt F) ((pbM R).view.loc (c : Thread nD τ)), ((pbM R).view.loc (c : Thread nD τ)) ↦{fullShare} f)
    ⊢ (quad fun h => quad fun i => pany (F := F) c h R (c + jq i) : sProp 𝕄) := by
  have key (h i : Fin 4) (x : (SB 4).Idx) : x ∈ (tR (toff (c + jq i) h) (isT (c + jq i) h)).set ↔ ((bkey x).2, jq ((bkey x).1 - c)) = (h, i) := by
    rw [tkey, Prod.ext_iff, Prod.ext_iff, and_comm]
    exact and_congr Iff.rfl (jq_sub _ _ _).symm
  rw [← quad_quad fun h i => pany (F := F) c h R (c + jq i)]
  unfold pany at_
  cases R
  · exact cut_any (ℓ := (c : Thread nD τ).loc cc0_scratch0) (fun x : Fin 4 × Fin 4 => ((pbM false).access (tR (toff (c + jq x.2) x.1) (isT _ _))).set) (fun i => ((bkey i).2, jq ((bkey i).1 - c)))
      (fun t i => by rw [show ((pbM false).access (tR (toff (c + jq t.2) t.1) (isT _ _))).set = _ from View.set_slice_whole _ _]; exact key t.1 t.2 i)
  · exact cut_any (ℓ := (c : Thread nD τ).loc cc0_scratch1) (fun x : Fin 4 × Fin 4 => ((pbM true).access (tR (toff (c + jq x.2) x.1) (isT _ _))).set) (fun i => ((bkey i).2, jq ((bkey i).1 - c)))
      (fun t i => by rw [show ((pbM true).access (tR (toff (c + jq t.2) t.1) (isT _ _))).set = _ from View.set_slice_whole _ _]; exact key t.1 t.2 i)
/-- and back, in the order the buffer holds them. -/
theorem pb_join (R : Bool) : (quad fun h => bigSep Finset.univ fun a : Fin 4 => (pany (F := F) c h R a : sProp 𝕄))
    ⊢ iprop(∃ f : Buf (Elt F) ((pbM R).view.loc (c : Thread nD τ)), ((pbM R).view.loc (c : Thread nD τ)) ↦{fullShare} f) := by
  have key (h a : Fin 4) (x : (SB 4).Idx) : x ∈ (tR (toff a h) (isT a h)).set ↔ ((bkey x).2, (bkey x).1) = (h, a) := by
    rw [tkey, Prod.ext_iff, Prod.ext_iff, and_comm]
  rw [← quad_eq, ← bigSep_univ_prod (fun x : Fin 4 × Fin 4 => (pany (F := F) c x.1 R x.2 : sProp 𝕄))]
  unfold pany at_
  cases R
  · exact join_any (ℓ := (c : Thread nD τ).loc cc0_scratch0) (fun x : Fin 4 × Fin 4 => ((pbM false).access (tR (toff x.2 x.1) (isT _ _))).set) (fun i => ((bkey i).2, (bkey i).1))
      (fun t i => by rw [show ((pbM false).access (tR (toff t.2 t.1) (isT _ _))).set = _ from View.set_slice_whole _ _]; exact key t.1 t.2 i)
  · exact join_any (ℓ := (c : Thread nD τ).loc cc0_scratch1) (fun x : Fin 4 × Fin 4 => ((pbM true).access (tR (toff x.2 x.1) (isT _ _))).set) (fun i => ((bkey i).2, (bkey i).1))
      (fun t i => by rw [show ((pbM true).access (tR (toff t.2 t.1) (isT _ _))).set = _ from View.set_slice_whole _ _]; exact key t.1 t.2 i)

/-- A slot buffer is its slots; -/
theorem sl_split (R : Bool) : iprop(∃ f : Buf (Elt F) ((slM R).view.loc (c : Thread nD τ)), ((slM R).view.loc (c : Thread nD τ)) ↦{fullShare} f)
    ⊢ (slots (F := F) c R : sProp 𝕄) := by
  unfold slots at_
  cases R
  · exact cut_any (ℓ := (c : Thread nD τ).loc cc0_scratch2) (fun x : Fin 3 × Fin 4 => ((slM false).access (tR (toff x.1 x.2) (isT _ _))).set) bkey
      (fun t i => by rw [show ((slM false).access (tR (toff t.1 t.2) (isT _ _))).set = _ from View.set_slice_whole _ _]; exact tkey t.1 t.2 i)
  · exact cut_any (ℓ := (c : Thread nD τ).loc cc0_scratch3) (fun x : Fin 3 × Fin 4 => ((slM true).access (tR (toff x.1 x.2) (isT _ _))).set) bkey
      (fun t i => by rw [show ((slM true).access (tR (toff t.1 t.2) (isT _ _))).set = _ from View.set_slice_whole _ _]; exact tkey t.1 t.2 i)
/-- and back. -/
theorem sl_join (R : Bool) : (quad fun h => bigSep Finset.univ fun a : Fin 3 => (own (F := F) c h R a : sProp 𝕄))
    ⊢ iprop(∃ f : Buf (Elt F) ((slM R).view.loc (c : Thread nD τ)), ((slM R).view.loc (c : Thread nD τ)) ↦{fullShare} f) := by
  have key (h : Fin 4) (a : Fin 3) (x : (SB 3).Idx) : x ∈ (tR (toff a h) (isT a h)).set ↔ ((bkey x).2, (bkey x).1) = (h, a) := by
    rw [tkey, Prod.ext_iff, Prod.ext_iff, and_comm]
  rw [← quad_eq, ← bigSep_univ_prod (fun x : Fin 4 × Fin 3 => (own (F := F) c x.1 R x.2 : sProp 𝕄))]
  unfold own at_
  cases R
  · exact join_any (ℓ := (c : Thread nD τ).loc cc0_scratch2) (fun x : Fin 4 × Fin 3 => ((slM false).access (tR (toff x.2 x.1) (isT _ _))).set) (fun i => ((bkey i).2, (bkey i).1))
      (fun t i => by rw [show ((slM false).access (tR (toff t.2 t.1) (isT _ _))).set = _ from View.set_slice_whole _ _]; exact key t.1 t.2 i)
  · exact join_any (ℓ := (c : Thread nD τ).loc cc0_scratch3) (fun x : Fin 4 × Fin 3 => ((slM true).access (tR (toff x.2 x.1) (isT _ _))).set) (fun i => ((bkey i).2, (bkey i).1))
      (fun t i => by rw [show ((slM true).access (tR (toff t.2 t.1) (isT _ _))).set = _ from View.set_slice_whole _ _]; exact key t.1 t.2 i)

def skey {n : ℕ} (i : (SS n).Idx) : Fin n := ⟨(i 0).val, (i 0).isLt⟩
theorem skey_iff {n : ℕ} (p : Fin n) (i : (SS n).Idx) : i ∈ (sR p).set ↔ skey i = p := by
  rw [mem_sR]
  unfold skey
  rw [Fin.ext_iff]

/-- A staging buffer for results is its two tiles; -/
theorem st_split (R : Bool) : iprop(∃ f : Buf (Elt F) ((stM R).view.loc (c : Thread nD τ)), ((stM R).view.loc (c : Thread nD τ)) ↦{fullShare} f)
    ⊢ (iprop(sa (F := F) (stM R) c 0 ∗ sa (F := F) (stM R) c 1) : sProp 𝕄) := by
  rw [← pair_eq fun p => (sa (F := F) (stM R) c p : sProp 𝕄)]
  unfold sa
  cases R
  · exact cut_any (ℓ := (c : Thread nD τ).loc cc0_scratch4) (fun p : Fin 2 => ((stM false).access (sR p)).set) skey
      (fun t i => by rw [show ((stM false).access (sR t)).set = _ from View.set_slice_whole _ _]; exact skey_iff t i)
  · exact cut_any (ℓ := (c : Thread nD τ).loc cc0_scratch5) (fun p : Fin 2 => ((stM true).access (sR p)).set) skey
      (fun t i => by rw [show ((stM true).access (sR t)).set = _ from View.set_slice_whole _ _]; exact skey_iff t i)
theorem st_join (R : Bool) : (iprop(sa (F := F) (stM R) c 0 ∗ sa (F := F) (stM R) c 1) : sProp 𝕄)
    ⊢ iprop(∃ f : Buf (Elt F) ((stM R).view.loc (c : Thread nD τ)), ((stM R).view.loc (c : Thread nD τ)) ↦{fullShare} f) := by
  rw [← pair_eq fun p => (sa (F := F) (stM R) c p : sProp 𝕄)]
  unfold sa
  cases R
  · exact join_any (ℓ := (c : Thread nD τ).loc cc0_scratch4) (fun p : Fin 2 => ((stM false).access (sR p)).set) skey
      (fun t i => by rw [show ((stM false).access (sR t)).set = _ from View.set_slice_whole _ _]; exact skey_iff t i)
  · exact join_any (ℓ := (c : Thread nD τ).loc cc0_scratch5) (fun p : Fin 2 => ((stM true).access (sR p)).set) skey
      (fun t i => by rw [show ((stM true).access (sR t)).set = _ from View.set_slice_whole _ _]; exact skey_iff t i)

/-- The staging buffer for the argument is its four tiles. -/
theorem xs_split : iprop(∃ f : Buf (Elt F) ((c : Thread nD τ).loc cc0_scratch8), ((c : Thread nD τ).loc cc0_scratch8) ↦{fullShare} f)
    ⊢ (quad fun h => sa (F := F) xsM c h : sProp 𝕄) := by
  rw [← quad_eq fun h => (sa (F := F) xsM c h : sProp 𝕄)]
  unfold sa
  exact cut_any (ℓ := (c : Thread nD τ).loc cc0_scratch8) (fun p : Fin 4 => (xsM.access (sR p)).set) skey
    (fun t i => by rw [show (xsM.access (sR t)).set = _ from View.set_slice_whole _ _]; exact skey_iff t i)
theorem xs_join : (quad fun h => sa (F := F) xsM c h : sProp 𝕄)
    ⊢ iprop(∃ f : Buf (Elt F) ((c : Thread nD τ).loc cc0_scratch8), ((c : Thread nD τ).loc cc0_scratch8) ↦{fullShare} f) := by
  rw [← quad_eq fun h => (sa (F := F) xsM c h : sProp 𝕄)]
  unfold sa
  exact join_any (ℓ := (c : Thread nD τ).loc cc0_scratch8) (fun p : Fin 4 => (xsM.access (sR p)).set) skey
    (fun t i => by rw [show (xsM.access (sR t)).set = _ from View.set_slice_whole _ _]; exact skey_iff t i)

/-! ## The argument and the result -/

def xkey (i : S4096x1024.Idx) : Fin 4 × Fin 4 :=
  (⟨(i 0).val / 1024, by have : (i 0).val < 4096 := (i 0).isLt; omega⟩, ⟨(i 0).val % 1024 / 256, by omega⟩)

/-- The argument is its blocks, in the order they are read. -/
theorem x_eq : (((c : Thread nD τ).loc main_arg0) ↦{fullShare} m ((c : Thread nD τ).loc main_arg0) : sProp 𝕄)
    = quad fun h => quad fun i => xq m c h i := by
  have key (h i : Fin 4) (x : S4096x1024.Idx) :
      x ∈ (Rect.unit (s := S4096x1024) (xoff (c + jq i, h)) S256x1024.size (IsX.inb ⟨_, rfl⟩)).set ↔ ((xkey x).2, jq ((xkey x).1 - c)) = (h, i) := by
    rw [mem_xR, Prod.ext_iff, and_comm]
    unfold xkey
    refine and_congr ?_ ?_
    · rw [Fin.ext_iff]
    · rw [jq_sub, Fin.ext_iff]
  rw [← quad_quad fun h i => xq m c h i]
  unfold xq xp
  exact cut_eq (ℓ := (c : Thread nD τ).loc main_arg0) (fun x : Fin 4 × Fin 4 => (xT (xoff (c + jq x.2, x.1)) ⟨_, rfl⟩).view.set) (fun i => ((xkey i).2, jq ((xkey i).1 - c)))
    (fun t i => by rw [show (xT (xoff (c + jq t.2, t.1)) ⟨_, rfl⟩).view.set = _ from View.set_slice_whole _ _]; exact key t.1 t.2 i) _

abbrev OIx : Type := (Bool × Fin 2) × Fin 8

def okey (i : S4096x2048.Idx) : OIx :=
  have h0 : (i 0).val < 4096 := (i 0).isLt
  let R := decide (1024 ≤ (i 1).val)
  let j : Fin 4 := ⟨(i 0).val / 1024, by omega⟩
  let u : Fin 4 := cond R (j - (c + 3)) (c + 1 - j)
  ((R, ⟨(i 0).val % 1024 / 256 % 2, by omega⟩), ⟨2 * u.val + (i 0).val % 1024 / 256 / 2, by omega⟩)

theorem och_iff (R : Bool) (j c u : Fin 4) : cond R (j - (c + 3)) (c + 1 - j) = u ↔ j = och R c u := by revert R j c u; decide

theorem okey_iff (t : OIx) (i : S4096x2048.Idx) : i ∈ (oT (ooff t.1.1 (ob c t.1.1 t.1.2 t.2.val)) ⟨_, rfl⟩).view.set ↔ okey c i = t := by
  obtain ⟨⟨R, p⟩, n⟩ := t
  rw [show (oT (ooff R (ob c R p n.val)) ⟨_, rfl⟩).view.set = _ from View.set_slice_whole _ _, mem_oR]
  unfold okey
  dsimp only
  have h0 : (i 0).val < 4096 := (i 0).isLt
  have := n.isLt; have := p.isLt
  rw [Prod.mk.injEq, Prod.mk.injEq]
  have hu : (uU n.val).val = n.val / 2 := by unfold uU; dsimp only; omega
  have hh : (uH p n.val).val = p.val + 2 * (n.val % 2) := rfl
  constructor
  · rintro ⟨e0, e1, e2⟩
    subst e2
    have e0 := (och_iff _ ⟨(i 0).val / 1024, by omega⟩ c (uU n.val)).mpr (Fin.ext e0)
    refine ⟨⟨rfl, Fin.ext ?_⟩, Fin.ext ?_⟩
    · dsimp only; omega
    · dsimp only; rw [e0, hu]; omega
  · rintro ⟨⟨e2, e1⟩, e0⟩
    subst e2
    have e1 := congrArg Fin.val e1
    have e0 := congrArg Fin.val e0
    dsimp only at e0 e1
    refine ⟨congrArg Fin.val ((och_iff _ ⟨(i 0).val / 1024, by omega⟩ c (uU n.val)).mp (Fin.ext ?_)), ?_, rfl⟩
    · rw [hu]; omega
    · rw [hh]; omega

theorem o_list (Φ : OIx → sProp 𝕄) : bigSep Finset.univ Φ
    = iprop(((bigSep Finset.univ fun n => Φ ((false, 0), n)) ∗ (bigSep Finset.univ fun n => Φ ((false, 1), n)))
      ∗ ((bigSep Finset.univ fun n => Φ ((true, 0), n)) ∗ (bigSep Finset.univ fun n => Φ ((true, 1), n)))) := by
  rw [bigSep_univ_prod, bigSep_univ_prod, bool_eq, pair_eq, pair_eq]

theorem remF_of (R : Bool) (p : Fin 2) : (bigSep Finset.univ fun n : Fin 8 => (oa (F := F) c R (ob c R p n.val) : sProp 𝕄)) ⊢ remF c R p 8 := by
  have h : (iprop(oa (F := F) c R (ob c R p 0) ∗ oa (F := F) c R (ob c R p 1) ∗ oa (F := F) c R (ob c R p 2) ∗ oa (F := F) c R (ob c R p 3) ∗ oa (F := F) c R (ob c R p 4) ∗ oa (F := F) c R (ob c R p 5) ∗ oa (F := F) c R (ob c R p 6) ∗ oa (F := F) c R (ob c R p 7)) : sProp 𝕄)
      ⊢ iprop(oa (F := F) c R (ob c R p 0) ∗ oa (F := F) c R (ob c R p 1) ∗ oa (F := F) c R (ob c R p 2) ∗ oa (F := F) c R (ob c R p 3) ∗ oa (F := F) c R (ob c R p 4) ∗ oa (F := F) c R (ob c R p 5) ∗ oa (F := F) c R (ob c R p 6) ∗ oa (F := F) c R (ob c R p 7) ∗ emp) := by
    iintro ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  rw [eight_eq]
  exact h
theorem of_donF (R : Bool) (p : Fin 2) : (donF m c R p 8 : sProp 𝕄) ⊢ bigSep Finset.univ fun n : Fin 8 => (ov c R (ob c R p n.val) (oval m c R p n.val) : sProp 𝕄) := by
  have h : (iprop(((((((((emp ∗ ov c R (ob c R p 0) (oval m c R p 0)) ∗ ov c R (ob c R p 1) (oval m c R p 1)) ∗ ov c R (ob c R p 2) (oval m c R p 2)) ∗ ov c R (ob c R p 3) (oval m c R p 3)) ∗ ov c R (ob c R p 4) (oval m c R p 4)) ∗ ov c R (ob c R p 5) (oval m c R p 5)) ∗ ov c R (ob c R p 6) (oval m c R p 6)) ∗ ov c R (ob c R p 7) (oval m c R p 7))) : sProp 𝕄)
      ⊢ iprop(ov c R (ob c R p 0) (oval m c R p 0) ∗ ov c R (ob c R p 1) (oval m c R p 1) ∗ ov c R (ob c R p 2) (oval m c R p 2) ∗ ov c R (ob c R p 3) (oval m c R p 3) ∗ ov c R (ob c R p 4) (oval m c R p 4) ∗ ov c R (ob c R p 5) (oval m c R p 5) ∗ ov c R (ob c R p 6) (oval m c R p 6) ∗ ov c R (ob c R p 7) (oval m c R p 7)) := by
    iintro ⟨⟨⟨⟨⟨⟨⟨⟨-, H0⟩, H1⟩, H2⟩, H3⟩, H4⟩, H5⟩, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [eight_eq]
  exact h

/-- The result's buffer is its blocks, by the staging tile they are written from. -/
theorem o_split : iprop(∃ f : Buf (Elt F) ((c : Thread nD τ).loc main_v1), ((c : Thread nD τ).loc main_v1) ↦{fullShare} f)
    ⊢ (iprop((remF c false 0 8 ∗ remF c false 1 8) ∗ (remF c true 0 8 ∗ remF c true 1 8)) : sProp 𝕄) := by
  have h := cut_any (F := F) (ℓ := (c : Thread nD τ).loc main_v1) (fun t : OIx => (oT (ooff t.1.1 (ob c t.1.1 t.1.2 t.2.val)) ⟨_, rfl⟩).view.set) (okey c) (okey_iff c)
  rw [o_list] at h
  iintro H
  ihave H := h $$ H
  icases H with ⟨⟨H0, H1⟩, H2, H3⟩
  isplitl [H0 H1]
  · isplitl [H0]
    · iapply (remF_of (F := F) c false 0); iexact H0
    · iapply (remF_of (F := F) c false 1); iexact H1
  · isplitl [H2]
    · iapply (remF_of (F := F) c true 0); iexact H2
    · iapply (remF_of (F := F) c true 1); iexact H3

/-- What the result's buffer holds at the end: every block's contents. -/
def OutIs (g : Buf (Elt F) ((c : Thread nD τ).loc main_v1)) : Prop :=
  ∀ (R : Bool) (p : Fin 2) (n : Fin 8), (oT (ooff R (ob c R p n.val)) ⟨_, rfl⟩).view.read (Elt F) g = oval m c R p n.val

theorem o_join : (iprop((donF m c false 0 8 ∗ donF m c false 1 8) ∗ (donF m c true 0 8 ∗ donF m c true 1 8)) : sProp 𝕄)
    ⊢ iprop(∃ g : Buf (Elt F) ((c : Thread nD τ).loc main_v1), ⌜OutIs m c g⌝ ∗ ((c : Thread nD τ).loc main_v1) ↦{fullShare} g) := by
  have h := join_of (F := F) (ℓ := (c : Thread nD τ).loc main_v1) (fun t : OIx => (oT (ooff t.1.1 (ob c t.1.1 t.1.2 t.2.val)) ⟨_, rfl⟩).view.set) (okey c) (okey_iff c)
    (fun t f => (oT (ooff t.1.1 (ob c t.1.1 t.1.2 t.2.val)) ⟨_, rfl⟩).view.read (Elt F) f = oval m c t.1.1 t.1.2 t.2.val)
    (fun t f g hg hf => by exact (View.read_congr hg).trans hf)
  rw [o_list] at h
  iintro ⟨⟨H0, H1⟩, H2, H3⟩
  ihave H0 := (of_donF m c false 0) $$ H0
  ihave H1 := (of_donF m c false 1) $$ H1
  ihave H2 := (of_donF m c true 0) $$ H2
  ihave H3 := (of_donF m c true 1) $$ H3
  ihave H := h $$ [H0 H1 H2 H3]
  · isplitl [H0 H1]
    · isplitl [H0]; · iexact H0
      iexact H1
    · isplitl [H2]; · iexact H2
      iexact H3
  icases H with ⟨%g, %hg, H⟩
  iexists g
  isplitr
  · ipureintro; exact fun R p n => hg ((R, p), n)
  · iexact H

end Cert.RingProof

end
-- ==== Proof.Launch.lean ====
/-
# Setting up the protocol

What the launch deals out: the cells' records, positions and tokens, the tokens handed round the rings to the devices
that pay with them, the launch credits, and the semaphores.
-/
module

public import proofs.«01_k».proof.Proof.Tiles

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-! ## The cells, listed -/

abbrev HK : Type := Fin 4 × (Bool × Fin 6)

def ckOf : (Unit ⊕ Bool) ⊕ (HK ⊕ HK) → CK
  | .inl (.inl _) => .bar
  | .inl (.inr R) => .cr R
  | .inr (.inl x) => .snd x.2.1 x.2.2 x.1
  | .inr (.inr x) => .rcv x.2.1 x.2.2 x.1
def ckTo : CK → (Unit ⊕ Bool) ⊕ (HK ⊕ HK)
  | .bar => .inl (.inl ())
  | .cr R => .inl (.inr R)
  | .snd R k h => .inr (.inl (h, (R, k)))
  | .rcv R k h => .inr (.inr (h, (R, k)))
def ckE : (Unit ⊕ Bool) ⊕ (HK ⊕ HK) ≃ CK where
  toFun := ckOf
  invFun := ckTo
  left_inv x := by rcases x with (⟨⟩ | R) | ⟨h, R, k⟩ | ⟨h, R, k⟩ <;> rfl
  right_inv k := by cases k <;> rfl

/-- One thing for each cell of a device. -/
theorem ck_eq (Φ : CK → sProp 𝕄) : bigSep Finset.univ Φ
    = iprop((Φ .bar ∗ (Φ (.cr false) ∗ Φ (.cr true)))
      ∗ ((bigSep Finset.univ fun x : HK => Φ (.snd x.2.1 x.2.2 x.1)) ∗ (bigSep Finset.univ fun x : HK => Φ (.rcv x.2.1 x.2.2 x.1)))) := by
  rw [bigSep_univ_equiv ckE, bigSep_univ_sum, bigSep_univ_sum, bigSep_univ_sum, bool_eq, bigSep_univ_eq_bigSepL [()] (by decide) (by decide)]
  rfl

/-! ## Semaphores -/

/-- The semaphores of local copies: the staged results, the weights, the staged argument. -/
abbrev LK : Type := (Bool × Fin 2) ⊕ (Unit ⊕ Fin 4)
def lsl : LK → DmaSem sig
  | .inl x => semAt (csA x.1) x.2
  | .inr (.inl _) => wsS
  | .inr (.inr h) => semAt xsA h
/-- The semaphores of the call. -/
abbrev OK : Type := (Bool ⊕ (HK ⊕ HK)) ⊕ LK
def osem : OK → SemLoc sig
  | .inl (.inl R) => csl (.cr R)
  | .inl (.inr (.inl x)) => csl (.snd x.2.1 x.2.2 x.1)
  | .inl (.inr (.inr x)) => csl (.rcv x.2.1 x.2.2 x.1)
  | .inr l => .dma (lsl l)

theorem lsl_inj : Function.Injective lsl := by decide
theorem kd_lsl (l : LK) : kd (.dma (lsl l)) = none := by revert l; decide
theorem csl_scoped (k : CK) (hk : k ≠ .bar) : (csl k).isScoped .tc = true := by
  cases k with
  | bar => exact absurd rfl hk
  | cr R => cases R <;> rfl
  | snd R k h => revert R k h; decide
  | rcv R k h => revert R k h; decide
theorem lsl_scoped (l : LK) : (SemLoc.dma (lsl l) : SemLoc sig).isScoped .tc = true := by revert l; decide

def okk : OK → Option CK
  | .inl (.inl R) => some (.cr R)
  | .inl (.inr (.inl x)) => some (.snd x.2.1 x.2.2 x.1)
  | .inl (.inr (.inr x)) => some (.rcv x.2.1 x.2.2 x.1)
  | .inr _ => none
theorem kd_osem (o : OK) : kd (osem o) = okk o := by
  rcases o with (R | x | x) | l
  · exact kd_csl (.cr R)
  · exact kd_csl (.snd x.2.1 x.2.2 x.1)
  · exact kd_csl (.rcv x.2.1 x.2.2 x.1)
  · exact kd_lsl l

theorem ownSemFacts : Pipeline.OwnSemFacts cfg0.spec osem where
  isScoped o := by
    rcases o with (R | x | x) | l
    · exact csl_scoped (.cr R) (fun h => CK.noConfusion h)
    · exact csl_scoped (.snd x.2.1 x.2.2 x.1) (fun h => CK.noConfusion h)
    · exact csl_scoped (.rcv x.2.1 x.2.2 x.1) (fun h => CK.noConfusion h)
    · exact lsl_scoped l
  inj o o' h := by
    have hk : okk o = okk o' := by rw [← kd_osem, ← kd_osem, h]
    rcases o with (R | ⟨h1, R, k⟩ | ⟨h1, R, k⟩) | l <;> rcases o' with (R' | ⟨h1', R', k'⟩ | ⟨h1', R', k'⟩) | l' <;>
      first
        | (simp only [okk, Option.some.injEq, CK.cr.injEq, CK.snd.injEq, CK.rcv.injEq] at hk; obtain ⟨rfl, rfl, rfl⟩ := hk; rfl)
        | (simp only [okk, Option.some.injEq, CK.cr.injEq] at hk; subst hk; rfl)
        | (cases hk; done)
        | (have := lsl_inj (SemLoc.dma.inj h); subst this; rfl)
  disj k w := w.elim0

/-- The values of the local copies' semaphores; -/
def locs : sProp 𝕄 := iprop(((oz (F := F) c false 0 ∗ oz (F := F) c false 1) ∗ (oz (F := F) c true 0 ∗ oz (F := F) c true 1)) ∗ (wz c ∗ quad fun h => xz c h))
/-- those of the sends and receives. -/
def kvals : sProp 𝕄 := iprop((bigSep Finset.univ fun x : HK => semVal (kcell (c, .snd x.2.1 x.2.2 x.1)) 0) ∗ (bigSep Finset.univ fun x : HK => semVal (kcell (c, .rcv x.2.1 x.2.2 x.1)) 0))

theorem ownSems0_eq : (Pipeline.ownSems0 (Ix := ℕ) (Name := ℕ) (U := UU) (Lvl := ℕ) (Val := Elt F) (τ := τ) osem c : sProp 𝕄)
    = iprop(((semVal (kcell (c, .cr false)) 0 ∗ semVal (kcell (c, .cr true)) 0) ∗ kvals c) ∗ locs c) := by
  unfold Pipeline.ownSems0 kvals locs
  rw [bigSep_univ_sum, bigSep_univ_sum, bigSep_univ_sum, bigSep_univ_sum, bigSep_univ_sum, bool_eq, bigSep_univ_eq_bigSepL [()] (by decide) (by decide), quad_eq,
    bigSep_univ_prod (fun x : Bool × Fin 2 => (semVal ((c : Thread nD τ), osem (.inr (.inl x))) 0 : sProp 𝕄)), bool_eq, pair_eq, pair_eq]
  rfl
theorem unscopedSems0_eq : (unscopedSems0 c : sProp 𝕄) = semVal (kcell (c, .bar)) 0 := by
  unfold unscopedSems0; rw [bigSep_eq_bigSepL_of_eq [SemLoc.reg barS] (by decide) (by decide)]; rfl

theorem sems0_eq : iprop(Pipeline.ownSems0 (Ix := ℕ) (Name := ℕ) (U := UU) (Lvl := ℕ) (Val := Elt F) (τ := τ) osem c ∗ unscopedSems0 c)
    ⊢ (iprop((bigSep Finset.univ fun k : CK => semVal (kcell (c, k)) 0) ∗ locs c) : sProp 𝕄) := by
  rw [ownSems0_eq, unscopedSems0_eq, ck_eq]
  unfold kvals
  iintro ⟨⟨⟨⟨H1, H2⟩, H3, H4⟩, H5⟩, H6⟩
  isplitr [H5]
  · isplitl [H1 H2 H6]
    · isplitl [H6]; · iexact H6
      isplitl [H1] <;> iassumption
    · isplitl [H3] <;> iassumption
  · iexact H5

/-! ## Tokens -/

abbrev TK : Type := Fin 3 × CK

def dstE (R : Bool) : Dev nD ≃ Dev nD := ⟨dst R, org R, org_dst R, dst_org R⟩

/-- The device whose cell device `c` pays at, of each kind and duty. -/
def tgt : TK → Dev nD ≃ Dev nD
  | (d, .bar) => if d = 1 then dstE false else dstE true
  | (_, .cr R) => (dstE R).symm
  | (_, .snd _ _ _) => Equiv.refl _
  | (_, .rcv R _ _) => dstE R

/-- The tokens of a device's own cells; -/
def toks : sProp 𝕄 := bigSep Finset.univ fun x : TK => dutyTok ER (kcell (c, x.2)) 0 x.1
/-- those it pays with. -/
def payToks : sProp 𝕄 := bigSep Finset.univ fun x : TK => dutyTok ER (kcell (tgt x c, x.2)) 0 x.1

theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod fun x : I × J => Φ x.1 x.2, ← bigSep_univ_prod fun x : J × I => Φ x.2 x.1, bigSep_univ_equiv (Equiv.prodComm J I)]
  rfl

/-- The tokens handed round the rings. -/
theorem toks_around : (bigSep Finset.univ fun c : Dev nD => (toks c : sProp 𝕄)) ⊢ bigSep Finset.univ fun c : Dev nD => payToks c := by
  unfold toks payToks
  rw [bigSep_swap fun (c : Dev nD) (x : TK) => (dutyTok ER (kcell (c, x.2)) 0 x.1 : sProp 𝕄), bigSep_swap fun (c : Dev nD) (x : TK) => (dutyTok ER (kcell (tgt x c, x.2)) 0 x.1 : sProp 𝕄)]
  exact Entails.of_eq (bigSep_congr fun x _ => bigSep_univ_equiv (tgt x) fun c : Dev nD => (dutyTok ER (kcell (c, x.2)) 0 x.1 : sProp 𝕄))

def allCells : Finset (GSem nD τ sig) := Finset.univ.map ⟨kcell, kcell_injective⟩
abbrev tokOf (x : Dev nD × TK) : GSem nD τ sig × ℕ × Fin 3 := (kcell (x.1, x.2.2), 0, x.2.1)
theorem tokOf_injective : Function.Injective (tokOf : Dev nD × TK → GSem nD τ sig × ℕ × Fin 3) := by
  rintro ⟨c, d, k⟩ ⟨c', d', k'⟩ h
  have h1 := kcell_injective (congrArg Prod.fst h)
  have h2 : d = d' := congrArg (fun x : GSem nD τ sig × ℕ × Fin 3 => x.2.2) h
  cases h1; subst h2; rfl
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- What the launch element deals a device, -/
def G : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ring : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The cells' invariants, and that all are in round 0. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
instance records_persistent (K : Dev nD × CK → ℕ) : BI.Persistent (records m K) := by unfold records; infer_instance

/-- A device's positions, and the tokens it pays with. -/
def linear : sProp 𝕄 := iprop((bigSep Finset.univ fun k : CK => atPos ER (kcell (c, k)) 0 ∅ 0) ∗ payToks c ∗ locs c)
/-- What the global step leaves a device. -/
def G' : sProp 𝕄 := iprop(∃ K, records m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CK → ℕ) : iprop(records m K ∗ linear c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hl⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_persistent (R := records m K) fun c _ => G'_intro m c K)
  isplitr
  · unfold records; isplitl; · iexact HI
    iexact HR
  · unfold linear
    iapply (Entails.of_eq (bigSep_sep' Finset.univ (fun c : Dev nD => bigSep Finset.univ fun k : CK => (atPos ER (kcell (c, k)) 0 ∅ 0 : sProp 𝕄)) fun c => iprop(payToks c ∗ locs c)).symm)
    isplitl [Hat]; · iexact Hat
    iapply (Entails.of_eq (bigSep_sep' Finset.univ (fun c : Dev nD => (payToks c : sProp 𝕄)) fun c => locs c).symm)
    isplitl [Htk] <;> iassumption

/-- The global step, over every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

def Item.ck : Item → CK
  | .bar _ => .bar
  | .snd R k h => .rcv R k h
  | .cr R _ => .cr R
/-- The device that makes a payment to a given one. -/
def Item.fr : Item → Dev nD ≃ Dev nD
  | .bar R => dstE (!R)
  | .snd R _ _ => dstE R
  | .cr R _ => (dstE R).symm

theorem tg_eq (i : Item) (d : Dev nD) : i.tg d = (i.fr d, i.ck) := by cases i <;> rfl

/-- What all devices owe a cell in a list of payments: its payments in the list. -/
theorem owed_sum (l : List Item) (c : Dev nD) (k : CK) (ι : ℕ) :
    ∑ d : Dev nD, Ow d l (kcell (c, k)) ι = ((l.filter fun i => decide (i.ck = k)).map fun i => (Finsupp.single i.ix i.un : ℕ →₀ ℕ)).sum ι := by
  induction l with
  | nil => exact Finset.sum_eq_zero fun d _ => rfl
  | cons i l ih =>
    rw [Finset.sum_congr rfl fun d _ => by rw [Ow_cons, Pi.add_apply, Finsupp.add_apply], Finset.sum_add_distrib, ih]
    have hs : ∑ d : Dev nD, tal d i (kcell (c, k)) ι = if i.ck = k then (Finsupp.single i.ix i.un : ℕ →₀ ℕ) ι else 0 := by
      have ht (d : Dev nD) : tal d i (kcell (c, k)) ι = if d = i.fr.symm c then (if i.ck = k then (Finsupp.single i.ix i.un : ℕ →₀ ℕ) ι else 0) else 0 := by
        unfold tal
        rw [tallyAt_apply, tg_eq, Finsupp.single_apply]
        by_cases hd : d = i.fr.symm c
        · subst hd
          rw [Equiv.apply_symm_apply, if_pos rfl]
          by_cases hk : i.ck = k
          · subst hk; rw [if_pos rfl]; exact if_congr ⟨fun h => h.2.symm, fun h => ⟨rfl, h.symm⟩⟩ rfl rfl
          · rw [if_neg hk, if_neg fun h => hk (congrArg Prod.snd (kcell_injective h.1)).symm]
        · rw [if_neg hd, if_neg fun h => hd (by rw [show c = i.fr d from congrArg Prod.fst (kcell_injective h.1), Equiv.symm_apply_apply])]
      rw [Finset.sum_congr rfl fun d _ => ht d, Finset.sum_ite_eq' Finset.univ (i.fr.symm c), if_pos (Finset.mem_univ _)]
    rw [hs, List.filter_cons]
    by_cases hk : i.ck = k
    · rw [if_pos hk, if_pos (decide_eq_true hk), List.map_cons, List.sum_cons, Finsupp.add_apply, Nat.add_comm]
    · rw [if_neg hk, if_neg (by rw [decide_eq_false hk]; exact Bool.false_ne_true), Nat.add_zero]

def O₀ (c : Dev nD) : CellTallies nD τ sig ℕ := Ow c full

theorem launch_eq (k : CK) : tallyOn (kcell (c, k)) (launchCredit (Pipeline.owing O₀) 0 (kcell (c, k)))
    = (tallyOn (kcell (c, k)) (((full.filter fun i => decide (i.ck = k)).map fun i => (Finsupp.single i.ix i.un : ℕ →₀ ℕ)).sum) : CellTallies nD τ sig ℕ) :=
  congrArg _ (Finsupp.ext fun ι => by rw [Pipeline.launchCredit_owing]; exact owed_sum full c k ι)

theorem full_bar : (full.filter fun i => decide (i.ck = .bar)) = [.bar false, .bar true] := by decide
theorem full_cr (R : Bool) : (full.filter fun i => decide (i.ck = .cr R)) = [.cr R 0, .cr R 1, .cr R 2] := by revert R; decide
theorem full_rcv (R : Bool) (k : Fin 6) (h : Fin 4) : (full.filter fun i => decide (i.ck = .rcv R k h)) = [.snd R k h] := by revert R k h; decide

/-- What the launch credits a device with. -/
def lcreds : sProp 𝕄 :=
  iprop((cred (tallyAt (kcell (c, .bar)) 0 2)
      ∗ ((crIn (F := F) c false 0 ∗ crIn (F := F) c false 1 ∗ crIn (F := F) c false 2) ∗ (crIn (F := F) c true 0 ∗ crIn (F := F) c true 1 ∗ crIn (F := F) c true 2)))
    ∗ bigSep Finset.univ fun x : HK => cred (tallyAt (kcell (c, .rcv x.2.1 x.2.2 x.1)) 0 N))

theorem csl_injective : Function.Injective csl := fun k k' h =>
  Option.some.inj (by rw [← kd_csl k, ← kd_csl k', h])

theorem cred_cr (R : Bool) : (cred (tallyOn (kcell (c, .cr R)) (launchCredit (Pipeline.owing O₀) 0 (kcell (c, .cr R)))) : sProp 𝕄)
    ⊢ iprop(crIn (F := F) c R 0 ∗ crIn (F := F) c R 1 ∗ crIn (F := F) c R 2) := by
  rw [launch_eq, full_cr]
  show (cred (tallyOn (kcell (c, .cr R)) (Finsupp.single 0 1 + (Finsupp.single 1 1 + (Finsupp.single 2 1 + 0)))) : sProp 𝕄) ⊢ _
  rw [add_zero, tallyOn_add, tallyOn_add]
  exact (cred_add _ _).1.trans (sep_mono_right (cred_add _ _).1)

theorem lcreds_intro : (Pipeline.launchCred O₀ c : sProp 𝕄) ⊢ lcreds c := by
  unfold Pipeline.launchCred
  refine (bigSep_subset (Finset.subset_univ (Finset.univ.map ⟨csl, csl_injective⟩))).trans ?_
  rw [bigSep_map]
  refine (Entails.of_eq (ck_eq fun k : CK => (cred (tallyOn (kcell (c, k)) (launchCredit (Pipeline.owing O₀) 0 (kcell (c, k)))) : sProp 𝕄))).trans ?_
  have hb : (cred (tallyOn (kcell (c, .bar)) (launchCredit (Pipeline.owing O₀) 0 (kcell (c, .bar)))) : sProp 𝕄) ⊢ cred (tallyAt (kcell (c, .bar)) 0 2) := by
    rw [launch_eq, full_bar]
    show (cred (tallyOn (kcell (c, .bar)) (Finsupp.single 0 1 + (Finsupp.single 0 1 + 0))) : sProp 𝕄) ⊢ _
    rw [add_zero, ← Finsupp.single_add]
    exact Entails.of_eq rfl
  have hr (x : HK) : (cred (tallyOn (kcell (c, .rcv x.2.1 x.2.2 x.1)) (launchCredit (Pipeline.owing O₀) 0 (kcell (c, .rcv x.2.1 x.2.2 x.1)))) : sProp 𝕄)
      ⊢ cred (tallyAt (kcell (c, .rcv x.2.1 x.2.2 x.1)) 0 N) := by
    rw [launch_eq, full_rcv]
    show (cred (tallyOn (kcell (c, .rcv x.2.1 x.2.2 x.1)) (Finsupp.single 0 N + 0)) : sProp 𝕄) ⊢ _
    rw [add_zero]
    exact Entails.of_eq rfl
  unfold lcreds
  iintro ⟨⟨HB, H0, H1⟩, -, HR⟩
  isplitr [HR]
  · isplitl [HB]; · iapply hb; iexact HB
    isplitl [H0]
    · iapply (cred_cr (F := F) c false); iexact H0
    · iapply (cred_cr (F := F) c true); iexact H1
  · iapply (show (bigSep Finset.univ fun x : HK => (cred (tallyOn (kcell (c, .rcv x.2.1 x.2.2 x.1))
        (launchCredit (Pipeline.owing O₀) 0 (kcell (c, .rcv x.2.1 x.2.2 x.1)))) : sProp 𝕄)) ⊢ _ from bigSep_mono fun x _ => hr x)
    iexact HR

/-! ## A device's part, laid out as its body takes it -/

theorem rsts_of : (bigSep Finset.univ fun x : HK => iprop(toSend (F := F) x.2.1 x.1 c x.2.2 ∗ toRecv (F := F) x.2.1 x.1 c x.2.2) : sProp 𝕄) ⊢ quad (rsts c) := by
  have h (h : Fin 4) (R : Bool) : (bigSep Finset.univ fun k : Fin 6 => iprop(toSend (F := F) R h c k ∗ toRecv (F := F) R h c k) : sProp 𝕄) ⊢ rstI c h R := by
    rw [bigSep_six]
    unfold rstI rst0 rst1 rst2 rst3 rst4 rst5
    iintro ⟨⟨S0, R0⟩, ⟨S1, R1⟩, ⟨S2, R2⟩, ⟨S3, R3⟩, ⟨S4, R4⟩, S5, R5⟩
    isplitl [S0]; · iexact S0
    isplitl [R0]; · iexact R0
    isplitl [S1]; · iexact S1
    isplitl [R1]; · iexact R1
    isplitl [S2]; · iexact S2
    isplitl [R2]; · iexact R2
    isplitl [S3]; · iexact S3
    isplitl [R3]; · iexact R3
    isplitl [S4]; · iexact S4
    isplitl [R4]; · iexact R4
    isplitl [S5]; · iexact S5
    iexact R5
  rw [bigSep_univ_prod (fun x : HK => iprop(toSend (F := F) x.2.1 x.1 c x.2.2 ∗ toRecv (F := F) x.2.1 x.1 c x.2.2)), ← quad_eq]
  refine bigSep_mono fun i _ => ?_
  rw [bigSep_univ_prod (fun x : Bool × Fin 6 => iprop(toSend (F := F) x.1 i c x.2 ∗ toRecv (F := F) x.1 i c x.2)), bool_eq]
  unfold rsts
  exact BI.sep_mono (h i false) (h i true)

theorem toks_list : (payToks (F := F) c : sProp 𝕄) ⊢ iprop((barTok c false ∗ barTok c true)
    ∗ ((crTok c false 0 ∗ crTok c false 1 ∗ crTok c false 2) ∗ (crTok c true 0 ∗ crTok c true 1 ∗ crTok c true 2))
    ∗ (bigSep Finset.univ fun x : HK => dutyTok ER (kcell (c, .snd x.2.1 x.2.2 x.1)) 0 0)
    ∗ (bigSep Finset.univ fun x : HK => dutyTok ER (kcell (dst x.2.1 c, .rcv x.2.1 x.2.2 x.1)) 0 0)) := by
  unfold payToks
  rw [bigSep_univ_prod, bigSep_three, ck_eq, ck_eq, ck_eq]
  unfold barTok crTok
  iintro ⟨⟨⟨B0, Ca0, Cb0⟩, S, R⟩, ⟨⟨B1, Ca1, Cb1⟩, -⟩, ⟨-, Ca2, Cb2⟩, -⟩
  isplitl [B0 B1]
  · isplitl [B0]; · iexact B0
    iexact B1
  isplitl [Ca0 Ca1 Ca2 Cb0 Cb1 Cb2]
  · isplitl [Ca0 Ca1 Ca2]
    · isplitl [Ca0]; · iexact Ca0
      isplitl [Ca1]; · iexact Ca1
      iexact Ca2
    · isplitl [Cb0]; · iexact Cb0
      isplitl [Cb1]; · iexact Cb1
      iexact Cb2
  isplitl [S]; · iexact S
  iexact R

theorem cr_at (R : Bool) : (atPos ER (kcell (c, .cr R)) 0 ∅ 0 : sProp 𝕄) ⊢ crAt R c 0 := by
  unfold crAt
  iintro H
  iexists ∅
  iexact H

/-- Everything of the protocol that the body starts with. -/
def proto : sProp 𝕄 := iprop(quad (rsts (F := F) c) ∗ (barTok c false ∗ barTok c true ∗ barIn c) ∗ (crs (F := F) c false ∗ crs (F := F) c true) ∗ locs (F := F) c)

theorem proto_intro : iprop(linear (F := F) c ∗ lcreds (F := F) c) ⊢ proto c := by
  unfold linear lcreds proto barIn crs
  rw [ck_eq]
  iintro ⟨⟨⟨⟨Pb, P0, P1⟩, Ps, Pr⟩, HT, HL⟩, ⟨Cb, C0, C1⟩, Cr⟩
  ihave HT := (toks_list (F := F) c) $$ HT
  icases HT with ⟨⟨B0, B1⟩, ⟨T0, T1⟩, Ts, Tr⟩
  isplitl [Ps Pr Ts Tr Cr]
  · iapply (rsts_of (F := F) c)
    unfold toSend toRecv
    simp only [bigSep_sep']
    isplitl [Ts Tr Ps]
    · isplitl [Ts]; · iexact Ts
      isplitl [Tr]; · iexact Tr
      iexact Ps
    · isplitl [Cr]; · iexact Cr
      iexact Pr
  isplitl [B0 B1 Cb Pb]
  · isplitl [B0]; · iexact B0
    isplitl [B1]; · iexact B1
    isplitl [Cb]; · iexact Cb
    iexact Pb
  isplitr [HL]
  · isplitl [C0 T0 P0]
    · isplitl [C0]; · iexact C0
      isplitl [T0]; · iexact T0
      iapply (cr_at (F := F) c false); iexact P0
    · isplitl [C1]; · iexact C1
      isplitl [T1]; · iexact T1
      iapply (cr_at (F := F) c true); iexact P1
  · iexact HL

end Cert.RingProof

end
-- ==== Proof.Run.lean ====
/-
# The run

What a device is dealt is the body's precondition, and what the body gives back is what the launch wants returned and
the three arrays: the two arguments as they were, and the result, every tile of it at the value the body wrote
(`OutIs`). `run_main` is the conclusion: the program terminates from every memory, with the result so, the arguments
unchanged and all semaphores at zero.
-/
module

public import proofs.«01_k».proof.Proof.Launch
public import Idealize.ShloMosaic.Lib.Pipeline.CollectiveSegs

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## What is dealt -/

/-- A buffer of a device, at some contents. -/
def anyB (b : Ref sig .tc) : sProp 𝕄 := iprop(∃ f : Buf (Elt F) ((c : Thread nD τ).loc b), ((c : Thread nD τ).loc b) ↦{fullShare} f)
/-- The nine scratch buffers, at some contents. -/
def scratch : sProp 𝕄 := iprop(anyB (F := F) c cc0_scratch0 ∗ anyB (F := F) c cc0_scratch1 ∗ anyB (F := F) c cc0_scratch2 ∗ anyB (F := F) c cc0_scratch3
  ∗ anyB (F := F) c cc0_scratch4 ∗ anyB (F := F) c cc0_scratch5 ∗ anyB (F := F) c cc0_scratch6 ∗ anyB (F := F) c cc0_scratch7 ∗ anyB (F := F) c cc0_scratch8)
/-- The first argument. -/
def xw0 : sProp 𝕄 := iprop(((c : Thread nD τ).loc main_arg0) ↦{fullShare} m ((c : Thread nD τ).loc main_arg0))

/-- What a device holds when its region starts. -/
def start : sProp 𝕄 := iprop((∃ K, know m K) ∗ proto (F := F) c ∗ xw0 m c ∗ wp0 m c ∗ anyB (F := F) c main_v1)

/-- What the body starts with but for its debts, -/
def dealt : sProp 𝕄 := iprop(quad (mmX m c) ∗ quad (rsts (F := F) c) ∗ (wp0 m c ∗ wsAny (F := F) c ∗ wbAny (F := F) c ∗ wz (F := F) c)
    ∗ (slots (F := F) c false ∗ slots (F := F) c true ∗ barTok (F := F) c false ∗ barTok (F := F) c true ∗ barIn (F := F) c)
    ∗ (crs (F := F) c false ∗ crs (F := F) c true) ∗ outq0 (F := F) c)
/-- and what it ends with but for its debts. -/
def given : sProp 𝕄 := iprop(quad (xEnd m c) ∗ quad (laneE (F := F) c) ∗ (wp0 m c ∗ wsAny (F := F) c ∗ wbAny (F := F) c ∗ wz (F := F) c)
    ∗ semVal (kcell (c, .bar)) 0 ∗ crEnd (F := F) c ∗ outqE m c)

theorem mm_deal : iprop((quad fun h => quad fun i => xq m c h i) ∗ (quad fun h => sa (F := F) xsM c h) ∗ (quad fun h => xz (F := F) c h)
      ∗ (quad fun h => quad fun i => pany (F := F) c h false (c + jq i)) ∗ (quad fun h => quad fun i => pany (F := F) c h true (c + jq i)))
    ⊢ (quad (mmX m c) : sProp 𝕄) := by
  have h (h : Fin 4) : iprop((quad fun i => xq m c h i) ∗ sa (F := F) xsM c h ∗ xz (F := F) c h
      ∗ (quad fun i => pany (F := F) c h false (c + jq i)) ∗ (quad fun i => pany (F := F) c h true (c + jq i))) ⊢ (mmX m c h : sProp 𝕄) := by
    unfold mmX pq quad
    iintro ⟨Hx, Hs, Hz, ⟨A0, A1, A2, A3⟩, B0, B1, B2, B3⟩
    isplitl [Hx]; · iexact Hx
    isplitl [Hs Hz]
    · isplitl [Hs] <;> iassumption
    isplitl [A0 B0]
    · isplitl [A0] <;> iassumption
    isplitl [A1 B1]
    · isplitl [A1] <;> iassumption
    isplitl [A2 B2]
    · isplitl [A2] <;> iassumption
    isplitl [A3] <;> iassumption
  iintro ⟨Hx, Hs, Hz, HA, HB⟩
  iapply (quad_mono h)
  iapply (quad_join _ _); isplitl [Hx]; · iexact Hx
  iapply (quad_join _ _); isplitl [Hs]; · iexact Hs
  iapply (quad_join _ _); isplitl [Hz]; · iexact Hz
  iapply (quad_join _ _); isplitl [HA] <;> iassumption

theorem dealt_intro : iprop(proto (F := F) c ∗ xw0 m c ∗ wp0 m c ∗ anyB (F := F) c main_v1 ∗ scratch (F := F) c) ⊢ (dealt m c : sProp 𝕄) := by
  unfold proto xw0 scratch dealt locs outq0 outs0
  rw [x_eq]
  iintro ⟨⟨HR, ⟨B0, B1, Bi⟩, HC, ⟨⟨Z00, Z01⟩, Z10, Z11⟩, Hwz, Hxz⟩, Hx, Hw, Ho, H0, H1, H2, H3, H4, H5, H6, H7, H8⟩
  ihave P0 := (show anyB (F := F) c cc0_scratch0 ⊢ _ from pb_split c false) $$ H0
  ihave P1 := (show anyB (F := F) c cc0_scratch1 ⊢ _ from pb_split c true) $$ H1
  ihave S0 := (show anyB (F := F) c cc0_scratch2 ⊢ _ from sl_split c false) $$ H2
  ihave S1 := (show anyB (F := F) c cc0_scratch3 ⊢ _ from sl_split c true) $$ H3
  ihave T0 := (show anyB (F := F) c cc0_scratch4 ⊢ _ from st_split c false) $$ H4
  ihave T1 := (show anyB (F := F) c cc0_scratch5 ⊢ _ from st_split c true) $$ H5
  ihave Hxs := (show anyB (F := F) c cc0_scratch8 ⊢ _ from xs_split c) $$ H8
  ihave Ho := (show anyB (F := F) c main_v1 ⊢ _ from o_split c) $$ Ho
  icases T0 with ⟨T00, T01⟩
  icases T1 with ⟨T10, T11⟩
  icases Ho with ⟨⟨O00, O01⟩, O10, O11⟩
  isplitl [Hx Hxs Hxz P0 P1]
  · iapply (mm_deal m c)
    isplitl [Hx]; · iexact Hx
    isplitl [Hxs]; · iexact Hxs
    isplitl [Hxz]; · iexact Hxz
    isplitl [P0] <;> iassumption
  isplitl [HR]; · iexact HR
  isplitl [Hw H6 H7 Hwz]
  · isplitl [Hw]; · iexact Hw
    isplitl [H7]; · iapply (show anyB (F := F) c cc0_scratch7 ⊢ wsAny c from BI.Entails.refl _); iexact H7
    isplitl [H6]; · iapply (show anyB (F := F) c cc0_scratch6 ⊢ wbAny c from BI.Entails.refl _); iexact H6
    iexact Hwz
  isplitl [S0 S1 B0 B1 Bi]
  · isplitl [S0]; · iexact S0
    isplitl [S1]; · iexact S1
    isplitl [B0]; · iexact B0
    isplitl [B1] <;> iassumption
  isplitl [HC]; · iexact HC
  isplitl [T00 Z00 O00 T10 Z10 O10]
  · isplitl [T00 Z00 O00]
    · isplitl [T00]; · iexact T00
      isplitl [Z00] <;> iassumption
    isplitl [T10]; · iexact T10
    isplitl [Z10] <;> iassumption
  isplitl [T01 Z01 O01]
  · isplitl [T01]; · iexact T01
    isplitl [Z01] <;> iassumption
  isplitl [T11]; · iexact T11
  isplitl [Z11] <;> iassumption

/-! ## What comes back -/

/-- A device's counter of the barrier at zero, its arguments unchanged, and its result as the body wrote it. -/
def final : sProp 𝕄 := iprop(semVal (kcell (c, .bar)) 0 ∗ xw0 m c ∗ wp0 m c
  ∗ ∃ g : Buf (Elt F) ((c : Thread nD τ).loc main_v1), ⌜OutIs m c g⌝ ∗ ((c : Thread nD τ).loc main_v1) ↦{fullShare} g)

theorem hk_eq (Φ : HK → sProp 𝕄) : bigSep Finset.univ Φ = quad fun h => iprop((bigSep Finset.univ fun k : Fin 6 => Φ (h, (false, k))) ∗ bigSep Finset.univ fun k : Fin 6 => Φ (h, (true, k))) := by
  rw [bigSep_univ_prod, bigSep_congr fun h _ => bigSep_univ_prod _, bigSep_congr fun h _ => bool_eq _, quad_eq]

theorem x_back : (quad (xEnd m c) : sProp 𝕄) ⊢ iprop(xw0 m c ∗ (quad fun h => sa (F := F) xsM c h) ∗ quad fun h => xz (F := F) c h) := by
  unfold xw0
  rw [x_eq]
  iintro H
  ihave H := (show (quad (xEnd m c) : sProp 𝕄) ⊢ iprop((quad fun h => quad fun i => xq m c h i) ∗ quad fun h => iprop(sa (F := F) xsM c h ∗ xz (F := F) c h)) from quad_split _ _) $$ H
  icases H with ⟨Hx, H⟩
  ihave H := (quad_split _ _) $$ H
  isplitl [Hx] <;> iassumption

theorem lane_back : (quad (laneE (F := F) c) : sProp 𝕄) ⊢ iprop(((quad fun h => bigSep Finset.univ fun a : Fin 4 => pany (F := F) c h false a) ∗ (quad fun h => bigSep Finset.univ fun a : Fin 4 => pany (F := F) c h true a))
    ∗ ((quad fun h => bigSep Finset.univ fun a : Fin 3 => own (F := F) c h false a) ∗ (quad fun h => bigSep Finset.univ fun a : Fin 3 => own (F := F) c h true a)) ∗ kvals (F := F) c) := by
  unfold kvals
  rw [hk_eq, hk_eq]
  iintro H
  ihave H := (show (quad (laneE (F := F) c) : sProp 𝕄) ⊢ iprop(quad (endR (F := F) c false) ∗ quad (endR (F := F) c true)) from quad_split _ _) $$ H
  icases H with ⟨HA, HB⟩
  have h (R : Bool) : (quad (endR (F := F) c R) : sProp 𝕄) ⊢ iprop((quad fun h => bigSep Finset.univ fun a : Fin 4 => pany (F := F) c h R a)
      ∗ (quad fun h => bigSep Finset.univ fun a : Fin 3 => own (F := F) c h R a)
      ∗ (quad fun h => bigSep Finset.univ fun k : Fin 6 => zs (F := F) R h c k) ∗ (quad fun h => bigSep Finset.univ fun k : Fin 6 => zr (F := F) R h c k)) := by
    iintro H
    ihave H := (show (quad (endR (F := F) c R) : sProp 𝕄) ⊢ iprop((quad fun h => bigSep Finset.univ fun a : Fin 4 => pany (F := F) c h R a) ∗
      quad fun h => iprop((bigSep Finset.univ fun a : Fin 3 => own (F := F) c h R a) ∗ (bigSep Finset.univ fun k : Fin 6 => zs (F := F) R h c k) ∗ bigSep Finset.univ fun k : Fin 6 => zr (F := F) R h c k)) from quad_split _ _) $$ H
    icases H with ⟨H1, H⟩
    ihave H := (quad_split _ _) $$ H
    icases H with ⟨H2, H⟩
    ihave H := (quad_split _ _) $$ H
    isplitl [H1]; · iexact H1
    isplitl [H2] <;> iassumption
  ihave HA := (h false) $$ HA
  ihave HB := (h true) $$ HB
  icases HA with ⟨A1, A2, A3, A4⟩
  icases HB with ⟨B1, B2, B3, B4⟩
  isplitl [A1 B1]
  · isplitl [A1] <;> iassumption
  isplitl [A2 B2]
  · isplitl [A2] <;> iassumption
  isplitl [A3 B3]
  · iapply (show _ ⊢ _ from quad_join (fun h => bigSep Finset.univ fun k : Fin 6 => zs (F := F) false h c k) (fun h => bigSep Finset.univ fun k : Fin 6 => zs (F := F) true h c k))
    isplitl [A3] <;> iassumption
  iapply (show _ ⊢ _ from quad_join (fun h => bigSep Finset.univ fun k : Fin 6 => zr (F := F) false h c k) (fun h => bigSep Finset.univ fun k : Fin 6 => zr (F := F) true h c k))
  isplitl [A4] <;> iassumption

theorem given_elim : (given m c : sProp 𝕄) ⊢ iprop(final m c ∗ ((crEnd (F := F) c ∗ kvals (F := F) c) ∗ locs (F := F) c) ∗ scratch (F := F) c) := by
  unfold given final scratch outqE outsE locs
  iintro ⟨HX, HL, ⟨Hw, H7, H6, Hwz⟩, Hbar, Hcr, ⟨⟨⟨T00, Z00, O00⟩, T10, Z10, O10⟩, ⟨T01, Z01, O01⟩, T11, Z11, O11⟩⟩
  ihave HX := (x_back m c) $$ HX
  icases HX with ⟨Hx, Hxs, Hxz⟩
  ihave HL := (lane_back c) $$ HL
  icases HL with ⟨⟨P0, P1⟩, ⟨S0, S1⟩, Hkv⟩
  isplitl [Hbar Hx Hw O00 O01 O10 O11]
  · isplitl [Hbar]; · iexact Hbar
    isplitl [Hx]; · iexact Hx
    isplitl [Hw]; · iexact Hw
    iapply (o_join m c)
    isplitl [O00 O01]
    · isplitl [O00] <;> iassumption
    isplitl [O10] <;> iassumption
  isplitl [Hcr Hkv Z00 Z01 Z10 Z11 Hwz Hxz]
  · isplitl [Hcr Hkv]
    · isplitl [Hcr] <;> iassumption
    isplitl [Z00 Z01 Z10 Z11]
    · isplitl [Z00 Z01]
      · isplitl [Z00] <;> iassumption
      isplitl [Z10] <;> iassumption
    isplitl [Hwz] <;> iassumption
  isplitl [P0]; · iapply (show _ ⊢ anyB (F := F) c cc0_scratch0 from pb_join c false); iexact P0
  isplitl [P1]; · iapply (show _ ⊢ anyB (F := F) c cc0_scratch1 from pb_join c true); iexact P1
  isplitl [S0]; · iapply (show _ ⊢ anyB (F := F) c cc0_scratch2 from sl_join c false); iexact S0
  isplitl [S1]; · iapply (show _ ⊢ anyB (F := F) c cc0_scratch3 from sl_join c true); iexact S1
  isplitl [T00 T01]
  · iapply (show _ ⊢ anyB (F := F) c cc0_scratch4 from st_join c false)
    isplitl [T00] <;> iassumption
  isplitl [T10 T11]
  · iapply (show _ ⊢ anyB (F := F) c cc0_scratch5 from st_join c true)
    isplitl [T10] <;> iassumption
  isplitl [H6]; · iapply (show wbAny c ⊢ anyB (F := F) c cc0_scratch6 from BI.Entails.refl _); iexact H6
  isplitl [H7]; · iapply (show wsAny c ⊢ anyB (F := F) c cc0_scratch7 from BI.Entails.refl _); iexact H7
  iapply (show _ ⊢ anyB (F := F) c cc0_scratch8 from xs_join c); iexact Hxs

/-! ## The region -/

abbrev ι : ℕ := 0

def Φ₀ : sProp 𝕄 := iprop((∃ K, know m K) ∗ dealt m c)

/-- The pipeline's data: it has no windows; the body's debts are all the device owes. -/
def dats (_ : Fin 1) (c : Dev nD) : Dat τ (Elt F) ℕ ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => given m c
  q _ := fullShare
  owed t := match t with
    | ⟨0, _⟩ => O₀ c
    | ⟨_ + 1, _⟩ => 0

theorem bigSep_W (Φ : Fin cfg0.W → sProp 𝕄) : bigSep Finset.univ Φ = iprop(emp) := bigSep_univ_eq_bigSepL [] (by decide) (by decide) Φ

def bodyPre' : sProp 𝕄 := iprop(Φ₀ m c ∗ (dats m ρ 0 c).owesAt ι t0_0.castSucc ∗ emp)
def bodyPost' : sProp 𝕄 := iprop(given m c ∗ (dats m ρ 0 c).owesAt ι t0_0.succ ∗ emp)

theorem Ow_full : Ow c (pl 56) = 0 := rfl

theorem owes_in : ((dats m ρ 0 c).owesAt ι t0_0.castSucc : sProp 𝕄) ⊢ ow c 0 := by
  unfold Dat.owesAt Pipeline.owesWithin ow owesW
  rw [show (dats m ρ 0 c).owed t0_0.castSucc = O₀ c from rfl]
  iintro ⟨%W, -, HO⟩
  iexists W
  iexact HO

theorem owes_out : (ow c 56 : sProp 𝕄) ⊢ (dats m ρ 0 c).owesAt ι t0_0.succ := by
  unfold Dat.owesAt Pipeline.owesWithin ow owesW
  rw [show (dats m ρ 0 c).owed t0_0.succ = 0 from rfl, Ow_full]
  iintro ⟨%W, HO⟩
  iexists W
  isplitr; · ipureintro; exact fun _ _ => Or.inl trivial
  iexact HO

theorem wp_dev (k : Dev nD → Pr F) (Q : PUnit → sProp 𝕄) : (WP c (.op .deviceId k) Q : sProp 𝕄) = WP c (k c) Q := wp_deviceId 𝒱₀ (c : Thread nD τ) none Set.univ

theorem pre_of {P W : sProp 𝕄} (h : ∀ K, iprop(know m K ∗ bodyPre m c) ⊢ iprop((bodyPost m c -∗ P) -∗ W)) (hP : bodyPost' m ρ c ⊢ P) : bodyPre' m ρ c ⊢ W := by
  unfold bodyPre' Φ₀ dealt
  iintro ⟨⟨⟨%K, #HK⟩, H1, H2, H3, H4, H5, H6⟩, HO, -⟩
  ihave HO := (owes_in m ρ c) $$ HO
  iapply (h K) $$ [H1 H2 H3 H4 H5 H6 HO]
  · unfold bodyPre
    isplitr; · iexact HK
    isplitl [H1]; · iexact H1
    isplitl [H2]; · iexact H2
    isplitl [H3]; · iexact H3
    isplitl [H4]; · iexact H4
    isplitl [H5]; · iexact H5
    isplitl [H6] <;> iassumption
  iintro H
  iapply hP
  unfold bodyPost bodyPost' given
  icases H with ⟨H1, H2, H3, H4, H5, H6, HO⟩
  isplitl [H1 H2 H3 H4 H5 H6]
  · isplitl [H1]; · iexact H1
    isplitl [H2]; · iexact H2
    isplitl [H3]; · iexact H3
    isplitl [H4]; · iexact H4
    isplitl [H5] <;> iassumption
  isplitl [HO]
  · iapply (owes_out m ρ c); iexact HO
  iempintro

theorem body_sound (Q : PUnit → sProp 𝕄) (hP : bodyPost' m ρ c ⊢ Q ⟨⟩) : (bodyPre' m ρ c : sProp 𝕄) ⊢ WP c (bodyAt0 (F := F) t0_0) Q := by
  rw [body_eq, wp_dev]
  exact pre_of m ρ c (fun K => wp_body m K c Q) hP

seal cc0_body in
theorem body_is : (defs₀ (F := F) .tc cfg0.body (cfg0.bodyArgs t0_0 (cfg0.slots t0_0)) : Pr F) = bodyAt0 t0_0 := rfl

theorem obligation_of (h : ∀ Q : PUnit → sProp 𝕄, (bodyPost' m ρ c ⊢ Q ⟨⟩) → (bodyPre' m ρ c : sProp 𝕄) ⊢ WP c (defs₀ (F := F) .tc cfg0.body (cfg0.bodyArgs t0_0 (cfg0.slots t0_0))) Q) :
    BodyObligation (dats (F := F) m ρ 0 c) (defs₀ (F := F)) 𝒱₀ ι Set.univ := fun t => by
  obtain rfl := fin_N0 t
  generalize (defs₀ (F := F) .tc cfg0.body (cfg0.bodyArgs t0_0 (cfg0.slots t0_0))) = p at h ⊢
  refine BI.Entails.trans (BI.sep_mono (BI.Entails.refl _) (BI.sep_mono (BI.Entails.refl _) (Entails.of_eq (bigSep_W _)))) ?_
  refine h _ ?_
  exact BI.sep_mono (BI.Entails.refl _) (BI.sep_mono (BI.Entails.refl _) (Entails.of_eq (bigSep_W _).symm))

theorem body_obligation : BodyObligation (dats (F := F) m ρ 0 c) (defs₀ (F := F)) 𝒱₀ ι Set.univ :=
  obligation_of m ρ c fun Q hQ => by
    rw [body_is]
    exact body_sound m ρ c Q hQ

/-! ## The launch's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none, unscopedRest0_eq]
  unfold G' start
  iintro ⟨⟨Hx, Hw, Ho⟩, #Hlev, Hcr, -, ⟨%K, #HR, HL⟩⟩
  ihave Hc := (lcreds_intro (F := F) c) $$ Hcr
  ihave HP := (proto_intro (F := F) c) $$ [HL Hc]
  · isplitl [HL] <;> iassumption
  imodintro
  isplitl
  · isplitr
    · iexists K
      unfold know records
      icases HR with ⟨HR1, HR2⟩
      isplitr; · iexact HR1
      isplitr; · iexact HR2
      iexact Hlev
    isplitl [HP]; · iexact HP
    unfold xw0 wp0 anyB
    isplitl [Hx]; · iexact Hx
    isplitl [Hw]; · iexact Hw
    iexists _; iexact Ho
  iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨HK, HP⟩, -, Hs⟩
  isplitl [HK]; · iexact HK
  iapply (dealt_intro m c)
  icases HP with ⟨H1, H2, H3, H4⟩
  isplitl [H1]; · iexact H1
  isplitl [H2]; · iexact H2
  isplitl [H3]; · iexact H3
  isplitl [H4]; · iexact H4
  unfold scratch anyB
  iexact Hs

theorem phi1_exit :
    (dats m ρ 0 c).Φ (Fin.last cfg0.N) ⊢ iprop(final m c ∗ Pipeline.ownSems0 osem c ∗ Pipeline.scopedRest cfg0.spec c) := by
  rw [show (dats m ρ 0 c).Φ (Fin.last cfg0.N) = given m c from rfl, scopedRest0_eq, ownSems0_eq]
  exact given_elim m c

theorem waits0 : (levAts L lv : sProp 𝕄) ⊢ Pipeline.cellsWaits cfgs (dats m ρ) ι 0 c :=
  Pipeline.cellsWaits_intro cfgs (dats m ρ) ι 0 c fun w _ _ => w.elim0

/-! ## The run -/

/-- What a device ends with: its result as the body wrote it, its arguments unchanged. -/
def Ends (m' : (ℓ : Loc nD τ sig) → Buf (Elt F) ℓ) : Prop :=
  OutIs m c (m' ((c : Thread nD τ).loc main_v1)) ∧ m' ((c : Thread nD τ).loc main_arg0) = m ((c : Thread nD τ).loc main_arg0)
    ∧ m' ((c : Thread nD τ).loc main_arg1) = m ((c : Thread nD τ).loc main_arg1)

/-- What a device holds at the end tells what memory holds there. -/
theorem final_read (s' : Phys nD τ sig (Elt F)) :
    (iprop(final m c ∗ emp ∗ SI s') : sProp 𝕄) ⊢ |={Set.univ}=> iprop(⌜Ends m c s'.mem.mem ∧ ∀ sm : SemLoc sig, sm.isScoped .tc = false → s'.mem.sem ((c.tc : Thread nD τ), sm) = 0⌝ ∗ SI s') := by
  unfold final xw0 wp0
  iintro ⟨⟨Hz, Hx, Hw, ⟨%g, %hg, Ho⟩⟩, -, HSI⟩
  icombine HSI Hx gives %hx
  icombine HSI Hw gives %hw
  icombine HSI Ho gives %ho
  imod (Pipeline.unscopedSems0_read (X := (semVal (kcell (c, .bar)) 0 : sProp 𝕄)) (c := c) (by rw [← unscopedSems0_eq]; exact fupd_intro) s') $$ [Hz HSI] with ⟨%hs, HSI⟩
  · isplitl [Hz] <;> iassumption
  imodintro
  isplitr
  · ipureintro
    refine ⟨⟨?_, Buf.eq_of_forall_mem_univ hx, Buf.eq_of_forall_mem_univ hw⟩, hs⟩
    rw [Buf.eq_of_forall_mem_univ ho]; exact hg
  iexact HSI

set_option maxRecDepth 100000 in
/-- From any memory with zero counters, every weakly fair execution of the four devices' program terminates; each
    device's result is then as its body wrote it, its arguments are unchanged, and every counter is at zero. -/
theorem run_main : θ_run defs (onTc (τ := τ) (main (F := F))) (s₀ m ρ) (fun r => (∀ c : Dev nD, Ends m c r.2.mem) ∧ r.2.sem = fun _ => 0) :=
  Pipeline.θ_run_region_owing_glob_pf (fun p => (cfgs p).toPCfg) (fun p => (cfgs p).toPCfg_adm) (dats m ρ) ι cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits0 m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := final m) (Z := fun _ => iprop(emp))
    (hX := start_intro m ρ) (hin := phi0_intro m ρ) (hout := phi1_exit m ρ)
    (QY := fun c s => Ends m c s.mem ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.RingProof
-- ==== Proof.Same.lean ====
/-
# The two readings of the kernel are one text

No operation of the kernel is rewritten for the exact reading, so `Kernel` and `KernelIdeal` are the same program under
two names. `run_kernel` is the run of `KernelIdeal` at the bit-exact floats, said of `Kernel`.
-/
module

public import proofs.«01_k».proof.Defs
public import proofs.«01_k».proof.Proof.Gen.Kernel
public import proofs.«01_k».proof.Proof.Run

@[expose] public section

set_option maxRecDepth 100000

noncomputable section

namespace Cert.RingProof

open Idealize.ShloMosaic Idealize.ShloMosaic.TcCoe Idealize.SL.Sem

local instance : Cert.Kernel.Facts := Cert.Kernel.Gen.facts

/-- Its bodies are the other's, -/
theorem defs_same : (Cert.Kernel.defs (F := Bits)) = (Cert.KernelIdeal.defs (F := Bits)) := rfl
/-- and so is what a device runs. -/
theorem main_same : (Cert.Kernel.main (F := Bits)) = (Cert.KernelIdeal.main (F := Bits)) := rfl

/-- The kernel terminates from any memory with zero counters, its arguments unchanged and all its counters at zero. -/
theorem run_kernel (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (onTc (τ := Cert.Kernel.τ) (Cert.Kernel.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0) := by
  rw [defs_same, main_same]
  exact (θ_run Cert.KernelIdeal.defs _ _).mono (fun _ h => ⟨fun c => (h.1 c).2, h.2⟩) (run_main (F := Bits) m ρ)

end Cert.RingProof
-- ==== Proof.Value.lean ====
/-
# What the result is, over the reals

Over the reals the casts are the identity, so a tile that goes round the ring carries plain sums of the devices'
block products: ring `R`'s chunk, when it is finished, is the activation of the sum over the four devices (`gv_eq`,
`ogv_eq`), and the tiles written out make up the whole array (`out_eq`). The sum over the four devices of the products
of their 1024 columns and rows is the product over all 4096 (`sum_blocks`); `run_ref` reads the reference the same way.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Layout

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

open Idealize.ShloMosaic.ValueIdx
open scoped BigOperators

variable (m : (ℓ : Loc nD τ sig) → Buf (Elt Ideal) ℓ)

/-! ## Tiles as matrices -/

/-- A tile without its leading unit axis. -/
def fl {α : Type} (v : S1x256x1024.Idx → α) : S256x1024.Idx → α := shapeCast S256x1024 v shapeCasts_S1x256x1024_S256x1024

theorem fl_cast {α : Type} (v : S256x1024.Idx → α) : fl (shapeCast S1x256x1024 v shapeCasts_S256x1024_S1x256x1024) = v :=
  shapeCast_shapeCast v _ _

/-- The tanh approximation of the GELU. -/
def gelu (y : EReal) : EReal :=
  Ideal.ofBits .f32 0x3F000000#32 * y * (Ideal.ofBits .f32 0x3F800000#32
    + FloatOps.tanh (F := Ideal) (φ := .f32) (Ideal.ofBits .f32 0x3F4C422A#32 * (y + Ideal.ofBits .f32 0x3D372713#32 * y * y * y)))

theorem fl_add (a b : Vec Ideal S1x256x1024 .bf16) (i : S256x1024.Idx) : (fl (addP a b) i : EReal) = (fl a i : EReal) + (fl b i : EReal) := by
  unfold addP; rw [fl_cast]; rfl
theorem sum_apply (a b : Vec Ideal S1x256x1024 .bf16) (i : S256x1024.Idx) : (sumP a b i : EReal) = (fl a i : EReal) + (fl b i : EReal) := rfl
theorem fl_pack (g : FVec Ideal S256x1024 .f32) (i : S256x1024.Idx) : (fl (packP g) i : EReal) = g i := by
  unfold packP; rw [fl_cast]; rfl
theorem gelu_apply (y : FVec Ideal S256x1024 .f32) (i : S256x1024.Idx) : (geluP y i : EReal) = gelu (y i) := rfl
theorem ext_apply (v : Vec Ideal S1x256x1024 .bf16) (i : S256x1024.Idx) : (extP v i : EReal) = fl v i := rfl

/-- Row `i` of row block `h` of chunk `a`, -/
def row (a h : Fin 4) (i : Fin 256) : Fin 4096 := ⟨1024 * a.val + 256 * h.val + i.val, by omega⟩
/-- column `j` of ring `R`'s half. -/
def col (R : Bool) (j : Fin 1024) : Fin 2048 := ⟨cond R 1024 0 + j.val, by cases R <;> simp <;> omega⟩

/-- Device `d`'s block of the first argument, -/
def xOf (d : Dev nD) : S4096x1024.Idx → EReal := m ((d : Thread nD τ).loc main_arg0)
/-- and of the second. -/
def wOf (d : Dev nD) : S1024x2048.Idx → EReal := m ((d : Thread nD τ).loc main_arg1)

/-- Device `d`'s product at row `r` and column `q`. -/
def prodAt (d : Dev nD) (r : Fin 4096) (q : Fin 2048) : EReal :=
  ∑ k : Fin 1024, xOf m d (ix2 r k) * wOf m d (ix2 k q)

theorem xv_apply (d : Dev nD) (a h : Fin 4) (i : Fin 256) (k : Fin 1024) :
    (fl (xv m d (a, h)) (ix2 i k) : EReal) = xOf m d (ix2 (row a h i) k) := by
  unfold xv
  rw [fl_cast]
  refine congrArg (xOf m d) (funext fun b => Fin.ext ?_)
  fin_cases b
  · show 1024 * a.val + 256 * h.val + 1 * i.val = 1024 * a.val + 256 * h.val + i.val; omega
  · show 0 + 1 * k.val = k.val; omega

theorem wvv_apply (d : Dev nD) (k : Fin 1024) (q : Fin 2048) :
    (wvv m d (ix2 k q) : EReal) = wOf m d (ix2 k q) := by
  unfold wvv wv
  rw [shapeCast_self]
  rfl

theorem mm_apply (x : Vec Ideal S1x256x1024 .f32) (w : Vec Ideal S1024x2048 .bf16) (i : Fin 256) (q : Fin 2048) :
    (mmV x w (ix2 i q) : EReal) = ∑ k : Fin 1024, (fl x (ix2 i k) : EReal) * (w (ix2 k q) : EReal) := by
  unfold mmV
  refine (Ideal.matmul_plain_apply (M := 256) (K := 1024) (N := 2048) none _ _ _ i q).trans ?_
  rw [show (constant (F := Ideal) S256x2048 .f32 0x00000000#32) (ix2 i q) = (0 : EReal) from Ideal.ofBits_zero_f32, zero_add]
  rfl

theorem pv_apply (R : Bool) (d : Dev nD) (a h : Fin 4) (i : Fin 256) (j : Fin 1024) :
    (fl (pv m R d a h) (ix2 i j) : EReal) = prodAt m d (row a h i) (col R j) := by
  have key : (mmV (xv m d (a, h)) (wvv m d) (ix2 i (col R j)) : EReal) = prodAt m d (row a h i) (col R j) := by
    rw [mm_apply]
    unfold prodAt
    refine Finset.sum_congr rfl fun k _ => ?_
    rw [xv_apply, wvv_apply]
  rw [← key]
  unfold pv
  cases R
  · unfold mmP
    rw [fl_cast]
    refine congrArg (mmV (xv m d (a, h)) (wvv m d)) (funext fun b => Fin.ext ?_)
    fin_cases b
    · show 0 + i.val = i.val; omega
    · show 0 + j.val = 0 + j.val; rfl
  · unfold mmP
    rw [fl_cast]
    refine congrArg (mmV (xv m d (a, h)) (wvv m d)) (funext fun b => Fin.ext ?_)
    fin_cases b
    · show 0 + i.val = i.val; omega
    · show 1024 + j.val = 1024 + j.val; rfl

/-! ## Chunks -/

theorem sum_four (R : Bool) (e : Dev nD) (f : Dev nD → EReal) :
    f e + (f (org R e) + (f (org R (org R e)) + f (org R (org R (org R e))))) = ∑ d : Dev nD, f d := by
  rw [show ∑ d : Dev nD, f d = f 0 + f 1 + f 2 + f 3 from Fin.sum_univ_four f]
  cases R <;> fin_cases e
  · show f 0 + (f 3 + (f 2 + f 1)) = _; ac_rfl
  · show f 1 + (f 0 + (f 3 + f 2)) = _; ac_rfl
  · show f 2 + (f 1 + (f 0 + f 3)) = _; ac_rfl
  · show f 3 + (f 2 + (f 1 + f 0)) = _; ac_rfl
  · show f 0 + (f 1 + (f 2 + f 3)) = _; ac_rfl
  · show f 1 + (f 2 + (f 3 + f 0)) = _; ac_rfl
  · show f 2 + (f 3 + (f 0 + f 1)) = _; ac_rfl
  · show f 3 + (f 0 + (f 1 + f 2)) = _; ac_rfl

theorem sch2 : ∀ (R : Bool) (e : Dev nD), sch R (org R e) 2 = sch R e 3 := by decide
theorem sch1 : ∀ (R : Bool) (e : Dev nD), sch R (org R (org R e)) 1 = sch R e 3 := by decide
theorem sch0 : ∀ (R : Bool) (e : Dev nD), sch R (org R (org R (org R e))) 0 = sch R e 3 := by decide

/-- A finished tile is the activation of the sum of the four devices' products. -/
theorem gv_eq (R : Bool) (h : Fin 4) (e : Dev nD) (i : Fin 256) (j : Fin 1024) :
    (gv m R h e (ix2 i j) : EReal) = gelu (∑ d : Dev nD, prodAt m d (row (sch R e 3) h i) (col R j)) := by
  rw [← sum_four R e]
  unfold gv
  rw [gelu_apply, sum_apply, pv_apply]
  rw [show (fl (tv m R h 2 (org R e)) (ix2 i j) : EReal) = _ from fl_add _ _ _, show (fl (tv m R h 1 (org R (org R e))) (ix2 i j) : EReal) = _ from fl_add _ _ _,
    show (fl (tv m R h 0 (org R (org R (org R e)))) (ix2 i j) : EReal) = _ from pv_apply _ _ _ _ _ _ _, pv_apply, pv_apply, sch2, sch1, sch0]

theorem och0 : ∀ (R : Bool) (d : Dev nD), sch R d 3 = och R d 0 := by decide
theorem och1 : ∀ (R : Bool) (d : Dev nD), sch R (org R d) 3 = och R d 1 := by decide
theorem och2 : ∀ (R : Bool) (d : Dev nD), sch R (org R (org R d)) 3 = och R d 2 := by decide
theorem och3 : ∀ (R : Bool) (d : Dev nD), sch R (org R (org R (org R d))) 3 = och R d 3 := by decide

/-- What is written out at stage `u` is that of the chunk that it writes. -/
theorem ogv_eq (R : Bool) (d : Dev nD) (u h : Fin 4) (i : Fin 256) (j : Fin 1024) :
    (ogv m R d u h (ix2 i j) : EReal) = gelu (∑ e : Dev nD, prodAt m e (row (och R d u) h i) (col R j)) := by
  match u with
  | 0 => rw [← och0]; exact gv_eq m R h d i j
  | 1 => rw [← och1]; exact (fl_pack _ _).trans (gv_eq m R h (org R d) i j)
  | 2 => rw [← och2]; exact (fl_pack _ _).trans (gv_eq m R h (org R (org R d)) i j)
  | 3 => rw [← och3]; exact (fl_pack _ _).trans (gv_eq m R h (org R (org R (org R d))) i j)

/-! ## The whole array -/

/-- The result on every device, from the sum of the devices' products. -/
def outV : S4096x2048.Idx → EReal := fun j => gelu (∑ e : Dev nD, prodAt m e (j 0) (j 1))

theorem out_eq (c : Dev nD) (g : Buf (Elt Ideal) ((c : Thread nD τ).loc main_v1)) (hg : OutIs m c g) : g = outV m := by
  funext j
  obtain ⟨⟨⟨R, p⟩, n⟩, ht⟩ : ∃ t, okey c j = t := ⟨_, rfl⟩
  have hmem := (okey_iff c ((R, p), n) j).mpr ht
  obtain ⟨i, hi⟩ : ∃ i, (oT (ooff R (ob c R p n.val)) ⟨_, rfl⟩).view.emb i = j := by
    obtain ⟨i, -, hi⟩ := Finset.mem_map.mp hmem
    exact ⟨i, hi⟩
  have hv := congrFun (hg R p n) i
  rw [show (oT (ooff R (ob c R p n.val)) ⟨_, rfl⟩).view.read (Elt Ideal) g i = g j from congrArg g hi] at hv
  rw [hv]
  obtain ⟨r, q, rfl⟩ : ∃ (r : Fin 256) (q : Fin 1024), i = ix2 r q := ⟨i 0, i 1, funext fun b => by fin_cases b <;> rfl⟩
  refine (ogv_eq m R c (uU n.val) (uH p n.val) r q).trans ?_
  unfold outV
  have h0 : row (och R c (uU n.val)) (uH p n.val) r = j 0 := by
    rw [← hi]; exact Fin.ext (by show _ = 1024 * _ + 256 * _ + 1 * r.val; rw [Nat.one_mul]; rfl)
  have h1 : col R q = j 1 := by
    rw [← hi]; exact Fin.ext (by cases R <;> (show _ + q.val = _ + 1 * q.val; rw [Nat.one_mul]; rfl))
  rw [h0, h1]

/-! ## The whole product -/

/-- A whole product at row `r` and column `q`. -/
def wholeAt (X : Cert.ReferenceIdeal.S4096x4096.Idx → EReal) (W : S4096x2048.Idx → EReal) (r : Fin 4096) (q : Fin 2048) : EReal :=
  ∑ k : Fin 4096, X (ix2 r k) * W (ix2 k q)

/-- A sum of 4096 terms, 1024 by 1024. -/
theorem sum_split (f : Fin 4096 → EReal) :
    ∑ e : Fin 4, ∑ k : Fin 1024, f ⟨e.val * 1024 + k.val, by omega⟩ = ∑ k : Fin 4096, f k := by
  rw [← Fintype.sum_prod_type' (fun (e : Fin 4) (k : Fin 1024) => f ⟨e.val * 1024 + k.val, by omega⟩)]
  refine Fintype.sum_equiv (finProdFinEquiv (m := 4) (n := 1024)) _ _ fun x => congrArg f (Fin.ext ?_)
  show x.1.val * 1024 + x.2.val = x.2.val + 1024 * x.1.val
  omega

/-- The devices' products add up to the whole product, of which they hold the blocks. -/
theorem sum_blocks (X : Cert.ReferenceIdeal.S4096x4096.Idx → EReal) (W : S4096x2048.Idx → EReal)
    (hx : ∀ c : Dev nD, xOf m c = Layout.block S4096x1024 Cert.ReferenceIdeal.S4096x4096 1 4 c X)
    (hw : ∀ c : Dev nD, wOf m c = Layout.block S1024x2048 S4096x2048 0 4 c W)
    (r : Fin 4096) (q : Fin 2048) : ∑ e : Dev nD, prodAt m e r q = wholeAt X W r q := by
  unfold wholeAt
  rw [← sum_split]
  refine Finset.sum_congr rfl fun e _ => ?_
  unfold prodAt
  refine Finset.sum_congr rfl fun k _ => ?_
  rw [hx, hw, Layout.block_apply, Layout.block_apply]
  congr 1
  · refine congrArg X (funext fun b => Fin.ext ?_)
    fin_cases b <;> rfl
  · refine congrArg W (funext fun b => Fin.ext ?_)
    fin_cases b <;> rfl

/-- The reference's result, in the order in which it is computed. -/
theorem ref_gelu (y : EReal) :
    Ideal.ofBits .f32 0x3F000000#32 * y * (Ideal.ofBits .f32 0x3F800000#32
      + Ideal.tanh (Ideal.ofBits .f32 0x3F4C422A#32 * (y + Ideal.ofBits .f32 0x3D372713#32 * (y * y * y)))) = gelu y := by
  unfold gelu
  rw [← mul_assoc (Ideal.ofBits .f32 0x3D372713#32), ← mul_assoc (Ideal.ofBits .f32 0x3D372713#32)]
  rfl

/-- The array that both programs compute. -/
def refV (X : Cert.ReferenceIdeal.S4096x4096.Idx → EReal) (W : S4096x2048.Idx → EReal) : S4096x2048.Idx → EReal :=
  fun j => gelu (wholeAt X W (j 0) (j 1))

end Cert.RingProof

namespace Cert.RefProof

open Idealize.ShloMosaic Idealize.ShloMosaic.TcCoe Idealize.SL.Sem Idealize.ShloMosaic.ValueIdx Cert.ReferenceIdeal

local instance : Cert.ReferenceIdeal.Facts := Cert.ReferenceIdeal.Gen.facts

variable (m : (ℓ : Loc nD τ sig) → Buf (Elt Ideal) ℓ)

theorem dot_eq (X : FVec Ideal S4096x4096 .f32) (W : FVec Ideal S4096x2048 .f32) (r : Fin 4096) (q : Fin 2048) :
    (Host.dotGeneral dot_S4096x4096_S4096x2048_S4096x2048_1_0_0_1_n_n none X W (ix2 r q) : EReal) = RingProof.wholeAt X W r q :=
  Idealize.ShloMosaic.StackMember.dotGeneral_plain_apply (m := 4096) (k := 4096) (n := 2048) none X W r q

/-- The reference computes the activation of the whole product, and leaves its arguments as they are. -/
theorem run_ref (ρ : Dev nD → PrngReg) :
    θ_run defs (onTc (τ := τ) (main (F := Ideal))) ⟨m, fun _ => 0, ρ⟩ (fun r => ∀ c : Dev nD,
      r.2.mem ((c : Thread nD τ).loc main_v13)
          = RingProof.refV (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)) := by
  refine (θ_run defs _ _).mono (fun r h c => ?_) (Value.run (F := Ideal) m ρ)
  obtain ⟨h1, h2, h3⟩ := h c
  refine ⟨h1.trans ?_, h2, h3⟩
  funext j
  obtain ⟨r, q, rfl⟩ : ∃ (r : Fin 4096) (q : Fin 2048), j = ix2 r q := ⟨j 0, j 1, funext fun b => by fin_cases b <;> rfl⟩
  have hd := dot_eq (m ((c : Thread nD τ).loc main_arg0)) (m ((c : Thread nD τ).loc main_arg1)) r q
  unfold RingProof.refV
  refine Eq.trans ?_ (congrArg RingProof.gelu hd)
  exact RingProof.ref_gelu _

end Cert.RefProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel terminates, its arguments unchanged and its counters at zero: the run proved of `KernelIdeal` at any
    floats, taken at the bit-exact ones. -/
theorem frame_kernel : Cert.quiescent_Kernel := fun m ρ _ => RingProof.run_kernel m ρ

/-- The same of the kernel over the reals. -/
theorem frame_kernelIdeal : Cert.quiescent_KernelIdeal := fun m ρ _ =>
  (θ_run Cert.KernelIdeal.defs _ _).mono (fun _ h => ⟨fun c => (h.1 c).2, h.2⟩) (RingProof.run_main (F := Ideal) m ρ)

/-- The reference's run, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals, every device's result is the reference's whole one, when the devices hold the blocks of the reference's
    arguments. -/
theorem algebraic : Cert.algebraic_KernelIdeal_ReferenceIdeal := fun m g m' g' _ hb => by
  refine ⟨RingProof.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_,
    (θ_run Cert.ReferenceIdeal.defs _ _).mono (fun r h => h 0) (RefProof.run_ref m' g')⟩
  refine (θ_run Cert.KernelIdeal.defs _ _).mono (fun r h c => ?_) (RingProof.run_main (F := Ideal) m g)
  obtain ⟨ho, h0, h1⟩ := h.1 c
  refine ⟨(RingProof.out_eq m c _ ho).trans ?_, h0, h1⟩
  funext j
  exact congrArg RingProof.gelu (RingProof.sum_blocks m _ _ (fun c => (hb c).1) (fun c => (hb c).2) (j 0) (j 1))

/-- All the claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof
